-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Reference (m : (ℓ : Loc Cert.Reference.nD Cert.Reference.τ Cert.Reference.sig) → Buf (Elt Bits) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel13 [hPre_first_in_range : Cert.Pre_first_in_range.Facts] (m : (ℓ : Loc Cert.Kernel13.nD Cert.Kernel13.τ Cert.Kernel13.sig) → Buf (Elt Bits) ℓ) : Prop :=
  ∀ c : Dev Cert.Kernel13.nD,
    (Cert.Pre_first_in_range.fn (F := Bits) (m ((c.tc : Thread Cert.Kernel13.nD Cert.Kernel13.τ).loc Cert.Kernel13.main_arg0)) (m ((c.tc : Thread Cert.Kernel13.nD Cert.Kernel13.τ).loc Cert.Kernel13.main_arg1)) (m ((c.tc : Thread Cert.Kernel13.nD Cert.Kernel13.τ).loc Cert.Kernel13.main_arg2))) = (fun _ => 1#1)

def Pre_Kernel13Ideal [hPre_first_in_range : Cert.Pre_first_in_range.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_first_in_range.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel13 [hKernel13 : Cert.Kernel13.Facts] [hPre_first_in_range : Cert.Pre_first_in_range.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2))
      ∧ r.2.sem = fun _ => 0)

def quiescent_Kernel13Ideal [hKernel13Ideal : Cert.Kernel13Ideal.Facts] [hPre_first_in_range : Cert.Pre_first_in_range.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_v5) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def bitexact_Kernel_Reference [hKernel : Cert.Kernel.Facts] [hReference : Cert.Reference.Facts] : Prop :=
  ∀ (m : (ℓ : Loc Cert.Kernel.nD Cert.Kernel.τ Cert.Kernel.sig) → Buf (Elt Bits) ℓ) (g : Dev Cert.Kernel.nD → PrngReg)
    (m' : (ℓ : Loc Cert.Reference.nD Cert.Reference.τ Cert.Reference.sig) → Buf (Elt Bits) ℓ) (g' : Dev Cert.Reference.nD → PrngReg), Pre_Kernel m →
    (∀ c : Dev Cert.Kernel.nD,
      m' ((c.tc : Thread Cert.Reference.nD Cert.Reference.τ).loc Cert.Reference.main_arg0) = m ((c.tc : Thread Cert.Kernel.nD Cert.Kernel.τ).loc Cert.Kernel.main_arg0)) →
    ∃ (v0 : (c : Dev Cert.Kernel.nD) → Buf (Elt Bits) ((c.tc : Thread Cert.Kernel.nD Cert.Kernel.τ).loc Cert.Kernel.main_v1_0)) (v1 : (c : Dev Cert.Kernel.nD) → Buf (Elt Bits) ((c.tc : Thread Cert.Kernel.nD Cert.Kernel.τ).loc Cert.Kernel.main_v1_1)),
      θ_run (Cert.Kernel.defs (F := Bits)) (onTc (τ := Cert.Kernel.τ) (Cert.Kernel.main (F := Bits))) ⟨m, fun _ => 0, g⟩ (fun r => ∀ c : Dev Cert.Kernel.nD,
          r.2.mem ((c.tc : Thread Cert.Kernel.nD Cert.Kernel.τ).loc Cert.Kernel.main_v1_0) = v0 c
          ∧ r.2.mem ((c.tc : Thread Cert.Kernel.nD Cert.Kernel.τ).loc Cert.Kernel.main_v1_1) = v1 c
          ∧ r.2.mem ((c.tc : Thread Cert.Kernel.nD Cert.Kernel.τ).loc Cert.Kernel.main_arg0) = m ((c.tc : Thread Cert.Kernel.nD Cert.Kernel.τ).loc Cert.Kernel.main_arg0))
      ∧ θ_run (Cert.Reference.defs (F := Bits)) (onTc (τ := Cert.Reference.τ) (Cert.Reference.main (F := Bits))) ⟨m', fun _ => 0, g'⟩ (fun r => ∀ c : Dev Cert.Reference.nD,
          r.2.mem ((c.tc : Thread Cert.Reference.nD Cert.Reference.τ).loc Cert.Reference.main_v3) = v0 c
          ∧ r.2.mem ((c.tc : Thread Cert.Reference.nD Cert.Reference.τ).loc Cert.Reference.main_v5) = v1 c
          ∧ r.2.mem ((c.tc : Thread Cert.Reference.nD Cert.Reference.τ).loc Cert.Reference.main_arg0) = m' ((c.tc : Thread Cert.Reference.nD Cert.Reference.τ).loc Cert.Reference.main_arg0))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v6)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v6) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v2_0)) (v1 : (c : Dev Cert.Kernel3Ideal.nD) → Buf (Elt Ideal) ((c.tc : Thread Cert.Kernel3Ideal.nD Cert.Kernel3Ideal.τ).loc Cert.Kernel3Ideal.main_v2_1)) (v2 : (c : Dev Cert.Kernel3Ideal.nD) → Buf (Elt Ideal) ((c.tc : Thread Cert.Kernel3Ideal.nD Cert.Kernel3Ideal.τ).loc Cert.Kernel3Ideal.main_v2_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2_0) = v0 c
          ∧ r.2.mem ((c.tc : Thread Cert.Kernel3Ideal.nD Cert.Kernel3Ideal.τ).loc Cert.Kernel3Ideal.main_v2_1) = v1 c
          ∧ r.2.mem ((c.tc : Thread Cert.Kernel3Ideal.nD Cert.Kernel3Ideal.τ).loc Cert.Kernel3Ideal.main_v2_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v4) = v0 c
          ∧ r.2.mem ((c.tc : Thread Cert.Reference3Ideal.nD Cert.Reference3Ideal.τ).loc Cert.Reference3Ideal.main_v10) = v1 c
          ∧ r.2.mem ((c.tc : Thread Cert.Reference3Ideal.nD Cert.Reference3Ideal.τ).loc Cert.Reference3Ideal.main_v13) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v2_0)) (v1 : (c : Dev Cert.Kernel4Ideal.nD) → Buf (Elt Ideal) ((c.tc : Thread Cert.Kernel4Ideal.nD Cert.Kernel4Ideal.τ).loc Cert.Kernel4Ideal.main_v2_1)) (v2 : (c : Dev Cert.Kernel4Ideal.nD) → Buf (Elt Ideal) ((c.tc : Thread Cert.Kernel4Ideal.nD Cert.Kernel4Ideal.τ).loc Cert.Kernel4Ideal.main_v2_2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2_0) = v0 c
          ∧ r.2.mem ((c.tc : Thread Cert.Kernel4Ideal.nD Cert.Kernel4Ideal.τ).loc Cert.Kernel4Ideal.main_v2_1) = v1 c
          ∧ r.2.mem ((c.tc : Thread Cert.Kernel4Ideal.nD Cert.Kernel4Ideal.τ).loc Cert.Kernel4Ideal.main_v2_2) = v2 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_v10) = v1 c
          ∧ r.2.mem ((c.tc : Thread Cert.Reference4Ideal.nD Cert.Reference4Ideal.τ).loc Cert.Reference4Ideal.main_v13) = v2 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v8)) (v1 : (c : Dev Cert.Kernel5Ideal.nD) → Buf (Elt Ideal) ((c.tc : Thread Cert.Kernel5Ideal.nD Cert.Kernel5Ideal.τ).loc Cert.Kernel5Ideal.main_v9)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_v9) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v26) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v82) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)) →
    ∃ (v0 : (c : Dev Cert.Kernel7Ideal.nD) → Buf (Elt Ideal) ((c.tc : Thread Cert.Kernel7Ideal.nD Cert.Kernel7Ideal.τ).loc Cert.Kernel7Ideal.main_v15_0)) (v1 : (c : Dev Cert.Kernel7Ideal.nD) → Buf (Elt Ideal) ((c.tc : Thread Cert.Kernel7Ideal.nD Cert.Kernel7Ideal.τ).loc Cert.Kernel7Ideal.main_v15_1)) (v2 : (c : Dev Cert.Kernel7Ideal.nD) → Buf (Elt Ideal) ((c.tc : Thread Cert.Kernel7Ideal.nD Cert.Kernel7Ideal.τ).loc Cert.Kernel7Ideal.main_v15_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v15_0) = v0 c
          ∧ r.2.mem ((c.tc : Thread Cert.Kernel7Ideal.nD Cert.Kernel7Ideal.τ).loc Cert.Kernel7Ideal.main_v15_1) = v1 c
          ∧ r.2.mem ((c.tc : Thread Cert.Kernel7Ideal.nD Cert.Kernel7Ideal.τ).loc Cert.Kernel7Ideal.main_v15_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v33) = v0 c
          ∧ r.2.mem ((c.tc : Thread Cert.Reference7Ideal.nD Cert.Reference7Ideal.τ).loc Cert.Reference7Ideal.main_v39) = v1 c
          ∧ r.2.mem ((c.tc : Thread Cert.Reference7Ideal.nD Cert.Reference7Ideal.τ).loc Cert.Reference7Ideal.main_v42) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v4)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v4) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v12) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel13_Kernel13Ideal : Prop :=
  True

def Claim : Prop :=
  ∃ (hKernel : Cert.Kernel.Facts) (hKernelIdeal : Cert.KernelIdeal.Facts) (hReferenceIdeal : Cert.ReferenceIdeal.Facts) (hReference : Cert.Reference.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel13 : Cert.Kernel13.Facts) (hKernel13Ideal : Cert.Kernel13Ideal.Facts) (hPre_first_in_range : Cert.Pre_first_in_range.Facts),
    quiescent_Kernel (hKernel := hKernel)
    ∧ quiescent_KernelIdeal (hKernelIdeal := hKernelIdeal)
    ∧ quiescent_ReferenceIdeal (hReferenceIdeal := hReferenceIdeal)
    ∧ quiescent_Reference (hReference := hReference)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel13 (hKernel13 := hKernel13) (hPre_first_in_range := hPre_first_in_range)
    ∧ quiescent_Kernel13Ideal (hKernel13Ideal := hKernel13Ideal) (hPre_first_in_range := hPre_first_in_range)
    ∧ preserves_Kernel_KernelIdeal
    ∧ algebraic_KernelIdeal_ReferenceIdeal (hKernelIdeal := hKernelIdeal) (hReferenceIdeal := hReferenceIdeal)
    ∧ bitexact_Kernel_Reference (hKernel := hKernel) (hReference := hReference)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel13_Kernel13Ideal
-- ==== Pre_first_in_range.lean ====
abbrev S16384x4096 : Shape := ⟨2, ![16384, 4096]⟩
abbrev S16384x384 : Shape := ⟨2, ![16384, 384]⟩
abbrev S256 : Shape := ⟨1, ![256]⟩
abbrev S8x32 : Shape := ⟨2, ![8, 32]⟩
abbrev S_ : Shape := ⟨0, ![]⟩
abbrev S32 : Shape := ⟨1, ![32]⟩
abbrev S1x32 : Shape := ⟨2, ![1, 32]⟩

class Facts : Prop where
  shapeCasts_S256_S8x32 : S256.ShapeCasts S8x32
  bcast_S_S8x32 : S_.BroadcastsInDim S8x32 (![] : Fin 0 → Fin S8x32.rank)
  bcast_S32_S1x32_1 : S32.BroadcastsInDim S1x32 (![1] : Fin 1 → Fin S1x32.rank)
  bcast_S1x32_S8x32_0_1 : S1x32.BroadcastsInDim S8x32 (![0, 1] : Fin 2 → Fin S8x32.rank)

variable [Facts]

def fn {F : FTy → Type} [FloatOps F] (main_arg0 : FVec F S16384x4096 .bf16) (main_arg1 : FVec F S16384x384 .bf16) (main_arg2 : IVec S256 32) : IVec S8x32 1 :=
  let main_v0 : IVec S8x32 32 := shapeCast S8x32 main_arg2 shapeCasts_S256_S8x32
  let main_c : IVec S_ 32 := constantI S_ 32 0#32
  let main_v1 : IVec S8x32 32 := broadcastInDim S8x32 ![] bcast_S_S8x32 main_c
  let main_v2 : IVec S8x32 1 := cmpi .sge main_v0 main_v1
  let main_v3 : IVec S32 32 := iotaInDim S32 32 0
  let main_v4 : IVec S1x32 32 := broadcastInDim S1x32 ![1] bcast_S32_S1x32_1 main_v3
  let main_v5 : IVec S8x32 32 := broadcastInDim S8x32 ![0, 1] bcast_S1x32_S8x32_0_1 main_v4
  let main_v6 : IVec S8x32 1 := cmpi .sle main_v0 main_v5
  let main_v7 : IVec S8x32 1 := andi main_v2 main_v6
  main_v7
-- ==== Kernel.lean ====
abbrev S4x4096x8200 : Shape := ⟨3, ![4, 4096, 8200]⟩
abbrev S4x8200x4096 : Shape := ⟨3, ![4, 8200, 4096]⟩
abbrev S4x4096x4096 : Shape := ⟨3, ![4, 4096, 4096]⟩
abbrev S1x256x4096 : Shape := ⟨3, ![1, 256, 4096]⟩
abbrev S256x4096 : Shape := ⟨2, ![256, 4096]⟩

abbrev nBuf : Space → Nat
  | .hbm => 4
  | .vmem => 8
  | .smem => 0
  | _ => 0

abbrev bufTy : (tb : Table) → Fin (tcTables nBuf tb) → BufTy
  | .hbm, ⟨0, _⟩ => ⟨S4x4096x8200, .f32⟩
  | .hbm, ⟨1, _⟩ => ⟨S4x8200x4096, .f32⟩
  | .hbm, ⟨2, _⟩ => ⟨S4x4096x4096, .bf16⟩
  | .hbm, ⟨3, _⟩ => ⟨S4x4096x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x256x4096, .f32⟩
  | .local _ .vmem, ⟨3, _⟩ => ⟨S1x256x4096, .f32⟩
  | .local _ .vmem, ⟨4, _⟩ => ⟨S1x256x4096, .bf16⟩
  | .local _ .vmem, ⟨5, _⟩ => ⟨S1x256x4096, .bf16⟩
  | .local _ .vmem, ⟨6, _⟩ => ⟨S1x256x4096, .bf16⟩
  | .local _ .vmem, ⟨7, _⟩ => ⟨S1x256x4096, .bf16⟩
  | _, _ => ⟨S4x4096x8200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1_0 : Ref sig .tc := ⟨.hbm, 2, rfl⟩
abbrev main_v1_1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let c4104_i32 : BitVec 32 := 4104#32
  let arg1 : BitVec 32 := BitVec.ofNat 32 (i 1).val
  let c256_i32 : BitVec 32 := 256#32
  let v0 : BitVec 32 := Scalar.muli arg1 c256_i32
  let v1 : BitVec 32 := Scalar.addi c4104_i32 v0
  v1
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c256_i32 : BitVec 32 := 256#32
  let v0 : BitVec 32 := Scalar.muli arg1 c256_i32
  let c4104_i32 : BitVec 32 := 4104#32
  let v1 : BitVec 32 := Scalar.addi c4104_i32 v0
  let v2 : BitVec 32 := v1
  let c0_i32 : BitVec 32 := 0#32
  let c0_i32_0 : BitVec 32 := 0#32
  ![arg0.toNat, v2.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference.lean ====
abbrev S4x4096x8200 : Shape := ⟨3, ![4, 4096, 8200]⟩
abbrev S4x4096x4096 : Shape := ⟨3, ![4, 4096, 4096]⟩

abbrev nBuf : Space → Nat
  | .hbm => 7
  | .vmem => 0
  | .smem => 0
  | _ => 0

abbrev bufTy : (tb : Table) → Fin (tcTables nBuf tb) → BufTy
  | .hbm, ⟨0, _⟩ => ⟨S4x4096x8200, .f32⟩
  | .hbm, ⟨1, _⟩ => ⟨S4x4096x4096, .f32⟩
  | .hbm, ⟨2, _⟩ => ⟨S4x4096x4096, .f32⟩
  | .hbm, ⟨3, _⟩ => ⟨S4x4096x4096, .f32⟩
  | .hbm, ⟨4, _⟩ => ⟨S4x4096x4096, .bf16⟩
  | .hbm, ⟨5, _⟩ => ⟨S4x4096x4096, .f32⟩
  | .hbm, ⟨6, _⟩ => ⟨S4x4096x4096, .bf16⟩
  | _, _ => ⟨S4x4096x8200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩

abbrev nD : Nat := 1
abbrev τ : Topo := Topo.v7x

variable {F : FTy → Type} [FloatOps F]
-- ==== Kernel2.lean ====
abbrev S16384x4096 : Shape := ⟨2, ![16384, 4096]⟩
abbrev S4x4096 : Shape := ⟨2, ![4, 4096]⟩
abbrev S4x4096x11008 : Shape := ⟨3, ![4, 4096, 11008]⟩
abbrev S1x4096 : Shape := ⟨2, ![1, 4096]⟩
abbrev S4096 : Shape := ⟨1, ![4096]⟩
abbrev S16384x1 : Shape := ⟨2, ![16384, 1]⟩
abbrev S256x4096 : Shape := ⟨2, ![256, 4096]⟩
abbrev S256x1 : Shape := ⟨2, ![256, 1]⟩
abbrev S256 : Shape := ⟨1, ![256]⟩
abbrev S16384x11008 : Shape := ⟨2, ![16384, 11008]⟩
abbrev S1024x4096 : Shape := ⟨2, ![1024, 4096]⟩
abbrev S1024x1 : Shape := ⟨2, ![1024, 1]⟩
abbrev S1x4096x256 : Shape := ⟨3, ![1, 4096, 256]⟩
abbrev S1024x256 : Shape := ⟨2, ![1024, 256]⟩
abbrev S4096x256 : Shape := ⟨2, ![4096, 256]⟩

abbrev nBuf : Space → Nat
  | .hbm => 12
  | .vmem => 17
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x11008, .f32⟩
  | .hbm, ⟨3, _⟩ => ⟨S4x4096x11008, .f32⟩
  | .hbm, ⟨4, _⟩ => ⟨S1x4096, .f32⟩
  | .hbm, ⟨5, _⟩ => ⟨S4096, .f32⟩
  | .hbm, ⟨6, _⟩ => ⟨S1x4096, .f32⟩
  | .hbm, ⟨7, _⟩ => ⟨S16384x4096, .bf16⟩
  | .hbm, ⟨8, _⟩ => ⟨S16384x1, .f32⟩
  | .hbm, ⟨9, _⟩ => ⟨S4x4096x11008, .bf16⟩
  | .hbm, ⟨10, _⟩ => ⟨S4x4096x11008, .bf16⟩
  | .hbm, ⟨11, _⟩ => ⟨S16384x11008, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S256x1, .f32⟩
  | .local _ .vmem, ⟨6, _⟩ => ⟨S256x1, .f32⟩
  | .local _ .vmem, ⟨7, _⟩ => ⟨S1024x4096, .bf16⟩
  | .local _ .vmem, ⟨8, _⟩ => ⟨S1024x4096, .bf16⟩
  | .local _ .vmem, ⟨9, _⟩ => ⟨S1024x1, .f32⟩
  | .local _ .vmem, ⟨10, _⟩ => ⟨S1024x1, .f32⟩
  | .local _ .vmem, ⟨11, _⟩ => ⟨S1x4096x256, .bf16⟩
  | .local _ .vmem, ⟨12, _⟩ => ⟨S1x4096x256, .bf16⟩
  | .local _ .vmem, ⟨13, _⟩ => ⟨S1x4096x256, .bf16⟩
  | .local _ .vmem, ⟨14, _⟩ => ⟨S1x4096x256, .bf16⟩
  | .local _ .vmem, ⟨15, _⟩ => ⟨S1024x256, .bf16⟩
  | .local _ .vmem, ⟨16, _⟩ => ⟨S1024x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 43], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x4096x256 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x4096x256 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x256 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]
-- ==== Reference2Ideal.lean ====
abbrev S16384x4096 : Shape := ⟨2, ![16384, 4096]⟩
abbrev S4x4096 : Shape := ⟨2, ![4, 4096]⟩
abbrev S4x4096x11008 : Shape := ⟨3, ![4, 4096, 11008]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x11008 : Shape := ⟨3, ![1, 4096, 11008]⟩
abbrev S4096x11008 : Shape := ⟨2, ![4096, 11008]⟩
abbrev S16384x11008 : Shape := ⟨2, ![16384, 11008]⟩

abbrev nBuf : Space → Nat
  | .hbm => 39
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x11008, .f32⟩
  | .hbm, ⟨3, _⟩ => ⟨S4x4096x11008, .f32⟩
  | .hbm, ⟨4, _⟩ => ⟨S1x4096, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S1x4096x11008, .f32⟩
  | .hbm, ⟨23, _⟩ => ⟨S4096x11008, .f32⟩
  | .hbm, ⟨24, _⟩ => ⟨S16384x11008, .f32⟩
  | .hbm, ⟨25, _⟩ => ⟨S16384x11008, .f32⟩
  | .hbm, ⟨26, _⟩ => ⟨S16384x11008, .f32⟩
  | .hbm, ⟨27, _⟩ => ⟨S_, .f32⟩
  | .hbm, ⟨28, _⟩ => ⟨S16384x11008, .f32⟩
  | .hbm, ⟨29, _⟩ => ⟨S16384x11008, .f32⟩
  | .hbm, ⟨30, _⟩ => ⟨S_, .f32⟩
  | .hbm, ⟨31, _⟩ => ⟨S16384x11008, .f32⟩
  | .hbm, ⟨32, _⟩ => ⟨S16384x11008, .f32⟩
  | .hbm, ⟨33, _⟩ => ⟨S16384x11008, .f32⟩
  | .hbm, ⟨34, _⟩ => ⟨S1x4096x11008, .f32⟩
  | .hbm, ⟨35, _⟩ => ⟨S4096x11008, .f32⟩
  | .hbm, ⟨36, _⟩ => ⟨S16384x11008, .f32⟩
  | .hbm, ⟨37, _⟩ => ⟨S16384x11008, .f32⟩
  | .hbm, ⟨38, _⟩ => ⟨S16384x11008, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_call0_v0 : Ref sig .tc := ⟨.hbm, 25, rfl⟩
abbrev main_call0_v1 : Ref sig .tc := ⟨.hbm, 26, rfl⟩
abbrev main_call0_cst : Ref sig .tc := ⟨.hbm, 27, rfl⟩
abbrev main_call0_v2 : Ref sig .tc := ⟨.hbm, 28, rfl⟩
abbrev main_call0_v3 : Ref sig .tc := ⟨.hbm, 29, rfl⟩
abbrev main_call0_cst_0 : Ref sig .tc := ⟨.hbm, 30, rfl⟩
abbrev main_call0_v4 : Ref sig .tc := ⟨.hbm, 31, rfl⟩
abbrev main_call0_v5 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩

abbrev nD : Nat := 1
abbrev τ : Topo := Topo.v7x

variable {F : FTy → Type} [FloatOps F]
-- ==== Kernel3.lean ====
abbrev S16384x11008 : Shape := ⟨2, ![16384, 11008]⟩
abbrev S4x11008x4096 : Shape := ⟨3, ![4, 11008, 4096]⟩
abbrev S16384x4096 : Shape := ⟨2, ![16384, 4096]⟩
abbrev S4x4096 : Shape := ⟨2, ![4, 4096]⟩
abbrev S4x1x4096 : Shape := ⟨3, ![4, 1, 4096]⟩
abbrev S16384x1 : Shape := ⟨2, ![16384, 1]⟩
abbrev S512x11008 : Shape := ⟨2, ![512, 11008]⟩
abbrev S1x11008x512 : Shape := ⟨3, ![1, 11008, 512]⟩
abbrev S512x512 : Shape := ⟨2, ![512, 512]⟩
abbrev S1x1x512 : Shape := ⟨3, ![1, 1, 512]⟩
abbrev S512x1 : Shape := ⟨2, ![512, 1]⟩
abbrev S11008x512 : Shape := ⟨2, ![11008, 512]⟩
abbrev S1x512 : Shape := ⟨2, ![1, 512]⟩
abbrev S512 : Shape := ⟨1, ![512]⟩

abbrev nBuf : Space → Nat
  | .hbm => 9
  | .vmem => 14
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S16384x4096, .f32⟩
  | .hbm, ⟨3, _⟩ => ⟨S4x4096, .f32⟩
  | .hbm, ⟨4, _⟩ => ⟨S4x11008x4096, .bf16⟩
  | .hbm, ⟨5, _⟩ => ⟨S4x1x4096, .f32⟩
  | .hbm, ⟨6, _⟩ => ⟨S16384x4096, .f32⟩
  | .hbm, ⟨7, _⟩ => ⟨S16384x4096, .bf16⟩
  | .hbm, ⟨8, _⟩ => ⟨S16384x1, .f32⟩
  | .local _ .vmem, ⟨0, _⟩ => ⟨S512x11008, .bf16⟩
  | .local _ .vmem, ⟨1, _⟩ => ⟨S512x11008, .bf16⟩
  | .local _ .vmem, ⟨2, _⟩ => ⟨S1x11008x512, .bf16⟩
  | .local _ .vmem, ⟨3, _⟩ => ⟨S1x11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S512x1, .f32⟩
  | .local _ .vmem, ⟨13, _⟩ => ⟨S512x1, .f32⟩
  | _, _ => ⟨S16384x11008, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![32, 8], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_14 : BitVec 32 := 0#32
  let v18 : BitVec 1 := Scalar.cmpi .ne v17 c0_i32_14
  v18

def k0_cond2 (i : grid0.Coords) : BitVec 1 :=
  let arg1 : BitVec 32 := BitVec.ofNat 32 (i 1).val
  let c0_i32_15 : BitVec 32 := 0#32
  let v19 : BitVec 1 := Scalar.cmpi .sgt arg1 c0_i32_15
  let v20 : BitVec 32 := Scalar.extui v19
  let c0_i32_16 : BitVec 32 := 0#32
  let v21 : BitVec 1 := Scalar.cmpi .ne v20 c0_i32_16
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S512x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference3Ideal.lean ====
abbrev S16384x11008 : Shape := ⟨2, ![16384, 11008]⟩
abbrev S4x11008x4096 : Shape := ⟨3, ![4, 11008, 4096]⟩
abbrev S16384x4096 : Shape := ⟨2, ![16384, 4096]⟩
abbrev S4x4096 : Shape := ⟨2, ![4, 4096]⟩
abbrev S1x11008x4096 : Shape := ⟨3, ![1, 11008, 4096]⟩
abbrev S11008x4096 : Shape := ⟨2, ![11008, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x11008, .bf16⟩
  | .hbm, ⟨1, _⟩ => ⟨S4x11008x4096, .f32⟩
  | .hbm, ⟨2, _⟩ => ⟨S16384x4096, .f32⟩
  | .hbm, ⟨3, _⟩ => ⟨S4x4096, .f32⟩
  | .hbm, ⟨4, _⟩ => ⟨S16384x11008, .f32⟩
  | .hbm, ⟨5, _⟩ => ⟨S1x11008x4096, .f32⟩
  | .hbm, ⟨6, _⟩ => ⟨S11008x4096, .f32⟩
  | .hbm, ⟨7, _⟩ => ⟨S16384x4096, .f32⟩
  | .hbm, ⟨8, _⟩ => ⟨S16384x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | _, _ => ⟨S16384x11008, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel4.lean ====
abbrev S16384x4096 : Shape := ⟨2, ![16384, 4096]⟩
abbrev S4x4096x4096 : Shape := ⟨3, ![4, 4096, 4096]⟩
abbrev S4x4096 : Shape := ⟨2, ![4, 4096]⟩
abbrev S4x1x4096 : Shape := ⟨3, ![4, 1, 4096]⟩
abbrev S16384x1 : Shape := ⟨2, ![16384, 1]⟩
abbrev S1024x4096 : Shape := ⟨2, ![1024, 4096]⟩
abbrev S1x4096x512 : Shape := ⟨3, ![1, 4096, 512]⟩
abbrev S1024x512 : Shape := ⟨2, ![1024, 512]⟩
abbrev S1x1x512 : Shape := ⟨3, ![1, 1, 512]⟩
abbrev S1024x1 : Shape := ⟨2, ![1024, 1]⟩
abbrev S4096x512 : Shape := ⟨2, ![4096, 512]⟩
abbrev S1x512 : Shape := ⟨2, ![1, 512]⟩
abbrev S1024 : Shape := ⟨1, ![1024]⟩

abbrev nBuf : Space → Nat
  | .hbm => 9
  | .vmem => 14
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S4x4096, .f32⟩
  | .hbm, ⟨4, _⟩ => ⟨S4x4096x4096, .bf16⟩
  | .hbm, ⟨5, _⟩ => ⟨S4x1x4096, .f32⟩
  | .hbm, ⟨6, _⟩ => ⟨S16384x4096, .f32⟩
  | .hbm, ⟨7, _⟩ => ⟨S16384x4096, .bf16⟩
  | .hbm, ⟨8, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S1x4096x512, .bf16⟩
  | .local _ .vmem, ⟨3, _⟩ => ⟨S1x4096x512, .bf16⟩
  | .local _ .vmem, ⟨4, _⟩ => ⟨S1024x512, .f32⟩
  | .local _ .vmem, ⟨5, _⟩ => ⟨S1024x512, .f32⟩
  | .local _ .vmem, ⟨6, _⟩ => ⟨S1x1x512, .f32⟩
  | .local _ .vmem, ⟨7, _⟩ => ⟨S1x1x512, .f32⟩
  | .local _ .vmem, ⟨8, _⟩ => ⟨S1024x512, .f32⟩
  | .local _ .vmem, ⟨9, _⟩ => ⟨S1024x512, .f32⟩
  | .local _ .vmem, ⟨10, _⟩ => ⟨S1024x512, .bf16⟩
  | .local _ .vmem, ⟨11, _⟩ => ⟨S1024x512, .bf16⟩
  | .local _ .vmem, ⟨12, _⟩ => ⟨S1024x1, .f32⟩
  | .local _ .vmem, ⟨13, _⟩ => ⟨S1024x1, .f32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v2_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![16, 8], ![false, false]⟩

def k0_cond1 (i : grid0.Coords) : BitVec 1 :=
  let arg1 : BitVec 32 := BitVec.ofNat 32 (i 1).val
  let c0_i32 : BitVec 32 := 0#32
  let v16 : BitVec 1 := Scalar.cmpi .eq arg1 c0_i32
  let v17 : BitVec 32 := Scalar.extui v16
  let c0_i32_14 : BitVec 32 := 0#32
  let v18 : BitVec 1 := Scalar.cmpi .ne v17 c0_i32_14
  v18

def k0_cond2 (i : grid0.Coords) : BitVec 1 :=
  let arg1 : BitVec 32 := BitVec.ofNat 32 (i 1).val
  let c0_i32_15 : BitVec 32 := 0#32
  let v19 : BitVec 1 := Scalar.cmpi .sgt arg1 c0_i32_15
  let v20 : BitVec 32 := Scalar.extui v19
  let c0_i32_16 : BitVec 32 := 0#32
  let v21 : BitVec 1 := Scalar.cmpi .ne v20 c0_i32_16
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference4Ideal.lean ====
abbrev S16384x4096 : Shape := ⟨2, ![16384, 4096]⟩
abbrev S4x4096x4096 : Shape := ⟨3, ![4, 4096, 4096]⟩
abbrev S4x4096 : Shape := ⟨2, ![4, 4096]⟩
abbrev S1x4096x4096 : Shape := ⟨3, ![1, 4096, 4096]⟩
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩

abbrev nBuf : Space → Nat
  | .hbm => 19
  | .vmem => 0
  | .smem => 0
  | _ => 0

abbrev bufTy : (tb : Table) → Fin (tcTables nBuf tb) → BufTy
  | .hbm, ⟨0, _⟩ => ⟨S16384x4096, .bf16⟩
  | .hbm, ⟨1, _⟩ => ⟨S4x4096x4096, .f32⟩
  | .hbm, ⟨2, _⟩ => ⟨S16384x4096, .f32⟩
  | .hbm, ⟨3, _⟩ => ⟨S4x4096, .f32⟩
  | .hbm, ⟨4, _⟩ => ⟨S16384x4096, .f32⟩
  | .hbm, ⟨5, _⟩ => ⟨S1x4096x4096, .f32⟩
  | .hbm, ⟨6, _⟩ => ⟨S4096x4096, .f32⟩
  | .hbm, ⟨7, _⟩ => ⟨S16384x4096, .f32⟩
  | .hbm, ⟨8, _⟩ => ⟨S16384x4096, .f32⟩
  | .hbm, ⟨9, _⟩ => ⟨S1x4096, .f32⟩
  | .hbm, ⟨10, _⟩ => ⟨S4096, .f32⟩
  | .hbm, ⟨11, _⟩ => ⟨S1x4096, .f32⟩
  | .hbm, ⟨12, _⟩ => ⟨S16384x4096, .f32⟩
  | .hbm, ⟨13, _⟩ => ⟨S16384x4096, .f32⟩
  | .hbm, ⟨14, _⟩ => ⟨S16384x4096, .bf16⟩
  | .hbm, ⟨15, _⟩ => ⟨S16384x4096, .f32⟩
  | .hbm, ⟨16, _⟩ => ⟨S_, .f32⟩
  | .hbm, ⟨17, _⟩ => ⟨S16384, .f32⟩
  | .hbm, ⟨18, _⟩ => ⟨S16384x1, .f32⟩
  | _, _ => ⟨S16384x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel5.lean ====
abbrev S16384x4096 : Shape := ⟨2, ![16384, 4096]⟩
abbrev S4x4096 : Shape := ⟨2, ![4, 4096]⟩
abbrev S4x4096x4096 : Shape := ⟨3, ![4, 4096, 4096]⟩
abbrev S_ : Shape := ⟨0, ![]⟩
abbrev S1x4096 : Shape := ⟨2, ![1, 4096]⟩
abbrev S1 : Shape := ⟨1, ![1]⟩
abbrev S1x1024 : Shape := ⟨2, ![1, 1024]⟩
abbrev S4096 : Shape := ⟨1, ![4096]⟩
abbrev S16384x1 : Shape := ⟨2, ![16384, 1]⟩
abbrev S256x4096 : Shape := ⟨2, ![256, 4096]⟩
abbrev S256x1 : Shape := ⟨2, ![256, 1]⟩
abbrev S256 : Shape := ⟨1, ![256]⟩
abbrev S1024x4096 : Shape := ⟨2, ![1024, 4096]⟩
abbrev S1024x1 : Shape := ⟨2, ![1024, 1]⟩
abbrev S1x1024x4096 : Shape := ⟨3, ![1, 1024, 4096]⟩
abbrev S1024x1024 : Shape := ⟨2, ![1024, 1024]⟩

abbrev nBuf : Space → Nat
  | .hbm => 18
  | .vmem => 27
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x4096, .bf16⟩
  | .hbm, ⟨3, _⟩ => ⟨S4x4096x4096, .bf16⟩
  | .hbm, ⟨4, _⟩ => ⟨S_, .f32⟩
  | .hbm, ⟨5, _⟩ => ⟨S1x4096, .f32⟩
  | .hbm, ⟨6, _⟩ => ⟨S_, .i32⟩
  | .hbm, ⟨7, _⟩ => ⟨S1, .i32⟩
  | .hbm, ⟨8, _⟩ => ⟨S_, .f32⟩
  | .hbm, ⟨9, _⟩ => ⟨S1x1024, .f32⟩
  | .hbm, ⟨10, _⟩ => ⟨S1x4096, .f32⟩
  | .hbm, ⟨11, _⟩ => ⟨S1x4096, .f32⟩
  | .hbm, ⟨12, _⟩ => ⟨S4096, .f32⟩
  | .hbm, ⟨13, _⟩ => ⟨S1x4096, .f32⟩
  | .hbm, ⟨14, _⟩ => ⟨S16384x4096, .bf16⟩
  | .hbm, ⟨15, _⟩ => ⟨S16384x1, .f32⟩
  | .hbm, ⟨16, _⟩ => ⟨S16384x4096, .bf16⟩
  | .hbm, ⟨17, _⟩ => ⟨S16384x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S256x4096, .bf16⟩
  | .local _ .vmem, ⟨4, _⟩ => ⟨S256x4096, .bf16⟩
  | .local _ .vmem, ⟨5, _⟩ => ⟨S256x1, .f32⟩
  | .local _ .vmem, ⟨6, _⟩ => ⟨S256x1, .f32⟩
  | .local _ .vmem, ⟨7, _⟩ => ⟨S1024x4096, .bf16⟩
  | .local _ .vmem, ⟨8, _⟩ => ⟨S1024x4096, .bf16⟩
  | .local _ .vmem, ⟨9, _⟩ => ⟨S1024x1, .f32⟩
  | .local _ .vmem, ⟨10, _⟩ => ⟨S1024x1, .f32⟩
  | .local _ .vmem, ⟨11, _⟩ => ⟨S1x1024x4096, .bf16⟩
  | .local _ .vmem, ⟨12, _⟩ => ⟨S1x1024x4096, .bf16⟩
  | .local _ .vmem, ⟨13, _⟩ => ⟨S1x1024, .f32⟩
  | .local _ .vmem, ⟨14, _⟩ => ⟨S1x1024, .f32⟩
  | .local _ .vmem, ⟨15, _⟩ => ⟨S1024x1024, .bf16⟩
  | .local _ .vmem, ⟨16, _⟩ => ⟨S1024x1024, .bf16⟩
  | .local _ .vmem, ⟨17, _⟩ => ⟨S1024x4096, .bf16⟩
  | .local _ .vmem, ⟨18, _⟩ => ⟨S1024x4096, .bf16⟩
  | .local _ .vmem, ⟨19, _⟩ => ⟨S1024x1, .f32⟩
  | .local _ .vmem, ⟨20, _⟩ => ⟨S1024x1, .f32⟩
  | .local _ .vmem, ⟨21, _⟩ => ⟨S1x1024x4096, .bf16⟩
  | .local _ .vmem, ⟨22, _⟩ => ⟨S1x1024x4096, .bf16⟩
  | .local _ .vmem, ⟨23, _⟩ => ⟨S1x1024, .f32⟩
  | .local _ .vmem, ⟨24, _⟩ => ⟨S1x1024, .f32⟩
  | .local _ .vmem, ⟨25, _⟩ => ⟨S1024x1024, .bf16⟩
  | .local _ .vmem, ⟨26, _⟩ => ⟨S1024x1024, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  ofTc nBuf bufTy 0 27 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg3_1 : Ref sig .tc := ⟨.vmem, 14, rfl⟩
abbrev cc1_stg4_0 : Ref sig .tc := ⟨.vmem, 15, rfl⟩
abbrev cc1_stg4_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg2_1 : Ref sig .tc := ⟨.vmem, 22, rfl⟩
abbrev cc2_stg3_0 : Ref sig .tc := ⟨.vmem, 23, rfl⟩
abbrev cc2_stg3_1 : Ref sig .tc := ⟨.vmem, 24, rfl⟩
abbrev cc2_stg4_0 : Ref sig .tc := ⟨.vmem, 25, rfl⟩
abbrev cc2_stg4_1 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem3_1 : DmaSem sig := 14
abbrev cc1_sem4_0 : DmaSem sig := 15
abbrev cc1_sem4_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem2_1 : DmaSem sig := 22
abbrev cc2_sem3_0 : DmaSem sig := 23
abbrev cc2_sem3_1 : DmaSem sig := 24
abbrev cc2_sem4_0 : DmaSem sig := 25
abbrev cc2_sem4_1 : DmaSem sig := 26

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨2, ![16, 4], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S1024x4096 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false]

abbrev stage1_2 : Fin 2 → Memref sig .tc .vmem S1x1024x4096 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![false, true]

abbrev stage1_3 : Fin 2 → Memref sig .tc .vmem S1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1024x1024 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, true]

abbrev grid2 : Pipeline.Grid := ⟨2, ![16, 4], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc2_transform_3 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S1024x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S1024x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, false]

abbrev stage2_2 : Fin 2 → Memref sig .tc .vmem S1x1024x4096 .bf16 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![false, true]

abbrev stage2_3 : Fin 2 → Memref sig .tc .vmem S1x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![false, true]

abbrev stage2_4 : Fin 2 → Memref sig .tc .vmem S1024x1024 .bf16 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true, true]
-- ==== Reference5Ideal.lean ====
abbrev S16384x4096 : Shape := ⟨2, ![16384, 4096]⟩
abbrev S4x4096 : Shape := ⟨2, ![4, 4096]⟩
abbrev S4x4096x4096 : Shape := ⟨3, ![4, 4096, 4096]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x4096 : Shape := ⟨3, ![1, 4096, 4096]⟩
abbrev S4096x4096 : Shape := ⟨2, ![4096, 4096]⟩
abbrev S16384x1024 : Shape := ⟨2, ![16384, 1024]⟩
abbrev S16384x2048 : Shape := ⟨2, ![16384, 2048]⟩

abbrev nBuf : Space → Nat
  | .hbm => 41
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x4096, .bf16⟩
  | .hbm, ⟨3, _⟩ => ⟨S4x4096x4096, .bf16⟩
  | .hbm, ⟨4, _⟩ => ⟨S1x4096, .f32⟩
  | .hbm, ⟨5, _⟩ => ⟨S4096, .f32⟩
  | .hbm, ⟨6, _⟩ => ⟨S16384x4096, .f32⟩
  | .hbm, ⟨7, _⟩ => ⟨S_, .f32⟩
  | .hbm, ⟨8, _⟩ => ⟨S16384, .f32⟩
  | .hbm, ⟨9, _⟩ => ⟨S16384x1, .f32⟩
  | .hbm, ⟨10, _⟩ => ⟨S_, .f32⟩
  | .hbm, ⟨11, _⟩ => ⟨S16384x1, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S16384x1, .f32⟩
  | .hbm, ⟨17, _⟩ => ⟨S16384x4096, .f32⟩
  | .hbm, ⟨18, _⟩ => ⟨S16384x4096, .f32⟩
  | .hbm, ⟨19, _⟩ => ⟨S1x4096, .f32⟩
  | .hbm, ⟨20, _⟩ => ⟨S16384x4096, .f32⟩
  | .hbm, ⟨21, _⟩ => ⟨S16384x4096, .f32⟩
  | .hbm, ⟨22, _⟩ => ⟨S1x4096x4096, .bf16⟩
  | .hbm, ⟨23, _⟩ => ⟨S4096x4096, .bf16⟩
  | .hbm, ⟨24, _⟩ => ⟨S4096x4096, .f32⟩
  | .hbm, ⟨25, _⟩ => ⟨S4096x4096, .f32⟩
  | .hbm, ⟨26, _⟩ => ⟨S16384x4096, .f32⟩
  | .hbm, ⟨27, _⟩ => ⟨S16384x1024, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x2048, .f32⟩
  | .hbm, ⟨33, _⟩ => ⟨S16384x4096, .f32⟩
  | .hbm, ⟨34, _⟩ => ⟨S16384x4096, .bf16⟩
  | .hbm, ⟨35, _⟩ => ⟨S1x4096x4096, .bf16⟩
  | .hbm, ⟨36, _⟩ => ⟨S4096x4096, .bf16⟩
  | .hbm, ⟨37, _⟩ => ⟨S4096x4096, .f32⟩
  | .hbm, ⟨38, _⟩ => ⟨S4096x4096, .f32⟩
  | .hbm, ⟨39, _⟩ => ⟨S16384x4096, .f32⟩
  | .hbm, ⟨40, _⟩ => ⟨S16384x4096, .bf16⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_cst_2 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩

abbrev nD : Nat := 1
abbrev τ : Topo := Topo.v7x

variable {F : FTy → Type} [FloatOps F]
-- ==== Kernel6.lean ====
abbrev S16384x1024 : Shape := ⟨2, ![16384, 1024]⟩
abbrev S16384x256 : Shape := ⟨2, ![16384, 256]⟩
abbrev S4x4x1024x4096 : Shape := ⟨4, ![4, 4, 1024, 4096]⟩
abbrev S4x4x256x4096 : Shape := ⟨4, ![4, 4, 256, 4096]⟩
abbrev S4x4x4096 : Shape := ⟨3, ![4, 4, 4096]⟩
abbrev S16384x4096 : Shape := ⟨2, ![16384, 4096]⟩
abbrev S512x1024 : Shape := ⟨2, ![512, 1024]⟩
abbrev S512x256 : Shape := ⟨2, ![512, 256]⟩
abbrev S1x4x1024x1024 : Shape := ⟨4, ![1, 4, 1024, 1024]⟩
abbrev S1x4x256x1024 : Shape := ⟨4, ![1, 4, 256, 1024]⟩
abbrev S1x4x1024 : Shape := ⟨3, ![1, 4, 1024]⟩
abbrev S1x1x256x1024 : Shape := ⟨4, ![1, 1, 256, 1024]⟩
abbrev S256x1024 : Shape := ⟨2, ![256, 1024]⟩
abbrev S1x1x1024 : Shape := ⟨3, ![1, 1, 1024]⟩
abbrev S1x1024 : Shape := ⟨2, ![1, 1024]⟩
abbrev S1x1x1024x1024 : Shape := ⟨4, ![1, 1, 1024, 1024]⟩
abbrev S1024x1024 : Shape := ⟨2, ![1024, 1024]⟩

abbrev nBuf : Space → Nat
  | .hbm => 11
  | .vmem => 18
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x256, .bf16⟩
  | .hbm, ⟨5, _⟩ => ⟨S4x4x1024x4096, .f32⟩
  | .hbm, ⟨6, _⟩ => ⟨S4x4x256x4096, .f32⟩
  | .hbm, ⟨7, _⟩ => ⟨S4x4x4096, .f32⟩
  | .hbm, ⟨8, _⟩ => ⟨S4x4x1024x4096, .bf16⟩
  | .hbm, ⟨9, _⟩ => ⟨S4x4x256x4096, .bf16⟩
  | .hbm, ⟨10, _⟩ => ⟨S16384x4096, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S512x1024, .bf16⟩
  | .local _ .vmem, ⟨5, _⟩ => ⟨S512x1024, .bf16⟩
  | .local _ .vmem, ⟨6, _⟩ => ⟨S512x1024, .bf16⟩
  | .local _ .vmem, ⟨7, _⟩ => ⟨S512x1024, .bf16⟩
  | .local _ .vmem, ⟨8, _⟩ => ⟨S512x256, .bf16⟩
  | .local _ .vmem, ⟨9, _⟩ => ⟨S512x256, .bf16⟩
  | .local _ .vmem, ⟨10, _⟩ => ⟨S1x4x1024x1024, .bf16⟩
  | .local _ .vmem, ⟨11, _⟩ => ⟨S1x4x1024x1024, .bf16⟩
  | .local _ .vmem, ⟨12, _⟩ => ⟨S1x4x256x1024, .bf16⟩
  | .local _ .vmem, ⟨13, _⟩ => ⟨S1x4x256x1024, .bf16⟩
  | .local _ .vmem, ⟨14, _⟩ => ⟨S1x4x1024, .f32⟩
  | .local _ .vmem, ⟨15, _⟩ => ⟨S1x4x1024, .f32⟩
  | .local _ .vmem, ⟨16, _⟩ => ⟨S512x1024, .bf16⟩
  | .local _ .vmem, ⟨17, _⟩ => ⟨S512x1024, .bf16⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_5 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x4x1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x4x256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x4x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Reference6Ideal.lean ====
abbrev S16384x1024 : Shape := ⟨2, ![16384, 1024]⟩
abbrev S16384x256 : Shape := ⟨2, ![16384, 256]⟩
abbrev S4x4x1024x4096 : Shape := ⟨4, ![4, 4, 1024, 4096]⟩
abbrev S4x4x256x4096 : Shape := ⟨4, ![4, 4, 256, 4096]⟩
abbrev S4x4x4096 : Shape := ⟨3, ![4, 4, 4096]⟩
abbrev S_ : Shape := ⟨0, ![]⟩
abbrev S16384x4096 : Shape := ⟨2, ![16384, 4096]⟩
abbrev S1x1x256x4096 : Shape := ⟨4, ![1, 1, 256, 4096]⟩
abbrev S256x4096 : Shape := ⟨2, ![256, 4096]⟩
abbrev S1x1x4096 : Shape := ⟨3, ![1, 1, 4096]⟩
abbrev S4096 : Shape := ⟨1, ![4096]⟩
abbrev S1x4096 : Shape := ⟨2, ![1, 4096]⟩
abbrev S1x1x1024x4096 : Shape := ⟨4, ![1, 1, 1024, 4096]⟩
abbrev S1024x4096 : Shape := ⟨2, ![1024, 4096]⟩

abbrev nBuf : Space → Nat
  | .hbm => 100
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x1024, .bf16⟩
  | .hbm, ⟨3, _⟩ => ⟨S16384x1024, .bf16⟩
  | .hbm, ⟨4, _⟩ => ⟨S16384x256, .bf16⟩
  | .hbm, ⟨5, _⟩ => ⟨S4x4x1024x4096, .f32⟩
  | .hbm, ⟨6, _⟩ => ⟨S4x4x256x4096, .f32⟩
  | .hbm, ⟨7, _⟩ => ⟨S4x4x4096, .f32⟩
  | .hbm, ⟨8, _⟩ => ⟨S16384x256, .f32⟩
  | .hbm, ⟨9, _⟩ => ⟨S_, .f32⟩
  | .hbm, ⟨10, _⟩ => ⟨S16384x4096, .f32⟩
  | .hbm, ⟨11, _⟩ => ⟨S1x1x256x4096, .f32⟩
  | .hbm, ⟨12, _⟩ => ⟨S256x4096, .f32⟩
  | .hbm, ⟨13, _⟩ => ⟨S16384x4096, .f32⟩
  | .hbm, ⟨14, _⟩ => ⟨S1x1x4096, .f32⟩
  | .hbm, ⟨15, _⟩ => ⟨S4096, .f32⟩
  | .hbm, ⟨16, _⟩ => ⟨S1x4096, .f32⟩
  | .hbm, ⟨17, _⟩ => ⟨S16384x4096, .f32⟩
  | .hbm, ⟨18, _⟩ => ⟨S16384x4096, .f32⟩
  | .hbm, ⟨19, _⟩ => ⟨S16384x4096, .f32⟩
  | .hbm, ⟨20, _⟩ => ⟨S16384x4096, .f32⟩
  | .hbm, ⟨21, _⟩ => ⟨S_, .f32⟩
  | .hbm, ⟨22, _⟩ => ⟨S16384x4096, .f32⟩
  | .hbm, ⟨23, _⟩ => ⟨S16384x4096, .f32⟩
  | .hbm, ⟨24, _⟩ => ⟨S_, .f32⟩
  | .hbm, ⟨25, _⟩ => ⟨S16384x4096, .f32⟩
  | .hbm, ⟨26, _⟩ => ⟨S16384x4096, .f32⟩
  | .hbm, ⟨27, _⟩ => ⟨S16384x1024, .f32⟩
  | .hbm, ⟨28, _⟩ => ⟨S1x1x1024x4096, .f32⟩
  | .hbm, ⟨29, _⟩ => ⟨S1024x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S1x1x256x4096, .f32⟩
  | .hbm, ⟨34, _⟩ => ⟨S256x4096, .f32⟩
  | .hbm, ⟨35, _⟩ => ⟨S16384x4096, .f32⟩
  | .hbm, ⟨36, _⟩ => ⟨S1x1x4096, .f32⟩
  | .hbm, ⟨37, _⟩ => ⟨S4096, .f32⟩
  | .hbm, ⟨38, _⟩ => ⟨S1x4096, .f32⟩
  | .hbm, ⟨39, _⟩ => ⟨S16384x4096, .f32⟩
  | .hbm, ⟨40, _⟩ => ⟨S16384x4096, .f32⟩
  | .hbm, ⟨41, _⟩ => ⟨S16384x4096, .f32⟩
  | .hbm, ⟨42, _⟩ => ⟨S16384x4096, .f32⟩
  | .hbm, ⟨43, _⟩ => ⟨S_, .f32⟩
  | .hbm, ⟨44, _⟩ => ⟨S16384x4096, .f32⟩
  | .hbm, ⟨45, _⟩ => ⟨S16384x4096, .f32⟩
  | .hbm, ⟨46, _⟩ => ⟨S_, .f32⟩
  | .hbm, ⟨47, _⟩ => ⟨S16384x4096, .f32⟩
  | .hbm, ⟨48, _⟩ => ⟨S16384x4096, .f32⟩
  | .hbm, ⟨49, _⟩ => ⟨S16384x1024, .f32⟩
  | .hbm, ⟨50, _⟩ => ⟨S1x1x1024x4096, .f32⟩
  | .hbm, ⟨51, _⟩ => ⟨S1024x4096, .f32⟩
  | .hbm, ⟨52, _⟩ => ⟨S16384x4096, .f32⟩
  | .hbm, ⟨53, _⟩ => ⟨S16384x4096, .f32⟩
  | .hbm, ⟨54, _⟩ => ⟨S16384x4096, .f32⟩
  | .hbm, ⟨55, _⟩ => ⟨S1x1x256x4096, .f32⟩
  | .hbm, ⟨56, _⟩ => ⟨S256x4096, .f32⟩
  | .hbm, ⟨57, _⟩ => ⟨S16384x4096, .f32⟩
  | .hbm, ⟨58, _⟩ => ⟨S1x1x4096, .f32⟩
  | .hbm, ⟨59, _⟩ => ⟨S4096, .f32⟩
  | .hbm, ⟨60, _⟩ => ⟨S1x4096, .f32⟩
  | .hbm, ⟨61, _⟩ => ⟨S16384x4096, .f32⟩
  | .hbm, ⟨62, _⟩ => ⟨S16384x4096, .f32⟩
  | .hbm, ⟨63, _⟩ => ⟨S16384x4096, .f32⟩
  | .hbm, ⟨64, _⟩ => ⟨S16384x4096, .f32⟩
  | .hbm, ⟨65, _⟩ => ⟨S_, .f32⟩
  | .hbm, ⟨66, _⟩ => ⟨S16384x4096, .f32⟩
  | .hbm, ⟨67, _⟩ => ⟨S16384x4096, .f32⟩
  | .hbm, ⟨68, _⟩ => ⟨S_, .f32⟩
  | .hbm, ⟨69, _⟩ => ⟨S16384x4096, .f32⟩
  | .hbm, ⟨70, _⟩ => ⟨S16384x4096, .f32⟩
  | .hbm, ⟨71, _⟩ => ⟨S16384x1024, .f32⟩
  | .hbm, ⟨72, _⟩ => ⟨S1x1x1024x4096, .f32⟩
  | .hbm, ⟨73, _⟩ => ⟨S1024x4096, .f32⟩
  | .hbm, ⟨74, _⟩ => ⟨S16384x4096, .f32⟩
  | .hbm, ⟨75, _⟩ => ⟨S16384x4096, .f32⟩
  | .hbm, ⟨76, _⟩ => ⟨S16384x4096, .f32⟩
  | .hbm, ⟨77, _⟩ => ⟨S1x1x256x4096, .f32⟩
  | .hbm, ⟨78, _⟩ => ⟨S256x4096, .f32⟩
  | .hbm, ⟨79, _⟩ => ⟨S16384x4096, .f32⟩
  | .hbm, ⟨80, _⟩ => ⟨S1x1x4096, .f32⟩
  | .hbm, ⟨81, _⟩ => ⟨S4096, .f32⟩
  | .hbm, ⟨82, _⟩ => ⟨S1x4096, .f32⟩
  | .hbm, ⟨83, _⟩ => ⟨S16384x4096, .f32⟩
  | .hbm, ⟨84, _⟩ => ⟨S16384x4096, .f32⟩
  | .hbm, ⟨85, _⟩ => ⟨S16384x4096, .f32⟩
  | .hbm, ⟨86, _⟩ => ⟨S16384x4096, .f32⟩
  | .hbm, ⟨87, _⟩ => ⟨S_, .f32⟩
  | .hbm, ⟨88, _⟩ => ⟨S16384x4096, .f32⟩
  | .hbm, ⟨89, _⟩ => ⟨S16384x4096, .f32⟩
  | .hbm, ⟨90, _⟩ => ⟨S_, .f32⟩
  | .hbm, ⟨91, _⟩ => ⟨S16384x4096, .f32⟩
  | .hbm, ⟨92, _⟩ => ⟨S16384x4096, .f32⟩
  | .hbm, ⟨93, _⟩ => ⟨S16384x1024, .f32⟩
  | .hbm, ⟨94, _⟩ => ⟨S1x1x1024x4096, .f32⟩
  | .hbm, ⟨95, _⟩ => ⟨S1024x4096, .f32⟩
  | .hbm, ⟨96, _⟩ => ⟨S16384x4096, .f32⟩
  | .hbm, ⟨97, _⟩ => ⟨S16384x4096, .f32⟩
  | .hbm, ⟨98, _⟩ => ⟨S16384x4096, .f32⟩
  | .hbm, ⟨99, _⟩ => ⟨S16384x4096, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_0 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_cst_2 : Ref sig .tc := ⟨.hbm, 43, rfl⟩
abbrev main_v32 : Ref sig .tc := ⟨.hbm, 44, rfl⟩
abbrev main_v33 : Ref sig .tc := ⟨.hbm, 45, rfl⟩
abbrev main_cst_3 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_4 : Ref sig .tc := ⟨.hbm, 65, rfl⟩
abbrev main_v52 : Ref sig .tc := ⟨.hbm, 66, rfl⟩
abbrev main_v53 : Ref sig .tc := ⟨.hbm, 67, rfl⟩
abbrev main_cst_5 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_v60 : Ref sig .tc := ⟨.hbm, 75, rfl⟩
abbrev main_v61 : Ref sig .tc := ⟨.hbm, 76, rfl⟩
abbrev main_v62 : Ref sig .tc := ⟨.hbm, 77, rfl⟩
abbrev main_v63 : Ref sig .tc := ⟨.hbm, 78, rfl⟩
abbrev main_v64 : Ref sig .tc := ⟨.hbm, 79, rfl⟩
abbrev main_v65 : Ref sig .tc := ⟨.hbm, 80, rfl⟩
abbrev main_v66 : Ref sig .tc := ⟨.hbm, 81, rfl⟩
abbrev main_v67 : Ref sig .tc := ⟨.hbm, 82, rfl⟩
abbrev main_v68 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_cst_6 : Ref sig .tc := ⟨.hbm, 87, rfl⟩
abbrev main_v72 : Ref sig .tc := ⟨.hbm, 88, rfl⟩
abbrev main_v73 : Ref sig .tc := ⟨.hbm, 89, rfl⟩
abbrev main_cst_7 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩

abbrev nD : Nat := 1
abbrev τ : Topo := Topo.v7x

variable {F : FTy → Type} [FloatOps F]
-- ==== Kernel7.lean ====
abbrev S16384x4096 : Shape := ⟨2, ![16384, 4096]⟩
abbrev S4x4096 : Shape := ⟨2, ![4, 4096]⟩
abbrev S4x4096x256 : Shape := ⟨3, ![4, 4096, 256]⟩
abbrev S4x256x4096 : Shape := ⟨3, ![4, 256, 4096]⟩
abbrev S4x16384x256 : Shape := ⟨3, ![4, 16384, 256]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S1024x1 : Shape := ⟨2, ![1024, 1]⟩
abbrev S1x4096x256 : Shape := ⟨3, ![1, 4096, 256]⟩
abbrev S1x256x1024 : Shape := ⟨3, ![1, 256, 1024]⟩
abbrev S1x1024x256 : Shape := ⟨3, ![1, 1024, 256]⟩
abbrev S1024x1024 : Shape := ⟨2, ![1024, 1024]⟩
abbrev S1x1024 : Shape := ⟨2, ![1, 1024]⟩
abbrev S1024x256 : Shape := ⟨2, ![1024, 256]⟩
abbrev S4096x256 : Shape := ⟨2, ![4096, 256]⟩
abbrev S256x1024 : Shape := ⟨2, ![256, 1024]⟩
abbrev S1024 : Shape := ⟨1, ![1024]⟩

abbrev nBuf : Space → Nat
  | .hbm => 26
  | .vmem => 22
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x256, .f32⟩
  | .hbm, ⟨3, _⟩ => ⟨S4x256x4096, .f32⟩
  | .hbm, ⟨4, _⟩ => ⟨S4x16384x256, .f32⟩
  | .hbm, ⟨5, _⟩ => ⟨S4x256x4096, .f32⟩
  | .hbm, ⟨6, _⟩ => ⟨S4x4096, .f32⟩
  | .hbm, ⟨7, _⟩ => ⟨S1x4096, .f32⟩
  | .hbm, ⟨8, _⟩ => ⟨S4096, .f32⟩
  | .hbm, ⟨9, _⟩ => ⟨S1x4096, .f32⟩
  | .hbm, ⟨10, _⟩ => ⟨S16384x4096, .f32⟩
  | .hbm, ⟨11, _⟩ => ⟨S16384x4096, .f32⟩
  | .hbm, ⟨12, _⟩ => ⟨S16384x4096, .bf16⟩
  | .hbm, ⟨13, _⟩ => ⟨S16384x4096, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S4x4096x256, .bf16⟩
  | .hbm, ⟨18, _⟩ => ⟨S4x256x4096, .bf16⟩
  | .hbm, ⟨19, _⟩ => ⟨S4x256x4096, .bf16⟩
  | .hbm, ⟨20, _⟩ => ⟨S1x4096, .f32⟩
  | .hbm, ⟨21, _⟩ => ⟨S4096, .f32⟩
  | .hbm, ⟨22, _⟩ => ⟨S1x4096, .f32⟩
  | .hbm, ⟨23, _⟩ => ⟨S16384x4096, .f32⟩
  | .hbm, ⟨24, _⟩ => ⟨S16384x4096, .bf16⟩
  | .hbm, ⟨25, _⟩ => ⟨S16384x1, .f32⟩
  | .local _ .vmem, ⟨0, _⟩ => ⟨S1024x4096, .bf16⟩
  | .local _ .vmem, ⟨1, _⟩ => ⟨S1024x4096, .bf16⟩
  | .local _ .vmem, ⟨2, _⟩ => ⟨S1024x1, .f32⟩
  | .local _ .vmem, ⟨3, _⟩ => ⟨S1024x1, .f32⟩
  | .local _ .vmem, ⟨4, _⟩ => ⟨S1x4096x256, .bf16⟩
  | .local _ .vmem, ⟨5, _⟩ => ⟨S1x256x1024, .bf16⟩
  | .local _ .vmem, ⟨6, _⟩ => ⟨S1x256x1024, .bf16⟩
  | .local _ .vmem, ⟨7, _⟩ => ⟨S1x1024x256, .f32⟩
  | .local _ .vmem, ⟨8, _⟩ => ⟨S1x1024x256, .f32⟩
  | .local _ .vmem, ⟨9, _⟩ => ⟨S1x256x1024, .bf16⟩
  | .local _ .vmem, ⟨10, _⟩ => ⟨S1x256x1024, .bf16⟩
  | .local _ .vmem, ⟨11, _⟩ => ⟨S1024x1024, .f32⟩
  | .local _ .vmem, ⟨12, _⟩ => ⟨S1024x1024, .f32⟩
  | .local _ .vmem, ⟨13, _⟩ => ⟨S1x1024, .f32⟩
  | .local _ .vmem, ⟨14, _⟩ => ⟨S1x1024, .f32⟩
  | .local _ .vmem, ⟨15, _⟩ => ⟨S1024x1024, .f32⟩
  | .local _ .vmem, ⟨16, _⟩ => ⟨S1024x1024, .f32⟩
  | .local _ .vmem, ⟨17, _⟩ => ⟨S1024x1024, .bf16⟩
  | .local _ .vmem, ⟨18, _⟩ => ⟨S1024x1024, .bf16⟩
  | .local _ .vmem, ⟨19, _⟩ => ⟨S1024x1, .f32⟩
  | .local _ .vmem, ⟨20, _⟩ => ⟨S1024x1, .f32⟩
  | .local _ .vmem, ⟨21, _⟩ => ⟨S1024x256, .bf16⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 21 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | _ => false

abbrev sig : RefSig :=
  ofTc nBuf bufTy 0 21 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev main_v15_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_scratch0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20

abbrev nD : Nat := 1
abbrev τ : Topo := Topo.v7x

variable {F : FTy → Type} [FloatOps F]

abbrev grid0 : Pipeline.Grid := ⟨2, ![16, 4], ![false, false]⟩

def k0_cond2 (i : grid0.Coords) : BitVec 1 :=
  let arg1 : BitVec 32 := BitVec.ofNat 32 (i 1).val
  let c0_i32_21 : BitVec 32 := 0#32
  let v27 : BitVec 1 := Scalar.cmpi .eq arg1 c0_i32_21
  let v28 : BitVec 32 := Scalar.extui v27
  let c0_i32_22 : BitVec 32 := 0#32
  let v29 : BitVec 1 := Scalar.cmpi .ne v28 c0_i32_22
  v29

def k0_cond3 (i : grid0.Coords) : BitVec 1 :=
  let arg1 : BitVec 32 := BitVec.ofNat 32 (i 1).val
  let c0_i32_23 : BitVec 32 := 0#32
  let v30 : BitVec 1 := Scalar.cmpi .sgt arg1 c0_i32_23
  let v31 : BitVec 32 := Scalar.extui v30
  let c0_i32_24 : BitVec 32 := 0#32
  let v32 : BitVec 1 := Scalar.cmpi .ne v31 c0_i32_24
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x4096x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![false, true]

abbrev stage0_8 : Fin 2 → Memref sig .tc .vmem S1024x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1024x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1024x1 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]
-- ==== Reference7Ideal.lean ====
abbrev S16384x4096 : Shape := ⟨2, ![16384, 4096]⟩
abbrev S4x4096 : Shape := ⟨2, ![4, 4096]⟩
abbrev S4x4096x256 : Shape := ⟨3, ![4, 4096, 256]⟩
abbrev S4x256x4096 : Shape := ⟨3, ![4, 256, 4096]⟩
abbrev S4x16384x256 : Shape := ⟨3, ![4, 16384, 256]⟩
abbrev S1x4096 : Shape := ⟨2, ![1, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096x256 : Shape := ⟨3, ![1, 4096, 256]⟩
abbrev S4096x256 : Shape := ⟨2, ![4096, 256]⟩
abbrev S16384x256 : Shape := ⟨2, ![16384, 256]⟩
abbrev S1x256x4096 : Shape := ⟨3, ![1, 256, 4096]⟩
abbrev S256x4096 : Shape := ⟨2, ![256, 4096]⟩
abbrev S1x16384x256 : Shape := ⟨3, ![1, 16384, 256]⟩

abbrev nBuf : Space → Nat
  | .hbm => 56
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4x4096, .f32⟩
  | .hbm, ⟨2, _⟩ => ⟨S4x4096x256, .f32⟩
  | .hbm, ⟨3, _⟩ => ⟨S4x256x4096, .f32⟩
  | .hbm, ⟨4, _⟩ => ⟨S4x16384x256, .f32⟩
  | .hbm, ⟨5, _⟩ => ⟨S4x256x4096, .f32⟩
  | .hbm, ⟨6, _⟩ => ⟨S4x4096, .f32⟩
  | .hbm, ⟨7, _⟩ => ⟨S1x4096, .f32⟩
  | .hbm, ⟨8, _⟩ => ⟨S4096, .f32⟩
  | .hbm, ⟨9, _⟩ => ⟨S16384x4096, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x4096, .f32⟩
  | .hbm, ⟨21, _⟩ => ⟨S16384x4096, .f32⟩
  | .hbm, ⟨22, _⟩ => ⟨S1x4096, .f32⟩
  | .hbm, ⟨23, _⟩ => ⟨S16384x4096, .f32⟩
  | .hbm, ⟨24, _⟩ => ⟨S16384x4096, .f32⟩
  | .hbm, ⟨25, _⟩ => ⟨S1x4096x256, .f32⟩
  | .hbm, ⟨26, _⟩ => ⟨S4096x256, .f32⟩
  | .hbm, ⟨27, _⟩ => ⟨S16384x256, .f32⟩
  | .hbm, ⟨28, _⟩ => ⟨S1x256x4096, .f32⟩
  | .hbm, ⟨29, _⟩ => ⟨S256x4096, .f32⟩
  | .hbm, ⟨30, _⟩ => ⟨S16384x4096, .f32⟩
  | .hbm, ⟨31, _⟩ => ⟨S16384x4096, .f32⟩
  | .hbm, ⟨32, _⟩ => ⟨S16384x4096, .f32⟩
  | .hbm, ⟨33, _⟩ => ⟨S_, .f32⟩
  | .hbm, ⟨34, _⟩ => ⟨S16384x4096, .f32⟩
  | .hbm, ⟨35, _⟩ => ⟨S16384x4096, .f32⟩
  | .hbm, ⟨36, _⟩ => ⟨S_, .f32⟩
  | .hbm, ⟨37, _⟩ => ⟨S16384x4096, .f32⟩
  | .hbm, ⟨38, _⟩ => ⟨S16384x4096, .f32⟩
  | .hbm, ⟨39, _⟩ => ⟨S1x16384x256, .f32⟩
  | .hbm, ⟨40, _⟩ => ⟨S16384x256, .f32⟩
  | .hbm, ⟨41, _⟩ => ⟨S1x256x4096, .f32⟩
  | .hbm, ⟨42, _⟩ => ⟨S256x4096, .f32⟩
  | .hbm, ⟨43, _⟩ => ⟨S16384x4096, .f32⟩
  | .hbm, ⟨44, _⟩ => ⟨S16384x4096, .f32⟩
  | .hbm, ⟨45, _⟩ => ⟨S16384x4096, .f32⟩
  | .hbm, ⟨46, _⟩ => ⟨S1x4096, .f32⟩
  | .hbm, ⟨47, _⟩ => ⟨S4096, .f32⟩
  | .hbm, ⟨48, _⟩ => ⟨S1x4096, .f32⟩
  | .hbm, ⟨49, _⟩ => ⟨S16384x4096, .f32⟩
  | .hbm, ⟨50, _⟩ => ⟨S16384x4096, .f32⟩
  | .hbm, ⟨51, _⟩ => ⟨S16384x4096, .bf16⟩
  | .hbm, ⟨52, _⟩ => ⟨S16384x4096, .f32⟩
  | .hbm, ⟨53, _⟩ => ⟨S_, .f32⟩
  | .hbm, ⟨54, _⟩ => ⟨S16384, .f32⟩
  | .hbm, ⟨55, _⟩ => ⟨S16384x1, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_2 : Ref sig .tc := ⟨.hbm, 33, rfl⟩
abbrev main_v23 : Ref sig .tc := ⟨.hbm, 34, rfl⟩
abbrev main_v24 : Ref sig .tc := ⟨.hbm, 35, rfl⟩
abbrev main_cst_3 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_cst_4 : Ref sig .tc := ⟨.hbm, 53, rfl⟩
abbrev main_v41 : Ref sig .tc := ⟨.hbm, 54, rfl⟩
abbrev main_v42 : Ref sig .tc := ⟨.hbm, 55, rfl⟩

abbrev nD : Nat := 1
abbrev τ : Topo := Topo.v7x

variable {F : FTy → Type} [FloatOps F]
-- ==== Kernel8.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩
abbrev S256x4096 : Shape := ⟨2, ![256, 4096]⟩
abbrev S256x1 : Shape := ⟨2, ![256, 1]⟩

abbrev nBuf : Space → Nat
  | .hbm => 8
  | .vmem => 7
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S1x4096, .f32⟩
  | .hbm, ⟨7, _⟩ => ⟨S16384x4096, .f32⟩
  | .local _ .vmem, ⟨0, _⟩ => ⟨S256x4096, .f32⟩
  | .local _ .vmem, ⟨1, _⟩ => ⟨S256x4096, .f32⟩
  | .local _ .vmem, ⟨2, _⟩ => ⟨S256x1, .f32⟩
  | .local _ .vmem, ⟨3, _⟩ => ⟨S256x1, .f32⟩
  | .local _ .vmem, ⟨4, _⟩ => ⟨S1x4096, .f32⟩
  | .local _ .vmem, ⟨5, _⟩ => ⟨S256x4096, .f32⟩
  | .local _ .vmem, ⟨6, _⟩ => ⟨S256x4096, .f32⟩
  | _, _ => ⟨S16384x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S16384x4096 : Shape := ⟨2, ![16384, 4096]⟩
abbrev S4096 : Shape := ⟨1, ![4096]⟩
abbrev S_ : Shape := ⟨0, ![]⟩
abbrev S16384 : Shape := ⟨1, ![16384]⟩
abbrev S16384x1 : Shape := ⟨2, ![16384, 1]⟩
abbrev S1x4096 : Shape := ⟨2, ![1, 4096]⟩

abbrev nBuf : Space → Nat
  | .hbm => 18
  | .vmem => 0
  | .smem => 0
  | _ => 0

abbrev bufTy : (tb : Table) → Fin (tcTables nBuf tb) → BufTy
  | .hbm, ⟨0, _⟩ => ⟨S16384x4096, .f32⟩
  | .hbm, ⟨1, _⟩ => ⟨S4096, .f32⟩
  | .hbm, ⟨2, _⟩ => ⟨S16384x4096, .f32⟩
  | .hbm, ⟨3, _⟩ => ⟨S_, .f32⟩
  | .hbm, ⟨4, _⟩ => ⟨S16384, .f32⟩
  | .hbm, ⟨5, _⟩ => ⟨S16384x1, .f32⟩
  | .hbm, ⟨6, _⟩ => ⟨S_, .f32⟩
  | .hbm, ⟨7, _⟩ => ⟨S16384x1, .f32⟩
  | .hbm, ⟨8, _⟩ => ⟨S16384x1, .f32⟩
  | .hbm, ⟨9, _⟩ => ⟨S_, .f32⟩
  | .hbm, ⟨10, _⟩ => ⟨S16384x1, .f32⟩
  | .hbm, ⟨11, _⟩ => ⟨S16384x1, .f32⟩
  | .hbm, ⟨12, _⟩ => ⟨S16384x1, .f32⟩
  | .hbm, ⟨13, _⟩ => ⟨S16384x4096, .f32⟩
  | .hbm, ⟨14, _⟩ => ⟨S16384x4096, .f32⟩
  | .hbm, ⟨15, _⟩ => ⟨S1x4096, .f32⟩
  | .hbm, ⟨16, _⟩ => ⟨S16384x4096, .f32⟩
  | .hbm, ⟨17, _⟩ => ⟨S16384x4096, .f32⟩
  | _, _ => ⟨S16384x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel13.lean ====
abbrev S16384x4096 : Shape := ⟨2, ![16384, 4096]⟩
abbrev S16384x384 : Shape := ⟨2, ![16384, 384]⟩
abbrev S256 : Shape := ⟨1, ![256]⟩
abbrev S16384x3x128 : Shape := ⟨3, ![16384, 3, 128]⟩
abbrev S16384x3x8 : Shape := ⟨3, ![16384, 3, 8]⟩
abbrev S16384x8x3 : Shape := ⟨3, ![16384, 8, 3]⟩
abbrev S_ : Shape := ⟨0, ![]⟩
abbrev S16384x8x122 : Shape := ⟨3, ![16384, 8, 122]⟩
abbrev S16384x1024 : Shape := ⟨2, ![16384, 1024]⟩
abbrev S16384x8x128 : Shape := ⟨3, ![16384, 8, 128]⟩
abbrev S16384x8x256 : Shape := ⟨3, ![16384, 8, 256]⟩
abbrev S8x256x16384 : Shape := ⟨3, ![8, 256, 16384]⟩
abbrev S8x16384x256 : Shape := ⟨3, ![8, 16384, 256]⟩
abbrev S32x512x8x128 : Shape := ⟨4, ![32, 512, 8, 128]⟩
abbrev S8x32x128x512 : Shape := ⟨4, ![8, 32, 128, 512]⟩
abbrev S1x256x512 : Shape := ⟨3, ![1, 256, 512]⟩
abbrev S1x16384x256 : Shape := ⟨3, ![1, 16384, 256]⟩
abbrev S1x32x128x512 : Shape := ⟨4, ![1, 32, 128, 512]⟩
abbrev S512x128 : Shape := ⟨2, ![512, 128]⟩
abbrev S512x512 : Shape := ⟨2, ![512, 512]⟩
abbrev S128x512 : Shape := ⟨2, ![128, 512]⟩
abbrev S1 : Shape := ⟨1, ![1]⟩
abbrev S256x512 : Shape := ⟨2, ![256, 512]⟩
abbrev S1x512x256 : Shape := ⟨3, ![1, 512, 256]⟩
abbrev S512x256 : Shape := ⟨2, ![512, 256]⟩
abbrev S1x512 : Shape := ⟨2, ![1, 512]⟩
abbrev S1x1x128x512 : Shape := ⟨4, ![1, 1, 128, 512]⟩
abbrev S512 : Shape := ⟨1, ![512]⟩

abbrev nBuf : Space → Nat
  | .hbm => 22
  | .vmem => 13
  | .smem => 1
  | _ => 0

abbrev bufTy : (tb : Table) → Fin (tcTables nBuf tb) → BufTy
  | .hbm, ⟨0, _⟩ => ⟨S16384x4096, .bf16⟩
  | .hbm, ⟨1, _⟩ => ⟨S16384x384, .bf16⟩
  | .hbm, ⟨2, _⟩ => ⟨S16384x3x128, .bf16⟩
  | .hbm, ⟨3, _⟩ => ⟨S16384x3x8, .bf16⟩
  | .hbm, ⟨4, _⟩ => ⟨S16384x8x3, .bf16⟩
  | .hbm, ⟨5, _⟩ => ⟨S_, .bf16⟩
  | .hbm, ⟨6, _⟩ => ⟨S16384x8x3, .bf16⟩
  | .hbm, ⟨7, _⟩ => ⟨S_, .bf16⟩
  | .hbm, ⟨8, _⟩ => ⟨S16384x8x122, .bf16⟩
  | .hbm, ⟨9, _⟩ => ⟨S16384x1024, .bf16⟩
  | .hbm, ⟨10, _⟩ => ⟨S16384x8x128, .bf16⟩
  | .hbm, ⟨11, _⟩ => ⟨S16384x8x256, .bf16⟩
  | .hbm, ⟨12, _⟩ => ⟨S16384x1024, .bf16⟩
  | .hbm, ⟨13, _⟩ => ⟨S16384x8x128, .bf16⟩
  | .hbm, ⟨14, _⟩ => ⟨S16384x8x3, .bf16⟩
  | .hbm, ⟨15, _⟩ => ⟨S16384x8x256, .bf16⟩
  | .hbm, ⟨16, _⟩ => ⟨S8x256x16384, .bf16⟩
  | .hbm, ⟨17, _⟩ => ⟨S8x16384x256, .bf16⟩
  | .hbm, ⟨18, _⟩ => ⟨S16384x1024, .bf16⟩
  | .hbm, ⟨19, _⟩ => ⟨S32x512x8x128, .bf16⟩
  | .hbm, ⟨20, _⟩ => ⟨S8x32x128x512, .bf16⟩
  | .hbm, ⟨21, _⟩ => ⟨S16384x1024, .bf16⟩
  | .local _ .vmem, ⟨0, _⟩ => ⟨S1x256x512, .bf16⟩
  | .local _ .vmem, ⟨1, _⟩ => ⟨S1x256x512, .bf16⟩
  | .local _ .vmem, ⟨2, _⟩ => ⟨S1x16384x256, .bf16⟩
  | .local _ .vmem, ⟨3, _⟩ => ⟨S1x16384x256, .bf16⟩
  | .local _ .vmem, ⟨4, _⟩ => ⟨S1x32x128x512, .bf16⟩
  | .local _ .vmem, ⟨5, _⟩ => ⟨S1x32x128x512, .bf16⟩
  | .local _ .vmem, ⟨6, _⟩ => ⟨S512x128, .bf16⟩
  | .local _ .vmem, ⟨7, _⟩ => ⟨S512x128, .bf16⟩
  | .local _ .vmem, ⟨8, _⟩ => ⟨S512x512, .f32⟩
  | .local _ .vmem, ⟨9, _⟩ => ⟨S512x512, .f32⟩
  | .local _ .vmem, ⟨10, _⟩ => ⟨S512x512, .bf16⟩
  | .local _ .vmem, ⟨11, _⟩ => ⟨S512x512, .bf16⟩
  | .local _ .vmem, ⟨12, _⟩ => ⟨S128x512, .f32⟩
  | .local _ .smem, ⟨0, _⟩ => ⟨S256, .i32⟩
  | _, _ => ⟨S16384x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_scratch1 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 32], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let c32_i32 : BitVec 32 := 32#32
  let v0 : BitVec 32 := Scalar.muli arg0 c32_i32
  let arg1 : BitVec 32 := BitVec.ofNat 32 (i 1).val
  let v1 : BitVec 32 := Scalar.addi v0 arg1
  let v2 : Index := Scalar.indexCast v1
  ![v2.toNat]
def k0_mult1 (v3 : BitVec 32) : BitVec 32 :=
  let c512_i32 : BitVec 32 := 512#32
  let v14 : BitVec 32 := Scalar.muli v3 c512_i32
  v14

def k0_off2 (v3 : BitVec 32) : Fin 3 → Nat :=
  let c0_7 : Index := 0#32
  let c512_i32 : BitVec 32 := 512#32
  let v14 : BitVec 32 := Scalar.muli v3 c512_i32
  let v15 : BitVec 32 := v14
  let v16 : Index := Scalar.indexCast v15
  let c0_8 : Index := 0#32
  ![0, v16.toNat, 0]
@[reducible] def k0_t1_loop (i : grid0.Coords) (v3 : BitVec 32) : Scf.Loop 32 :=
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_20 : BitVec 32 := 1#32
  ⟨c0_i32_18, v47, c1_i32_20⟩
def k0_mult2 (i : grid0.Coords) (v3 : BitVec 32) (k0_t1 : Fin (k0_t1_loop i v3).trips) : BitVec 32 :=
  let c4_i32_30 : BitVec 32 := 4#32
  let c0_i32_18 : BitVec 32 := 0#32
  let c1_i32_20 : BitVec 32 := 1#32
  let arg12 : BitVec 32 := Scf.iv c0_i32_18 c1_i32_20 k0_t1
  let v66 : BitVec 32 := Scalar.muli c4_i32_30 arg12
  let v67 : BitVec 32 := Scalar.addi v3 v66
  let c0_i32_31 : BitVec 32 := 0#32
  let v68 : BitVec 32 := Scalar.addi v67 c0_i32_31
  let c1_i32_32 : BitVec 32 := 1#32
  let v69 : BitVec 32 := Scalar.addi v68 c1_i32_32
  let c512_i32_33 : BitVec 32 := 512#32
  let v70 : BitVec 32 := Scalar.muli v69 c512_i32_33
  v70
def k0_off3 (i : grid0.Coords) (v3 : BitVec 32) (k0_t1 : Fin (k0_t1_loop i v3).trips) (c0_i32_31 : BitVec 32) : Fin 3 → Nat :=
  let c0_34 : Index := 0#32
  let c4_i32_30 : BitVec 32 := 4#32
  let c0_i32_18 : BitVec 32 := 0#32
  let c1_i32_20 : BitVec 32 := 1#32
  let arg12 : BitVec 32 := Scf.iv c0_i32_18 c1_i32_20 k0_t1
  let v66 : BitVec 32 := Scalar.muli c4_i32_30 arg12
  let v67 : BitVec 32 := Scalar.addi v3 v66
  let v68 : BitVec 32 := Scalar.addi v67 c0_i32_31
  let c1_i32_32 : BitVec 32 := 1#32
  let v69 : BitVec 32 := Scalar.addi v68 c1_i32_32
  let c512_i32_33 : BitVec 32 := 512#32
  let v70 : BitVec 32 := Scalar.muli v69 c512_i32_33
  let v71 : BitVec 32 := v70
  let v72 : Index := Scalar.indexCast v71
  let c0_35 : Index := 0#32
  ![0, v72.toNat, 0]
def k0_off4 (i : grid0.Coords) (v3 : BitVec 32) (k0_t1 : Fin (k0_t1_loop i v3).trips) (c0_i32_39 : BitVec 32) : Fin 4 → Nat :=
  let c0_42 : Index := 0#32
  let c4_i32_30 : BitVec 32 := 4#32
  let c0_i32_18 : BitVec 32 := 0#32
  let c1_i32_20 : BitVec 32 := 1#32
  let arg12 : BitVec 32 := Scf.iv c0_i32_18 c1_i32_20 k0_t1
  let v66 : BitVec 32 := Scalar.muli c4_i32_30 arg12
  let v67 : BitVec 32 := Scalar.addi v3 v66
  let v79 : BitVec 32 := Scalar.addi v67 c0_i32_39
  let c1_i32_40 : BitVec 32 := 1#32
  let v80 : BitVec 32 := Scalar.subi v79 c1_i32_40
  let c0_i32_41 : BitVec 32 := 0#32
  let v81 : BitVec 32 := Scalar.maxsi v80 c0_i32_41
  let v82 : Index := Scalar.indexCast v81
  let c0_43 : Index := 0#32
  let c0_44 : Index := 0#32
  ![0, v82.toNat, 0, 0]
def k0_mult3 (i : grid0.Coords) (v3 : BitVec 32) (k0_t1 : Fin (k0_t1_loop i v3).trips) : BitVec 32 :=
  let c4_i32_30 : BitVec 32 := 4#32
  let c0_i32_18 : BitVec 32 := 0#32
  let c1_i32_20 : BitVec 32 := 1#32
  let arg12 : BitVec 32 := Scf.iv c0_i32_18 c1_i32_20 k0_t1
  let v66 : BitVec 32 := Scalar.muli c4_i32_30 arg12
  let v67 : BitVec 32 := Scalar.addi v3 v66
  let c1_i32_58 : BitVec 32 := 1#32
  let v111 : BitVec 32 := Scalar.addi v67 c1_i32_58
  let c1_i32_59 : BitVec 32 := 1#32
  let v112 : BitVec 32 := Scalar.addi v111 c1_i32_59
  let c512_i32_60 : BitVec 32 := 512#32
  let v113 : BitVec 32 := Scalar.muli v112 c512_i32_60
  v113
def k0_mult4 (i : grid0.Coords) (v3 : BitVec 32) (k0_t1 : Fin (k0_t1_loop i v3).trips) : BitVec 32 :=
  let c4_i32_30 : BitVec 32 := 4#32
  let c0_i32_18 : BitVec 32 := 0#32
  let c1_i32_20 : BitVec 32 := 1#32
  let arg12 : BitVec 32 := Scf.iv c0_i32_18 c1_i32_20 k0_t1
  let v66 : BitVec 32 := Scalar.muli c4_i32_30 arg12
  let v67 : BitVec 32 := Scalar.addi v3 v66
  let c2_i32_85 : BitVec 32 := 2#32
  let v154 : BitVec 32 := Scalar.addi v67 c2_i32_85
  let c1_i32_86 : BitVec 32 := 1#32
  let v155 : BitVec 32 := Scalar.addi v154 c1_i32_86
  let c512_i32_87 : BitVec 32 := 512#32
  let v156 : BitVec 32 := Scalar.muli v155 c512_i32_87
  v156
def k0_mult5 (i : grid0.Coords) (v3 : BitVec 32) (k0_t1 : Fin (k0_t1_loop i v3).trips) : BitVec 32 :=
  let c4_i32_30 : BitVec 32 := 4#32
  let c0_i32_18 : BitVec 32 := 0#32
  let c1_i32_20 : BitVec 32 := 1#32
  let arg12 : BitVec 32 := Scf.iv c0_i32_18 c1_i32_20 k0_t1
  let v66 : BitVec 32 := Scalar.muli c4_i32_30 arg12
  let v67 : BitVec 32 := Scalar.addi v3 v66
  let c3_i32_112 : BitVec 32 := 3#32
  let v197 : BitVec 32 := Scalar.addi v67 c3_i32_112
  let c1_i32_113 : BitVec 32 := 1#32
  let v198 : BitVec 32 := Scalar.addi v197 c1_i32_113
  let c512_i32_114 : BitVec 32 := 512#32
  let v199 : BitVec 32 := Scalar.muli v198 c512_i32_114
  v199
@[reducible] def k0_t2_loop (i : grid0.Coords) (v3 : BitVec 32) : Scf.Loop 32 :=
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let v44 : BitVec 32 := Scalar.addi c0_i32_18 v43
  let c1_i32_21 : BitVec 32 := 1#32
  ⟨v47, v44, c1_i32_21⟩
def k0_mult6 (i : grid0.Coords) (v3 : BitVec 32) (k0_t2 : Fin (k0_t2_loop i v3).trips) : BitVec 32 :=
  let c4_i32_30 : BitVec 32 := 4#32
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg12 : BitVec 32 := Scf.iv v47 c1_i32_21 k0_t2
  let v66 : BitVec 32 := Scalar.muli c4_i32_30 arg12
  let v67 : BitVec 32 := Scalar.addi v3 v66
  let c0_i32_31 : BitVec 32 := 0#32
  let v68 : BitVec 32 := Scalar.addi v67 c0_i32_31
  let c1_i32_32 : BitVec 32 := 1#32
  let v69 : BitVec 32 := Scalar.addi v68 c1_i32_32
  let c512_i32_33 : BitVec 32 := 512#32
  let v70 : BitVec 32 := Scalar.muli v69 c512_i32_33
  v70
def k0_off5 (i : grid0.Coords) (v3 : BitVec 32) (k0_t2 : Fin (k0_t2_loop i v3).trips) (c0_i32_31 : BitVec 32) : Fin 3 → Nat :=
  let c0_34 : Index := 0#32
  let c4_i32_30 : BitVec 32 := 4#32
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg12 : BitVec 32 := Scf.iv v47 c1_i32_21 k0_t2
  let v66 : BitVec 32 := Scalar.muli c4_i32_30 arg12
  let v67 : BitVec 32 := Scalar.addi v3 v66
  let v68 : BitVec 32 := Scalar.addi v67 c0_i32_31
  let c1_i32_32 : BitVec 32 := 1#32
  let v69 : BitVec 32 := Scalar.addi v68 c1_i32_32
  let c512_i32_33 : BitVec 32 := 512#32
  let v70 : BitVec 32 := Scalar.muli v69 c512_i32_33
  let v71 : BitVec 32 := v70
  let v72 : Index := Scalar.indexCast v71
  let c0_35 : Index := 0#32
  ![0, v72.toNat, 0]
def k0_off6 (i : grid0.Coords) (v3 : BitVec 32) (k0_t2 : Fin (k0_t2_loop i v3).trips) (c0_i32_39 : BitVec 32) : Fin 4 → Nat :=
  let c0_42 : Index := 0#32
  let c4_i32_30 : BitVec 32 := 4#32
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg12 : BitVec 32 := Scf.iv v47 c1_i32_21 k0_t2
  let v66 : BitVec 32 := Scalar.muli c4_i32_30 arg12
  let v67 : BitVec 32 := Scalar.addi v3 v66
  let v79 : BitVec 32 := Scalar.addi v67 c0_i32_39
  let c1_i32_40 : BitVec 32 := 1#32
  let v80 : BitVec 32 := Scalar.subi v79 c1_i32_40
  let c0_i32_41 : BitVec 32 := 0#32
  let v81 : BitVec 32 := Scalar.maxsi v80 c0_i32_41
  let v82 : Index := Scalar.indexCast v81
  let c0_43 : Index := 0#32
  let c0_44 : Index := 0#32
  ![0, v82.toNat, 0, 0]
def k0_mult7 (i : grid0.Coords) (v3 : BitVec 32) (k0_t2 : Fin (k0_t2_loop i v3).trips) : BitVec 32 :=
  let c4_i32_30 : BitVec 32 := 4#32
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg12 : BitVec 32 := Scf.iv v47 c1_i32_21 k0_t2
  let v66 : BitVec 32 := Scalar.muli c4_i32_30 arg12
  let v67 : BitVec 32 := Scalar.addi v3 v66
  let c1_i32_58 : BitVec 32 := 1#32
  let v111 : BitVec 32 := Scalar.addi v67 c1_i32_58
  let c1_i32_59 : BitVec 32 := 1#32
  let v112 : BitVec 32 := Scalar.addi v111 c1_i32_59
  let c512_i32_60 : BitVec 32 := 512#32
  let v113 : BitVec 32 := Scalar.muli v112 c512_i32_60
  v113
def k0_mult8 (i : grid0.Coords) (v3 : BitVec 32) (k0_t2 : Fin (k0_t2_loop i v3).trips) : BitVec 32 :=
  let c4_i32_30 : BitVec 32 := 4#32
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg12 : BitVec 32 := Scf.iv v47 c1_i32_21 k0_t2
  let v66 : BitVec 32 := Scalar.muli c4_i32_30 arg12
  let v67 : BitVec 32 := Scalar.addi v3 v66
  let c2_i32_85 : BitVec 32 := 2#32
  let v154 : BitVec 32 := Scalar.addi v67 c2_i32_85
  let c1_i32_86 : BitVec 32 := 1#32
  let v155 : BitVec 32 := Scalar.addi v154 c1_i32_86
  let c512_i32_87 : BitVec 32 := 512#32
  let v156 : BitVec 32 := Scalar.muli v155 c512_i32_87
  v156
def k0_mult9 (i : grid0.Coords) (v3 : BitVec 32) (k0_t2 : Fin (k0_t2_loop i v3).trips) : BitVec 32 :=
  let c4_i32_30 : BitVec 32 := 4#32
  let c0_i32_18 : BitVec 32 := 0#32
  let arg1 : BitVec 32 := BitVec.ofNat 32 (i 1).val
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v43 : BitVec 32 := Scalar.subi v42 c0_i32_18
  let c1_i32_19 : BitVec 32 := 1#32
  let v45 : BitVec 32 := Scalar.divsi v43 c1_i32_19
  let v46 : BitVec 32 := Scalar.muli v45 c1_i32_19
  let v47 : BitVec 32 := Scalar.addi c0_i32_18 v46
  let c1_i32_21 : BitVec 32 := 1#32
  let arg12 : BitVec 32 := Scf.iv v47 c1_i32_21 k0_t2
  let v66 : BitVec 32 := Scalar.muli c4_i32_30 arg12
  let v67 : BitVec 32 := Scalar.addi v3 v66
  let c3_i32_112 : BitVec 32 := 3#32
  let v197 : BitVec 32 := Scalar.addi v67 c3_i32_112
  let c1_i32_113 : BitVec 32 := 1#32
  let v198 : BitVec 32 := Scalar.addi v197 c1_i32_113
  let c512_i32_114 : BitVec 32 := 512#32
  let v199 : BitVec 32 := Scalar.muli v198 c512_i32_114
  v199
def k0_off7 (i : grid0.Coords) : Fin 4 → Nat :=
  let c0_35 : Index := 0#32
  let arg1 : BitVec 32 := BitVec.ofNat 32 (i 1).val
  let c1_i32_30 : BitVec 32 := 1#32
  let v66 : BitVec 32 := Scalar.addi arg1 c1_i32_30
  let c1_i32_31 : BitVec 32 := 1#32
  let v67 : BitVec 32 := Scalar.subi v66 c1_i32_31
  let c0_i32_32 : BitVec 32 := 0#32
  let v68 : BitVec 32 := Scalar.addi v67 c0_i32_32
  let c1_i32_33 : BitVec 32 := 1#32
  let v69 : BitVec 32 := Scalar.subi v68 c1_i32_33
  let c0_i32_34 : BitVec 32 := 0#32
  let v70 : BitVec 32 := Scalar.maxsi v69 c0_i32_34
  let v71 : Index := Scalar.indexCast v70
  let c0_36 : Index := 0#32
  let c0_37 : Index := 0#32
  ![0, v71.toNat, 0, 0]
def k0_off8 (i : grid0.Coords) : Fin 4 → Nat :=
  let c0_54 : Index := 0#32
  let arg1 : BitVec 32 := BitVec.ofNat 32 (i 1).val
  let v106 : Index := Scalar.indexCast arg1
  let c0_55 : Index := 0#32
  let c0_56 : Index := 0#32
  ![0, v106.toNat, 0, 0]
def k0_mult10 (i : grid0.Coords) : BitVec 32 :=
  let arg1 : BitVec 32 := BitVec.ofNat 32 (i 1).val
  let c1_i32_30 : BitVec 32 := 1#32
  let v66 : BitVec 32 := Scalar.addi arg1 c1_i32_30
  let c2_i32_31 : BitVec 32 := 2#32
  let v67 : BitVec 32 := Scalar.subi v66 c2_i32_31
  let c0_i32_32 : BitVec 32 := 0#32
  let v68 : BitVec 32 := Scalar.addi v67 c0_i32_32
  let c1_i32_33 : BitVec 32 := 1#32
  let v69 : BitVec 32 := Scalar.addi v68 c1_i32_33
  let c512_i32_34 : BitVec 32 := 512#32
  let v70 : BitVec 32 := Scalar.muli v69 c512_i32_34
  v70
def k0_off9 (i : grid0.Coords) : Fin 3 → Nat :=
  let c0_35 : Index := 0#32
  let arg1 : BitVec 32 := BitVec.ofNat 32 (i 1).val
  let c1_i32_30 : BitVec 32 := 1#32
  let v66 : BitVec 32 := Scalar.addi arg1 c1_i32_30
  let c2_i32_31 : BitVec 32 := 2#32
  let v67 : BitVec 32 := Scalar.subi v66 c2_i32_31
  let c0_i32_32 : BitVec 32 := 0#32
  let v68 : BitVec 32 := Scalar.addi v67 c0_i32_32
  let c1_i32_33 : BitVec 32 := 1#32
  let v69 : BitVec 32 := Scalar.addi v68 c1_i32_33
  let c512_i32_34 : BitVec 32 := 512#32
  let v70 : BitVec 32 := Scalar.muli v69 c512_i32_34
  let v71 : BitVec 32 := v70
  let v72 : Index := Scalar.indexCast v71
  let c0_36 : Index := 0#32
  ![0, v72.toNat, 0]
def k0_off10 (i : grid0.Coords) (c0_i32_40 : BitVec 32) : Fin 4 → Nat :=
  let c0_43 : Index := 0#32
  let arg1 : BitVec 32 := BitVec.ofNat 32 (i 1).val
  let c1_i32_30 : BitVec 32 := 1#32
  let v66 : BitVec 32 := Scalar.addi arg1 c1_i32_30
  let c2_i32_31 : BitVec 32 := 2#32
  let v67 : BitVec 32 := Scalar.subi v66 c2_i32_31
  let v79 : BitVec 32 := Scalar.addi v67 c0_i32_40
  let c1_i32_41 : BitVec 32 := 1#32
  let v80 : BitVec 32 := Scalar.subi v79 c1_i32_41
  let c0_i32_42 : BitVec 32 := 0#32
  let v81 : BitVec 32 := Scalar.maxsi v80 c0_i32_42
  let v82 : Index := Scalar.indexCast v81
  let c0_44 : Index := 0#32
  let c0_45 : Index := 0#32
  ![0, v82.toNat, 0, 0]
def k0_off11 (i : grid0.Coords) : Fin 4 → Nat :=
  let c0_81 : Index := 0#32
  let arg1 : BitVec 32 := BitVec.ofNat 32 (i 1).val
  let v149 : Index := Scalar.indexCast arg1
  let c0_82 : Index := 0#32
  let c0_83 : Index := 0#32
  ![0, v149.toNat, 0, 0]
def k0_mult11 (i : grid0.Coords) : BitVec 32 :=
  let arg1 : BitVec 32 := BitVec.ofNat 32 (i 1).val
  let c1_i32_30 : BitVec 32 := 1#32
  let v66 : BitVec 32 := Scalar.addi arg1 c1_i32_30
  let c3_i32_31 : BitVec 32 := 3#32
  let v67 : BitVec 32 := Scalar.subi v66 c3_i32_31
  let c0_i32_32 : BitVec 32 := 0#32
  let v68 : BitVec 32 := Scalar.addi v67 c0_i32_32
  let c1_i32_33 : BitVec 32 := 1#32
  let v69 : BitVec 32 := Scalar.addi v68 c1_i32_33
  let c512_i32_34 : BitVec 32 := 512#32
  let v70 : BitVec 32 := Scalar.muli v69 c512_i32_34
  v70
def k0_off12 (i : grid0.Coords) (c0_i32_32 : BitVec 32) : Fin 3 → Nat :=
  let c0_35 : Index := 0#32
  let arg1 : BitVec 32 := BitVec.ofNat 32 (i 1).val
  let c1_i32_30 : BitVec 32 := 1#32
  let v66 : BitVec 32 := Scalar.addi arg1 c1_i32_30
  let c3_i32_31 : BitVec 32 := 3#32
  let v67 : BitVec 32 := Scalar.subi v66 c3_i32_31
  let v68 : BitVec 32 := Scalar.addi v67 c0_i32_32
  let c1_i32_33 : BitVec 32 := 1#32
  let v69 : BitVec 32 := Scalar.addi v68 c1_i32_33
  let c512_i32_34 : BitVec 32 := 512#32
  let v70 : BitVec 32 := Scalar.muli v69 c512_i32_34
  let v71 : BitVec 32 := v70
  let v72 : Index := Scalar.indexCast v71
  let c0_36 : Index := 0#32
  ![0, v72.toNat, 0]
def k0_cond3 (i : grid0.Coords) (v3 : BitVec 32) : BitVec 1 :=
  let arg1 : BitVec 32 := BitVec.ofNat 32 (i 1).val
  let v50 : BitVec 32 := Scalar.subi arg1 v3
  let c1_i32_22 : BitVec 32 := 1#32
  let v51 : BitVec 32 := Scalar.addi v50 c1_i32_22
  let c4_i32_23 : BitVec 32 := 4#32
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v52 : BitVec 32 := Scalar.muli c4_i32_23 v42
  let v53 : BitVec 32 := Scalar.subi v51 v52
  let c3_i32 : BitVec 32 := 3#32
  let v60 : BitVec 1 := Scalar.cmpi .eq v53 c3_i32
  let v61 : BitVec 32 := Scalar.extui v60
  let c0_i32_27 : BitVec 32 := 0#32
  let v62 : BitVec 1 := Scalar.cmpi .ne v61 c0_i32_27
  v62

def k0_off13 (i : grid0.Coords) (c0_i32_40 : BitVec 32) : Fin 4 → Nat :=
  let c0_43 : Index := 0#32
  let arg1 : BitVec 32 := BitVec.ofNat 32 (i 1).val
  let c1_i32_30 : BitVec 32 := 1#32
  let v66 : BitVec 32 := Scalar.addi arg1 c1_i32_30
  let c3_i32_31 : BitVec 32 := 3#32
  let v67 : BitVec 32 := Scalar.subi v66 c3_i32_31
  let v79 : BitVec 32 := Scalar.addi v67 c0_i32_40
  let c1_i32_41 : BitVec 32 := 1#32
  let v80 : BitVec 32 := Scalar.subi v79 c1_i32_41
  let c0_i32_42 : BitVec 32 := 0#32
  let v81 : BitVec 32 := Scalar.maxsi v80 c0_i32_42
  let v82 : Index := Scalar.indexCast v81
  let c0_44 : Index := 0#32
  let c0_45 : Index := 0#32
  ![0, v82.toNat, 0, 0]
def k0_mult12 (i : grid0.Coords) : BitVec 32 :=
  let arg1 : BitVec 32 := BitVec.ofNat 32 (i 1).val
  let c1_i32_30 : BitVec 32 := 1#32
  let v66 : BitVec 32 := Scalar.addi arg1 c1_i32_30
  let c3_i32_31 : BitVec 32 := 3#32
  let v67 : BitVec 32 := Scalar.subi v66 c3_i32_31
  let c1_i32_59 : BitVec 32 := 1#32
  let v111 : BitVec 32 := Scalar.addi v67 c1_i32_59
  let c1_i32_60 : BitVec 32 := 1#32
  let v112 : BitVec 32 := Scalar.addi v111 c1_i32_60
  let c512_i32_61 : BitVec 32 := 512#32
  let v113 : BitVec 32 := Scalar.muli v112 c512_i32_61
  v113
def k0_off14 (i : grid0.Coords) : Fin 4 → Nat :=
  let c0_108 : Index := 0#32
  let arg1 : BitVec 32 := BitVec.ofNat 32 (i 1).val
  let v192 : Index := Scalar.indexCast arg1
  let c0_109 : Index := 0#32
  let c0_110 : Index := 0#32
  ![0, v192.toNat, 0, 0]
def k0_mult13 (i : grid0.Coords) : BitVec 32 :=
  let arg1 : BitVec 32 := BitVec.ofNat 32 (i 1).val
  let c1_i32_30 : BitVec 32 := 1#32
  let v66 : BitVec 32 := Scalar.addi arg1 c1_i32_30
  let c4_i32_31 : BitVec 32 := 4#32
  let v67 : BitVec 32 := Scalar.subi v66 c4_i32_31
  let c0_i32_32 : BitVec 32 := 0#32
  let v68 : BitVec 32 := Scalar.addi v67 c0_i32_32
  let c1_i32_33 : BitVec 32 := 1#32
  let v69 : BitVec 32 := Scalar.addi v68 c1_i32_33
  let c512_i32_34 : BitVec 32 := 512#32
  let v70 : BitVec 32 := Scalar.muli v69 c512_i32_34
  v70
def k0_off15 (i : grid0.Coords) (c0_i32_32 : BitVec 32) : Fin 3 → Nat :=
  let c0_35 : Index := 0#32
  let arg1 : BitVec 32 := BitVec.ofNat 32 (i 1).val
  let c1_i32_30 : BitVec 32 := 1#32
  let v66 : BitVec 32 := Scalar.addi arg1 c1_i32_30
  let c4_i32_31 : BitVec 32 := 4#32
  let v67 : BitVec 32 := Scalar.subi v66 c4_i32_31
  let v68 : BitVec 32 := Scalar.addi v67 c0_i32_32
  let c1_i32_33 : BitVec 32 := 1#32
  let v69 : BitVec 32 := Scalar.addi v68 c1_i32_33
  let c512_i32_34 : BitVec 32 := 512#32
  let v70 : BitVec 32 := Scalar.muli v69 c512_i32_34
  let v71 : BitVec 32 := v70
  let v72 : Index := Scalar.indexCast v71
  let c0_36 : Index := 0#32
  ![0, v72.toNat, 0]
def k0_cond4 (i : grid0.Coords) (v3 : BitVec 32) : BitVec 1 :=
  let arg1 : BitVec 32 := BitVec.ofNat 32 (i 1).val
  let v50 : BitVec 32 := Scalar.subi arg1 v3
  let c1_i32_22 : BitVec 32 := 1#32
  let v51 : BitVec 32 := Scalar.addi v50 c1_i32_22
  let c4_i32_23 : BitVec 32 := 4#32
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v52 : BitVec 32 := Scalar.muli c4_i32_23 v42
  let v53 : BitVec 32 := Scalar.subi v51 v52
  let c4_i32_28 : BitVec 32 := 4#32
  let v63 : BitVec 1 := Scalar.cmpi .eq v53 c4_i32_28
  let v64 : BitVec 32 := Scalar.extui v63
  let c0_i32_29 : BitVec 32 := 0#32
  let v65 : BitVec 1 := Scalar.cmpi .ne v64 c0_i32_29
  v65

def k0_chk1 (i : grid0.Coords) (v3 : BitVec 32) : Prop :=
  (512 ∣ (k0_mult1 v3).toNat) ∧
  (∀ a, (k0_off2 v3) a + S1x512x256.size a ≤ S1x16384x256.size a) ∧
  ((k0_t1_loop i v3).OK) ∧
  (∀ k0_t1 : Fin (k0_t1_loop i v3).trips, 512 ∣ (k0_mult2 i v3 k0_t1).toNat) ∧
  (∀ k0_t1 : Fin (k0_t1_loop i v3).trips, ∀ (r : Fin 4), ∀ a, (k0_off3 i v3 k0_t1 (BitVec.ofNat 32 r.val)) a + S1x512x256.size a ≤ S1x16384x256.size a) ∧
  (∀ k0_t1 : Fin (k0_t1_loop i v3).trips, ∀ (r : Fin 4), ∀ a, (k0_off4 i v3 k0_t1 (BitVec.ofNat 32 r.val)) a + S1x1x128x512.size a ≤ S1x32x128x512.size a) ∧
  (∀ k0_t1 : Fin (k0_t1_loop i v3).trips, 512 ∣ (k0_mult3 i v3 k0_t1).toNat) ∧
  (∀ k0_t1 : Fin (k0_t1_loop i v3).trips, 512 ∣ (k0_mult4 i v3 k0_t1).toNat) ∧
  (∀ k0_t1 : Fin (k0_t1_loop i v3).trips, 512 ∣ (k0_mult5 i v3 k0_t1).toNat) ∧
  ((k0_t2_loop i v3).OK) ∧
  (∀ k0_t2 : Fin (k0_t2_loop i v3).trips, 512 ∣ (k0_mult6 i v3 k0_t2).toNat) ∧
  (∀ k0_t2 : Fin (k0_t2_loop i v3).trips, ∀ (r : Fin 4), ∀ a, (k0_off5 i v3 k0_t2 (BitVec.ofNat 32 r.val)) a + S1x512x256.size a ≤ S1x16384x256.size a) ∧
  (∀ k0_t2 : Fin (k0_t2_loop i v3).trips, ∀ (r : Fin 4), ∀ a, (k0_off6 i v3 k0_t2 (BitVec.ofNat 32 r.val)) a + S1x1x128x512.size a ≤ S1x32x128x512.size a) ∧
  (∀ k0_t2 : Fin (k0_t2_loop i v3).trips, 512 ∣ (k0_mult7 i v3 k0_t2).toNat) ∧
  (∀ k0_t2 : Fin (k0_t2_loop i v3).trips, 512 ∣ (k0_mult8 i v3 k0_t2).toNat) ∧
  (∀ k0_t2 : Fin (k0_t2_loop i v3).trips, 512 ∣ (k0_mult9 i v3 k0_t2).toNat) ∧
  (∀ (k0_h3 : k0_cond3 i v3 = 1#1), ∀ (r : Fin 2), ∀ a, (k0_off12 i (BitVec.ofNat 32 r.val)) a + S1x512x256.size a ≤ S1x16384x256.size a) ∧
  (∀ (k0_h4 : k0_cond4 i v3 = 1#1), ∀ (r : Fin 3), ∀ a, (k0_off15 i (BitVec.ofNat 32 r.val)) a + S1x512x256.size a ≤ S1x16384x256.size a)
theorem k0_mult1_dvd : ∀ (i : grid0.Coords) (v3 : BitVec 32) (k0_hw1 : k0_chk1 i v3), 512 ∣ (k0_mult1 v3).toNat := fun i v3 k0_hw1 => k0_hw1.1
theorem k0_off2_inb : ∀ (i : grid0.Coords) (v3 : BitVec 32) (k0_hw1 : k0_chk1 i v3), ∀ a, (k0_off2 v3) a + S1x512x256.size a ≤ S1x16384x256.size a := fun i v3 k0_hw1 => k0_hw1.2.1
theorem k0_t1_ok : ∀ (i : grid0.Coords) (v3 : BitVec 32) (k0_hw1 : k0_chk1 i v3), (k0_t1_loop i v3).OK := fun i v3 k0_hw1 => k0_hw1.2.2.1
theorem k0_mult2_dvd : ∀ (i : grid0.Coords) (v3 : BitVec 32) (k0_hw1 : k0_chk1 i v3) (k0_t1 : Fin (k0_t1_loop i v3).trips), 512 ∣ (k0_mult2 i v3 k0_t1).toNat := fun i v3 k0_hw1 k0_t1 => k0_hw1.2.2.2.1 k0_t1
theorem k0_off3_inb : ∀ (i : grid0.Coords) (v3 : BitVec 32) (k0_hw1 : k0_chk1 i v3) (k0_t1 : Fin (k0_t1_loop i v3).trips), ∀ (r : Fin 4), ∀ a, (k0_off3 i v3 k0_t1 (BitVec.ofNat 32 r.val)) a + S1x512x256.size a ≤ S1x16384x256.size a := fun i v3 k0_hw1 k0_t1 r => k0_hw1.2.2.2.2.1 k0_t1 r
theorem k0_off4_inb : ∀ (i : grid0.Coords) (v3 : BitVec 32) (k0_hw1 : k0_chk1 i v3) (k0_t1 : Fin (k0_t1_loop i v3).trips), ∀ (r : Fin 4), ∀ a, (k0_off4 i v3 k0_t1 (BitVec.ofNat 32 r.val)) a + S1x1x128x512.size a ≤ S1x32x128x512.size a := fun i v3 k0_hw1 k0_t1 r => k0_hw1.2.2.2.2.2.1 k0_t1 r
theorem k0_mult3_dvd : ∀ (i : grid0.Coords) (v3 : BitVec 32) (k0_hw1 : k0_chk1 i v3) (k0_t1 : Fin (k0_t1_loop i v3).trips), 512 ∣ (k0_mult3 i v3 k0_t1).toNat := fun i v3 k0_hw1 k0_t1 => k0_hw1.2.2.2.2.2.2.1 k0_t1
theorem k0_mult4_dvd : ∀ (i : grid0.Coords) (v3 : BitVec 32) (k0_hw1 : k0_chk1 i v3) (k0_t1 : Fin (k0_t1_loop i v3).trips), 512 ∣ (k0_mult4 i v3 k0_t1).toNat := fun i v3 k0_hw1 k0_t1 => k0_hw1.2.2.2.2.2.2.2.1 k0_t1
theorem k0_mult5_dvd : ∀ (i : grid0.Coords) (v3 : BitVec 32) (k0_hw1 : k0_chk1 i v3) (k0_t1 : Fin (k0_t1_loop i v3).trips), 512 ∣ (k0_mult5 i v3 k0_t1).toNat := fun i v3 k0_hw1 k0_t1 => k0_hw1.2.2.2.2.2.2.2.2.1 k0_t1
theorem k0_t2_ok : ∀ (i : grid0.Coords) (v3 : BitVec 32) (k0_hw1 : k0_chk1 i v3), (k0_t2_loop i v3).OK := fun i v3 k0_hw1 => k0_hw1.2.2.2.2.2.2.2.2.2.1
theorem k0_mult6_dvd : ∀ (i : grid0.Coords) (v3 : BitVec 32) (k0_hw1 : k0_chk1 i v3) (k0_t2 : Fin (k0_t2_loop i v3).trips), 512 ∣ (k0_mult6 i v3 k0_t2).toNat := fun i v3 k0_hw1 k0_t2 => k0_hw1.2.2.2.2.2.2.2.2.2.2.1 k0_t2
theorem k0_off5_inb : ∀ (i : grid0.Coords) (v3 : BitVec 32) (k0_hw1 : k0_chk1 i v3) (k0_t2 : Fin (k0_t2_loop i v3).trips), ∀ (r : Fin 4), ∀ a, (k0_off5 i v3 k0_t2 (BitVec.ofNat 32 r.val)) a + S1x512x256.size a ≤ S1x16384x256.size a := fun i v3 k0_hw1 k0_t2 r => k0_hw1.2.2.2.2.2.2.2.2.2.2.2.1 k0_t2 r
theorem k0_off6_inb : ∀ (i : grid0.Coords) (v3 : BitVec 32) (k0_hw1 : k0_chk1 i v3) (k0_t2 : Fin (k0_t2_loop i v3).trips), ∀ (r : Fin 4), ∀ a, (k0_off6 i v3 k0_t2 (BitVec.ofNat 32 r.val)) a + S1x1x128x512.size a ≤ S1x32x128x512.size a := fun i v3 k0_hw1 k0_t2 r => k0_hw1.2.2.2.2.2.2.2.2.2.2.2.2.1 k0_t2 r
theorem k0_mult7_dvd : ∀ (i : grid0.Coords) (v3 : BitVec 32) (k0_hw1 : k0_chk1 i v3) (k0_t2 : Fin (k0_t2_loop i v3).trips), 512 ∣ (k0_mult7 i v3 k0_t2).toNat := fun i v3 k0_hw1 k0_t2 => k0_hw1.2.2.2.2.2.2.2.2.2.2.2.2.2.1 k0_t2
theorem k0_mult8_dvd : ∀ (i : grid0.Coords) (v3 : BitVec 32) (k0_hw1 : k0_chk1 i v3) (k0_t2 : Fin (k0_t2_loop i v3).trips), 512 ∣ (k0_mult8 i v3 k0_t2).toNat := fun i v3 k0_hw1 k0_t2 => k0_hw1.2.2.2.2.2.2.2.2.2.2.2.2.2.2.1 k0_t2
theorem k0_mult9_dvd : ∀ (i : grid0.Coords) (v3 : BitVec 32) (k0_hw1 : k0_chk1 i v3) (k0_t2 : Fin (k0_t2_loop i v3).trips), 512 ∣ (k0_mult9 i v3 k0_t2).toNat := fun i v3 k0_hw1 k0_t2 => k0_hw1.2.2.2.2.2.2.2.2.2.2.2.2.2.2.2.1 k0_t2
theorem k0_off12_inb : ∀ (i : grid0.Coords) (v3 : BitVec 32) (k0_hw1 : k0_chk1 i v3), ∀ (k0_h3 : k0_cond3 i v3 = 1#1), ∀ (r : Fin 2), ∀ a, (k0_off12 i (BitVec.ofNat 32 r.val)) a + S1x512x256.size a ≤ S1x16384x256.size a := fun i v3 k0_hw1 k0_h3 r => k0_hw1.2.2.2.2.2.2.2.2.2.2.2.2.2.2.2.2.1 k0_h3 r
theorem k0_off15_inb : ∀ (i : grid0.Coords) (v3 : BitVec 32) (k0_hw1 : k0_chk1 i v3), ∀ (k0_h4 : k0_cond4 i v3 = 1#1), ∀ (r : Fin 3), ∀ a, (k0_off15 i (BitVec.ofNat 32 r.val)) a + S1x512x256.size a ≤ S1x16384x256.size a := fun i v3 k0_hw1 k0_h4 r => k0_hw1.2.2.2.2.2.2.2.2.2.2.2.2.2.2.2.2.2 k0_h4 r

def k0_off16 (i : grid0.Coords) (c0_i32_40 : BitVec 32) : Fin 4 → Nat :=
  let c0_43 : Index := 0#32
  let arg1 : BitVec 32 := BitVec.ofNat 32 (i 1).val
  let c1_i32_30 : BitVec 32 := 1#32
  let v66 : BitVec 32 := Scalar.addi arg1 c1_i32_30
  let c4_i32_31 : BitVec 32 := 4#32
  let v67 : BitVec 32 := Scalar.subi v66 c4_i32_31
  let v79 : BitVec 32 := Scalar.addi v67 c0_i32_40
  let c1_i32_41 : BitVec 32 := 1#32
  let v80 : BitVec 32 := Scalar.subi v79 c1_i32_41
  let c0_i32_42 : BitVec 32 := 0#32
  let v81 : BitVec 32 := Scalar.maxsi v80 c0_i32_42
  let v82 : Index := Scalar.indexCast v81
  let c0_44 : Index := 0#32
  let c0_45 : Index := 0#32
  ![0, v82.toNat, 0, 0]
def k0_mult14 (i : grid0.Coords) : BitVec 32 :=
  let arg1 : BitVec 32 := BitVec.ofNat 32 (i 1).val
  let c1_i32_30 : BitVec 32 := 1#32
  let v66 : BitVec 32 := Scalar.addi arg1 c1_i32_30
  let c4_i32_31 : BitVec 32 := 4#32
  let v67 : BitVec 32 := Scalar.subi v66 c4_i32_31
  let c1_i32_59 : BitVec 32 := 1#32
  let v111 : BitVec 32 := Scalar.addi v67 c1_i32_59
  let c1_i32_60 : BitVec 32 := 1#32
  let v112 : BitVec 32 := Scalar.addi v111 c1_i32_60
  let c512_i32_61 : BitVec 32 := 512#32
  let v113 : BitVec 32 := Scalar.muli v112 c512_i32_61
  v113
def k0_mult15 (i : grid0.Coords) : BitVec 32 :=
  let arg1 : BitVec 32 := BitVec.ofNat 32 (i 1).val
  let c1_i32_30 : BitVec 32 := 1#32
  let v66 : BitVec 32 := Scalar.addi arg1 c1_i32_30
  let c4_i32_31 : BitVec 32 := 4#32
  let v67 : BitVec 32 := Scalar.subi v66 c4_i32_31
  let c2_i32_86 : BitVec 32 := 2#32
  let v154 : BitVec 32 := Scalar.addi v67 c2_i32_86
  let c1_i32_87 : BitVec 32 := 1#32
  let v155 : BitVec 32 := Scalar.addi v154 c1_i32_87
  let c512_i32_88 : BitVec 32 := 512#32
  let v156 : BitVec 32 := Scalar.muli v155 c512_i32_88
  v156
def k0_off17 (i : grid0.Coords) : Fin 4 → Nat :=
  let c0_135 : Index := 0#32
  let arg1 : BitVec 32 := BitVec.ofNat 32 (i 1).val
  let v235 : Index := Scalar.indexCast arg1
  let c0_136 : Index := 0#32
  let c0_137 : Index := 0#32
  ![0, v235.toNat, 0, 0]
def k0_cond1 (i : grid0.Coords) (v3 : BitVec 32) : BitVec 1 :=
  let arg1 : BitVec 32 := BitVec.ofNat 32 (i 1).val
  let v50 : BitVec 32 := Scalar.subi arg1 v3
  let c1_i32_22 : BitVec 32 := 1#32
  let v51 : BitVec 32 := Scalar.addi v50 c1_i32_22
  let c4_i32_23 : BitVec 32 := 4#32
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v52 : BitVec 32 := Scalar.muli c4_i32_23 v42
  let v53 : BitVec 32 := Scalar.subi v51 v52
  let c1_i32_24 : BitVec 32 := 1#32
  let v54 : BitVec 1 := Scalar.cmpi .eq v53 c1_i32_24
  let v55 : BitVec 32 := Scalar.extui v54
  let c0_i32_25 : BitVec 32 := 0#32
  let v56 : BitVec 1 := Scalar.cmpi .ne v55 c0_i32_25
  v56

def k0_cond2 (i : grid0.Coords) (v3 : BitVec 32) : BitVec 1 :=
  let arg1 : BitVec 32 := BitVec.ofNat 32 (i 1).val
  let v50 : BitVec 32 := Scalar.subi arg1 v3
  let c1_i32_22 : BitVec 32 := 1#32
  let v51 : BitVec 32 := Scalar.addi v50 c1_i32_22
  let c4_i32_23 : BitVec 32 := 4#32
  let v25 : BitVec 32 := Scalar.subi arg1 v3
  let c0_i32 : BitVec 32 := 0#32
  let v27 : BitVec 1 := Scalar.cmpi .sgt v25 c0_i32
  let v28 : BitVec 32 := Scalar.extui v27
  let c0_i32_14 : BitVec 32 := 0#32
  let v29 : BitVec 1 := Scalar.cmpi .slt v25 c0_i32_14
  let v30 : BitVec 32 := Scalar.extui v29
  let v31 : BitVec 32 := Scalar.subi v28 v30
  let c4_i32 : BitVec 32 := 4#32
  let c0_i32_15 : BitVec 32 := 0#32
  let v32 : BitVec 1 := Scalar.cmpi .sgt c4_i32 c0_i32_15
  let v33 : BitVec 32 := Scalar.extui v32
  let c0_i32_16 : BitVec 32 := 0#32
  let v34 : BitVec 1 := Scalar.cmpi .slt c4_i32 c0_i32_16
  let v35 : BitVec 32 := Scalar.extui v34
  let v36 : BitVec 32 := Scalar.subi v33 v35
  let v37 : BitVec 1 := Scalar.cmpi .ne v31 v36
  let v38 : BitVec 32 := Scalar.remsi v25 c4_i32
  let c0_i32_17 : BitVec 32 := 0#32
  let v39 : BitVec 1 := Scalar.cmpi .ne v38 c0_i32_17
  let v40 : BitVec 1 := Scalar.andi v37 v39
  let v26 : BitVec 32 := Scalar.divsi v25 c4_i32
  let c1_i32 : BitVec 32 := 1#32
  let v41 : BitVec 32 := Scalar.subi v26 c1_i32
  let v42 : BitVec 32 := Scalar.select v40 v41 v26
  let v52 : BitVec 32 := Scalar.muli c4_i32_23 v42
  let v53 : BitVec 32 := Scalar.subi v51 v52
  let c2_i32 : BitVec 32 := 2#32
  let v57 : BitVec 1 := Scalar.cmpi .eq v53 c2_i32
  let v58 : BitVec 32 := Scalar.extui v57
  let c0_i32_26 : BitVec 32 := 0#32
  let v59 : BitVec 1 := Scalar.cmpi .ne v58 c0_i32_26
  v59

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16384x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x32x128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S512x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Proof.Split.lean ====
/- What the two results of the weight split hold after the run: each is the input projection's weights,
   transposed, cut to one range of columns and cast.

   The second operand is read through an element-indexed window (`pl.Element`): block `r` of the second result
   begins at row 4104 + 256 r of the transposed weights, which is no multiple of the block's height. -/
module

public import proofs.«01_k».proof.Defs
public import proofs.«01_k».proof.Proof.Gen.Kernel.Frame
public import proofs.«01_k».proof.Proof.Gen.KernelIdeal.Value
public import proofs.«01_k».proof.Proof.Gen.ReferenceIdeal.Run
public import proofs.«01_k».proof.Proof.Gen.Reference.Run
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.KernelIdeal.Split

open Cert.KernelIdeal Cert.KernelIdeal.Gen

variable {F : FTy → Type} [FloatOps F]
variable (m : (ℓ : Loc nD τ sig) → Buf (Elt F) ℓ)

/-- The index maps of the four windows, at every grid point: layer `t / 16`, block row `t % 16`; the second window's
    values are element offsets. -/
theorem idx : ∀ t : Fin cfg0.N, win0_0.index t = ![t.val / 16, t.val % 16, 0]
    ∧ win0_2.index t = ![t.val / 16, t.val % 16, 0] ∧ win0_3.index t = ![t.val / 16, t.val % 16, 0] :=
  (by decide +kernel : ∀ t : Fin grid0.N, _)

/-- Where the element-indexed window's block begins. -/
theorem off1 : ∀ t : Fin cfg0.N, (win0_1.rect t).off 0 = t.val / 16 ∧ (win0_1.rect t).off 1 = 4104 + 256 * (t.val % 16)
    ∧ (win0_1.rect t).off 2 = 0 :=
  (by decide +kernel : ∀ t : Fin grid0.N, _)

/-- The first 4096 columns of the weights, transposed and cast. -/
abbrev REF1 (W : FVec F S4x4096x8200 .f32) : FVec F S4x4096x4096 .bf16 :=
  truncf .bf16 (transpose S4x4096x4096 [0, 2, 1] (extractStridedSlice S4x4096x4096 ![0, 0, 0] W Cert.ReferenceIdeal.Gen.slices_S4x4096x8200_S4x4096x4096_0_0_0) Cert.ReferenceIdeal.Gen.transposes_S4x4096x4096_S4x4096x4096_0_2_1) Cert.ReferenceIdeal.Gen.bitsLt_bf16_f32

/-- The columns from 4104 on, transposed and cast. -/
abbrev REF2 (W : FVec F S4x4096x8200 .f32) : FVec F S4x4096x4096 .bf16 :=
  truncf .bf16 (transpose S4x4096x4096 [0, 2, 1] (extractStridedSlice S4x4096x4096 ![0, 0, 4104] W Cert.ReferenceIdeal.Gen.slices_S4x4096x8200_S4x4096x4096_0_0_4104) Cert.ReferenceIdeal.Gen.transposes_S4x4096x4096_S4x4096x4096_0_2_1) Cert.ReferenceIdeal.Gen.bitsLt_bf16_f32

/-- The first result after the run. -/
theorem final2 (c : Dev nD) : (dats m 0 c).arrAt 2 (cfgs 0).N = REF1 (m ((c : Thread nD τ).loc main_arg0)) := by
  refine (dats m 0 c).arrAt_eq_of_covers 2 _ (by decide +kernel) fun t _ y => ?_
  blk_simp
  rw [after0_2]
  unfold outsAt0
  frame_out
  pointwise [k0_pay1, REF1]
  unfold X0_0
  unfold Pipeline.Window.fill
  rw [dif_pos (moved0_0 t _)]
  generalize hj : (fun a => ⟨(y a).val, _⟩ : (win0_0.xblock (cfg0.grid.coords t)).Idx) = j
  have hj' : ∀ a, (j a).val = (y a).val := fun a => hj ▸ rfl
  have e : ∀ a, (((View.whole main_v0).slice (win0_0.rect t)).emb j a).val = win0_0.index t a * win0_0.size a + (y a).val :=
    fun a => (win0_0.rect_emb_val t j a).trans (congrArg (_ + ·) (hj' a))
  rw [(idx t).1] at e
  have e0 : (((View.whole main_v0).slice (win0_0.rect t)).emb j 0).val = t.val / 16 * 1 + (y 0).val := e 0
  have e1 : (((View.whole main_v0).slice (win0_0.rect t)).emb j 1).val = t.val % 16 * 256 + (y 1).val := e 1
  have e2 : (((View.whole main_v0).slice (win0_0.rect t)).emb j 2).val = 0 * 4096 + (y 2).val := e 2
  blk_simp [iblk, V, idx t]
  entry_read
  pointwise
  refine congrArg (FloatOps.truncf _ _) (congrArg (m (c.tc.loc main_arg0)) ?_)
  blk_ext [idx t, e0, e1, e2]

/-- The second result after the run. -/
theorem final3 (c : Dev nD) : (dats m 0 c).arrAt 3 (cfgs 0).N = REF2 (m ((c : Thread nD τ).loc main_arg0)) := by
  refine (dats m 0 c).arrAt_eq_of_covers 3 _ (by decide +kernel) fun t _ y => ?_
  blk_simp
  rw [after0_3]
  unfold outsAt0
  frame_out
  pointwise [k0_pay2, REF2]
  have e : ∀ a, (((View.whole main_v0).slice (win0_1.rect t)).emb y a).val = (win0_1.rect t).off a + (y a).val := fun a => win0_1.rect_emb_val_off t y a
  have e0 := e 0
  have e1 := e 1
  have e2 := e 2
  rw [(off1 t).1] at e0
  rw [(off1 t).2.1] at e1
  rw [(off1 t).2.2] at e2
  blk_point [iblk, V, idx t, e0, e1, e2]

/-- The run: both results are the reference's terms of the argument, which ends unchanged. -/
theorem run (ρ : Dev nD → PrngReg) :
    θ_run defs (onTc (τ := τ) (main (F := F))) ⟨m, fun _ => 0, ρ⟩ fun r => ∀ c : Dev nD,
      r.2.mem ((c : Thread nD τ).loc main_v1_0) = REF1 (m ((c : Thread nD τ).loc main_arg0))
      ∧ r.2.mem ((c : Thread nD τ).loc main_v1_1) = REF2 (m ((c : Thread nD τ).loc main_arg0))
      ∧ r.2.mem ((c : Thread nD τ).loc main_arg0) = m ((c : Thread nD τ).loc main_arg0) :=
  (θ_run defs _ _).mono (fun r h c => ⟨(h c).1.trans (final2 m c), (h c).2.1.trans (final3 m c), (h c).2.2⟩)
    (Value.run_blocks m ρ)

end Cert.KernelIdeal.Split

namespace Cert.Proof.Split

theorem frame_k : Cert.quiescent_Kernel := fun m ρ _ => Cert.Kernel.Gen.frame m ρ
theorem frame_ki : Cert.quiescent_KernelIdeal := fun m ρ _ => Cert.KernelIdeal.Gen.frame m ρ
theorem frame_ri : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)
theorem frame_r : Cert.quiescent_Reference := fun m ρ _ =>
  (θ_run Cert.Reference.defs _ _).mono (fun r h => ⟨fun c => (h c).2.2, sem_eq_zero_of_no_sems (by decide) r.2⟩)
    (Cert.Reference.Value.run (F := Bits) m ρ)
theorem preserves : Cert.preserves_Kernel_KernelIdeal := trivial

/-- At `Ideal` the two results are the reference's, argument for argument. -/
theorem algebraic : Cert.algebraic_KernelIdeal_ReferenceIdeal := by
  intro m ρ m' ρ' _ hagree
  refine ⟨fun c => Cert.KernelIdeal.Split.REF1 (F := Ideal) (m ((c.tc : Thread _ _).loc Cert.KernelIdeal.main_arg0)),
    fun c => Cert.KernelIdeal.Split.REF2 (F := Ideal) (m ((c.tc : Thread _ _).loc Cert.KernelIdeal.main_arg0)),
    ?_, ?_⟩
  · exact Cert.KernelIdeal.Split.run (F := Ideal) m ρ
  refine (θ_run Cert.ReferenceIdeal.defs _ _).mono (fun r h c => ⟨(h c).1.trans ?_, (h c).2.1.trans ?_, (h c).2.2⟩)
    (Cert.ReferenceIdeal.Value.run (F := Ideal) m' ρ')
  · rw [hagree c]
  · rw [hagree c]

/-- The two printings of the kernel have one body table. -/
theorem defs_eq : Cert.Kernel.defs (F := Bits) = Cert.KernelIdeal.defs (F := Bits) := by
  unfold Cert.Kernel.defs Cert.KernelIdeal.defs
  refine congrArg _ ?_
  unfold Cert.Kernel.defs₀ Cert.KernelIdeal.defs₀
  congr 1
  funext l x
  match l with
  | 0 => rfl

/-- And bit for bit. -/
theorem bitexact : Cert.bitexact_Kernel_Reference := by
  intro m ρ m' ρ' _ hagree
  refine ⟨fun c => Cert.KernelIdeal.Split.REF1 (F := Bits) (m ((c.tc : Thread _ _).loc Cert.Kernel.main_arg0)),
    fun c => Cert.KernelIdeal.Split.REF2 (F := Bits) (m ((c.tc : Thread _ _).loc Cert.Kernel.main_arg0)),
    ?_, ?_⟩
  · rw [defs_eq]
    exact Cert.KernelIdeal.Split.run (F := Bits) m ρ
  refine (θ_run Cert.Reference.defs _ _).mono (fun r h c => ⟨(h c).1.trans ?_, (h c).2.1.trans ?_, (h c).2.2⟩)
    (Cert.Reference.Value.run (F := Bits) m' ρ')
  · rw [hagree c]
  · rw [hagree c]

end Cert.Proof.Split

end
-- ==== Proof.Norm.lean ====
/- The algebra a normalisation by the root mean square needs over the extended reals: a row's scale is a nonnegative
   number below infinity, so it may be taken out of a sum of products whatever the terms are. -/
module

public import Idealize.ShloMosaic.Lib.Pointwise

@[expose] public section

noncomputable section

open Idealize.ShloMosaic

namespace Cert.Proof.Norm

/-- A product of a number with itself is nonnegative. -/
theorem sq_nonneg (x : EReal) : 0 ≤ x * x := by
  rcases le_total 0 x with h | h
  · exact mul_nonneg h h
  · rw [← neg_mul_neg]
    exact mul_nonneg (EReal.neg_nonneg.2 h) (EReal.neg_nonneg.2 h)

/-- The small constant added to the mean is a positive real. -/
theorem eps_pos : ∃ e : ℝ, 0 < e ∧ Ideal.ofBits .f32 0x358637BD#32 = (e : EReal) := by
  refine ⟨(8796093 : ℝ) * 2 ^ (-43 : Int), by positivity, ?_⟩
  simp [Ideal.ofBits, Ideal.ieee, -EReal.coe_mul]

/-- The row length is a positive real. -/
theorem len_pos : Ideal.ofBits .f32 0x45800000#32 = ((4096 : ℝ) : EReal) := by
  simp [Ideal.ofBits, Ideal.ieee, -EReal.coe_mul]
  norm_num

/-- A row's scale, from the sum `s` of its squares. -/
def scale (s : EReal) : EReal :=
  Ideal.rsqrt (Ideal.div s (Ideal.ofBits .f32 0x45800000#32) + Ideal.ofBits .f32 0x358637BD#32)

/-- It is nonnegative and not infinite where the sum is nonnegative. -/
theorem scale_fin (s : EReal) (hs : 0 ≤ s) : 0 ≤ scale s ∧ scale s ≠ ⊤ := by
  obtain ⟨e, he, hE⟩ := eps_pos
  unfold scale
  rw [hE, len_pos]
  unfold Ideal.div
  rw [if_neg (by norm_num)]
  induction s with
  | bot => simp at hs
  | top =>
    rw [← EReal.coe_inv, EReal.top_mul_coe_of_pos (by norm_num), EReal.top_add_coe]
    exact ⟨le_refl (0 : EReal), EReal.zero_ne_top⟩
  | coe r =>
    have hr : 0 ≤ r := by exact_mod_cast hs
    have hp : 0 < r * (4096 : ℝ)⁻¹ + e := by positivity
    rw [← EReal.coe_inv, ← EReal.coe_mul, ← EReal.coe_add]
    show 0 ≤ (if r * (4096 : ℝ)⁻¹ + e < 0 then (⊥ : EReal) else if r * (4096 : ℝ)⁻¹ + e = 0 then ⊤ else (((Real.sqrt (r * (4096 : ℝ)⁻¹ + e))⁻¹ : ℝ) : EReal))
      ∧ (if r * (4096 : ℝ)⁻¹ + e < 0 then (⊥ : EReal) else if r * (4096 : ℝ)⁻¹ + e = 0 then ⊤ else (((Real.sqrt (r * (4096 : ℝ)⁻¹ + e))⁻¹ : ℝ) : EReal)) ≠ ⊤
    rw [if_neg (not_lt.2 hp.le), if_neg hp.ne']
    exact ⟨by exact_mod_cast inv_nonneg.2 (Real.sqrt_nonneg _), EReal.coe_ne_top _⟩

/-- A nonnegative finite factor comes out of a sum. -/
theorem sum_mul {n : ℕ} (f : Fin n → EReal) (r : EReal) (h0 : 0 ≤ r) (h1 : r ≠ ⊤) : (∑ k, f k) * r = ∑ k, f k * r := by
  classical
  refine Finset.induction_on (Finset.univ : Finset (Fin n)) (by simp) fun a s ha ih => ?_
  rw [Finset.sum_insert ha, Finset.sum_insert ha, EReal.right_distrib_of_nonneg_of_ne_top h0 h1, ih]

/-- A contraction of a row scaled first is the contraction of the row unscaled, scaled after. -/
theorem contract {n : ℕ} (x g w : Fin n → EReal) :
    ∑ k, x k * scale (∑ j, x j * x j) * g k * w k = (∑ k, x k * g k * w k) * scale (∑ j, x j * x j) := by
  obtain ⟨h0, h1⟩ := scale_fin (∑ j, x j * x j) (Finset.sum_nonneg fun j _ => sq_nonneg (x j))
  rw [sum_mul _ _ h0 h1]
  exact Finset.sum_congr rfl fun k _ => by ac_rfl

end Cert.Proof.Norm

end
-- ==== Proof.Part2.lean ====
/- What the feed-forward block's activation holds after the run: the rows are weighted and their squares summed
   first, the two contractions are scaled by the row's scale after; the reference normalises first. -/
module

public import proofs.«01_k».proof.Defs
public import proofs.«01_k».proof.Proof.Gen.Kernel2.Frame
public import proofs.«01_k».proof.Proof.Gen.Kernel2Ideal.Frame
public import proofs.«01_k».proof.Proof.Gen.Reference2Ideal.Run
public import proofs.«01_k».proof.Proof.Norm
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic
open Idealize.SL.Sem
open Idealize.ShloMosaic.Pipeline (Dat)

namespace Cert.Reference2Ideal.FfnAct

open Cert.Reference2Ideal Cert.Reference2Ideal.Gen

/-- The reference's term of its four arguments. -/
def REF (A0 : FVec Ideal S16384x4096 .f32) (A1 : FVec Ideal S4x4096 .f32) (A2 : FVec Ideal S4x4096x11008 .f32) (A3 : FVec Ideal S4x4096x11008 .f32) : FVec Ideal S16384x11008 .bf16 :=
  truncf .bf16 (mulf (mulf (Host.dotGeneral dot_S16384x4096_S4096x11008_S16384x11008_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (shapeCast _ (extractStridedSlice S1x4096x11008 ![0, 0, 0] A2 slices_S4x4096x11008_S1x4096x11008_0_0_0) shapeCasts_S1x4096x11008_S4096x11008)) (Host.divf (broadcastInDim S16384x11008 ![] bcast_S_S16384x11008 (constant S_ .f32 0x3F800000#32)) (addf (broadcastInDim S16384x11008 ![] bcast_S_S16384x11008 (constant S_ .f32 0x3F800000#32)) (Host.exp (Host.negf (Host.dotGeneral dot_S16384x4096_S4096x11008_S16384x11008_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (shapeCast _ (extractStridedSlice S1x4096x11008 ![0, 0, 0] A2 slices_S4x4096x11008_S1x4096x11008_0_0_0) shapeCasts_S1x4096x11008_S4096x11008))))))) (Host.dotGeneral dot_S16384x4096_S4096x11008_S16384x11008_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (shapeCast _ (extractStridedSlice S1x4096x11008 ![0, 0, 0] A3 slices_S4x4096x11008_S1x4096x11008_0_0_0) shapeCasts_S1x4096x11008_S4096x11008))) bitsLt_bf16_f32

end Cert.Reference2Ideal.FfnAct

namespace Cert.Kernel2Ideal.FfnAct

open Cert.Kernel2Ideal Cert.Kernel2Ideal.Gen
open Cert.Reference2Ideal.FfnAct (REF)

section Whole

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, the result named: the last region leaves its output array in it, and the arguments are as launched. -/
theorem run_arr : θ_run defs (onTc (τ := τ) (main (F := F))) ⟨m, fun _ => 0, ρ⟩ (fun r => ∀ c : Dev nD,
      r.2.mem ((c.tc : Thread nD τ).loc main_v6) = (dat1 (V3 m ρ) c).arrAt 4 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v6 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Whole

variable (m : (ℓ : Loc nD τ sig) → Buf (Elt Ideal) ℓ) (ρ : Dev nD → PrngReg)

/-- The first call's index maps: row block `t`. -/
theorem idx0 : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The second call's: row block `t / 43`, column block `t % 43`. -/
theorem idx1 : ∀ t : Fin cfg1.N, win1_0.index t = ![t.val / 43, 0] ∧ win1_1.index t = ![t.val / 43, 0]
    ∧ win1_2.index t = ![0, 0, t.val % 43] ∧ win1_3.index t = ![0, 0, t.val % 43]
    ∧ win1_4.index t = ![t.val / 43, t.val % 43] :=
  (by decide +kernel : ∀ t : Fin grid1.N, _)

/-- The rows, weighted. -/
def HG (H : FVec Ideal S16384x4096 .f32) (G : FVec Ideal S4x4096 .f32) : FVec Ideal S16384x4096 .bf16 :=
  fun j => H j * G (ix2 0 (j 1))

/-- The sums of the rows' squares. -/
def SQ (H : FVec Ideal S16384x4096 .f32) : FVec Ideal S16384x1 .f32 :=
  fun j => ∑ k : Fin 4096, H (ix2 (j 0) k) * H (ix2 (j 0) k)

theorem final0_2 (c : Dev nD) : (dat0 (V1 m ρ) c).arrAt 2 cfg0.N = HG (m ((c : Thread nD τ).loc main_arg0)) (m ((c : Thread nD τ).loc main_arg1)) := by
  refine (dat0 (V1 m ρ) c).arrAt_eq_of_covers 2 _ (by decide +kernel) fun t _ y => ?_
  blk_simp
  rw [after0_2]
  frame_out
  pointwise [k0_pay2, HG]
  blk_point [iblk0, V1, W1, idx0 t]

theorem final0_3 (c : Dev nD) : (dat0 (V1 m ρ) c).arrAt 3 cfg0.N = SQ (m ((c : Thread nD τ).loc main_arg0)) := by
  refine (dat0 (V1 m ρ) c).arrAt_eq_of_covers 3 _ (by decide +kernel) fun t _ y => ?_
  blk_simp
  rw [after0_3]
  frame_out
  pointwise [k0_pay1, SQ]
  blk_point [iblk0, V1, W1, idx0 t]

theorem v3_hg (c : Dev nD) : V3 m ρ c main_v3_0 = HG (m ((c : Thread nD τ).loc main_arg0)) (m ((c : Thread nD τ).loc main_arg1)) :=
  (W3_of m ρ c main_v3_0 (by decide)).trans ((W2_arr m ρ c 2).trans (final0_2 m ρ c))
theorem v3_sq (c : Dev nD) : V3 m ρ c main_v3_1 = SQ (m ((c : Thread nD τ).loc main_arg0)) :=
  (W3_of m ρ c main_v3_1 (by decide)).trans ((W2_arr m ρ c 3).trans (final0_3 m ρ c))
theorem v3_wg (c : Dev nD) : V3 m ρ c main_v4 = truncf .bf16 (show FVec Ideal S4x4096x11008 .f32 from (m ((c : Thread nD τ).loc main_arg2))) bitsLt_bf16_f32 := by
  show StableHlo.after hostOps1 (W2 m ρ c) main_v4 = _
  after_results
  rw [W2_args m ρ c main_arg2 (by decide)]
theorem v3_wu (c : Dev nD) : V3 m ρ c main_v5 = truncf .bf16 (show FVec Ideal S4x4096x11008 .f32 from (m ((c : Thread nD τ).loc main_arg3))) bitsLt_bf16_f32 := by
  show StableHlo.after hostOps1 (W2 m ρ c) main_v5 = _
  after_results
  rw [W2_args m ρ c main_arg3 (by decide)]

/-- A contraction of the normalised rows is the contraction of the weighted rows, scaled after. -/
theorem dot_eq (H : FVec Ideal S16384x4096 .f32) (G : FVec Ideal S4x4096 .f32) (W : FVec Ideal S4x4096x11008 .f32)
    (a : Fin 16384) (b : Fin 11008) :
    ∑ k : Fin 4096, H (ix2 a k) * Ideal.rsqrt (Ideal.div (∑ l : Fin 4096, H (ix2 a l) * H (ix2 a l)) (Ideal.ofBits .f32 0x45800000#32)
        + Ideal.ofBits .f32 0x358637BD#32) * G (ix2 0 k) * W (ix3 0 k b)
      = (∑ k : Fin 4096, HG H G (ix2 a k) * W (ix3 0 k b)) * Ideal.rsqrt (Ideal.div (SQ H (ix2 a 0)) (Ideal.ofBits .f32 0x45800000#32)
        + Ideal.ofBits .f32 0x358637BD#32) :=
  Cert.Proof.Norm.contract (fun k => H (ix2 a k)) (fun k => G (ix2 0 k)) (fun k => W (ix3 0 k b))

/-- The gated product of the two contractions, scaled after. -/
theorem ref_form (H : FVec Ideal S16384x4096 .f32) (G : FVec Ideal S4x4096 .f32) (Wg Wu : FVec Ideal S4x4096x11008 .f32)
    (j : S16384x11008.Idx) :
    REF H G Wg Wu j
      = ((∑ k : Fin 4096, HG H G (ix2 (j 0) k) * Wg (ix3 0 k (j 1))) * Ideal.rsqrt (Ideal.div (SQ H (ix2 (j 0) 0)) (Ideal.ofBits .f32 0x45800000#32)
        + Ideal.ofBits .f32 0x358637BD#32))
        * Ideal.logistic ((∑ k : Fin 4096, HG H G (ix2 (j 0) k) * Wg (ix3 0 k (j 1))) * Ideal.rsqrt (Ideal.div (SQ H (ix2 (j 0) 0)) (Ideal.ofBits .f32 0x45800000#32)
        + Ideal.ofBits .f32 0x358637BD#32))
        * ((∑ k : Fin 4096, HG H G (ix2 (j 0) k) * Wu (ix3 0 k (j 1))) * Ideal.rsqrt (Ideal.div (SQ H (ix2 (j 0) 0)) (Ideal.ofBits .f32 0x45800000#32)
        + Ideal.ofBits .f32 0x358637BD#32)) := by
  rw [← dot_eq H G Wg (j 0) (j 1), ← dot_eq H G Wu (j 0) (j 1)]
  simp only [Ideal.logistic]
  pointwise [REF]

section Blocks

variable (V : (c : Dev nD) → (b : Ref sig .tc) → Buf (Elt Ideal) ((c : Thread nD τ).loc b)) (c : Dev nD) (t : Fin cfg1.N)
  (a : Fin 1024) (i : Fin 16384) (hi : i.val = t.val / 43 * 1024 + a.val)

include hi

/-- The weighted rows' block. -/
theorem blk_rows (k : Fin 4096) : (show FVec Ideal S1024x4096 .bf16 from iblk1 V c 0 t) (ix2 a k)
    = (show FVec Ideal S16384x4096 .bf16 from V c main_v3_0) (ix2 i k) := by
  blk_point [iblk1, idx1 t, hi]

/-- The block of the sums of squares. -/
theorem blk_sums : (show FVec Ideal S1024x1 .f32 from iblk1 V c 1 t) (ix2 a 0)
    = (show FVec Ideal S16384x1 .f32 from V c main_v3_1) (ix2 i 0) := by
  blk_point [iblk1, idx1 t, hi]

omit hi
variable (b : Fin 256) (o : Fin 11008) (ho : o.val = t.val % 43 * 256 + b.val)
include ho

/-- The gate weights' block. -/
theorem blk_gate (k : Fin 4096) : (show FVec Ideal S1x4096x256 .bf16 from iblk1 V c 2 t) (ix3 0 k b)
    = (show FVec Ideal S4x4096x11008 .bf16 from V c main_v4) (ix3 0 k o) := by
  blk_point [iblk1, idx1 t, ho]

/-- The up weights' block. -/
theorem blk_up (k : Fin 4096) : (show FVec Ideal S1x4096x256 .bf16 from iblk1 V c 3 t) (ix3 0 k b)
    = (show FVec Ideal S4x4096x11008 .bf16 from V c main_v5) (ix3 0 k o) := by
  blk_point [iblk1, idx1 t, ho]

end Blocks

/-- The result after the second call, from any contents it may find. -/
theorem final_of (V : (c : Dev nD) → (b : Ref sig .tc) → Buf (Elt Ideal) ((c : Thread nD τ).loc b)) (c : Dev nD)
    (H : FVec Ideal S16384x4096 .f32) (G : FVec Ideal S4x4096 .f32) (Wg Wu : FVec Ideal S4x4096x11008 .f32)
    (h0 : V c main_v3_0 = HG H G) (h1 : V c main_v3_1 = SQ H)
    (h2 : V c main_v4 = truncf .bf16 Wg bitsLt_bf16_f32) (h3 : V c main_v5 = truncf .bf16 Wu bitsLt_bf16_f32) :
    (dat1 V c).arrAt 4 cfg1.N = REF H G Wg Wu := by
  refine (dat1 V c).arrAt_eq_of_covers 4 _ (by decide +kernel) fun t _ y => ?_
  blk_simp
  rw [after1_4]
  frame_out
  rw [ref_form]
  pointwise [k1_pay1]
  have hi : ((win1_4.blk t).view.emb y 0).val = t.val / 43 * 1024 + (y 0).val := by blk_simp [idx1 t]
  have ho : ((win1_4.blk t).view.emb y 1).val = t.val % 43 * 256 + (y 1).val := by blk_simp [idx1 t]
  have eg : ∀ x : Fin 4096, _ := blk_gate V c t _ _ ho
  have eu : ∀ x : Fin 4096, _ := blk_up V c t _ _ ho
  have er : ∀ x : Fin 4096, _ := blk_rows V c t _ _ hi
  have es := blk_sums V c t _ _ hi
  simp only [h0, h1, h2, h3] at eg eu er es
  have e := congrArg (fun s => Ideal.rsqrt (Ideal.div s (Ideal.ofBits .f32 0x45800000#32) + Ideal.ofBits .f32 0x358637BD#32)) es
  have g := Ideal.mul_congr (Finset.sum_congr (rfl : (Finset.univ : Finset (Fin 4096)) = _) fun x _ => Ideal.mul_congr (er x) (eg x)) e
  have u := Ideal.mul_congr (Finset.sum_congr (rfl : (Finset.univ : Finset (Fin 4096)) = _) fun x _ => Ideal.mul_congr (er x) (eu x)) e
  exact Ideal.mul_congr (Ideal.mul_congr g (congrArg Ideal.logistic g)) u

theorem final (c : Dev nD) : (dat1 (V3 m ρ) c).arrAt 4 cfg1.N = REF (m ((c : Thread nD τ).loc main_arg0)) (m ((c : Thread nD τ).loc main_arg1)) (m ((c : Thread nD τ).loc main_arg2)) (m ((c : Thread nD τ).loc main_arg3)) :=
  final_of (V3 m ρ) c _ _ _ _ (v3_hg m ρ c) (v3_sq m ρ c) (v3_wg m ρ c) (v3_wu m ρ c)

/-- The run: the result is the reference's term of the arguments, which end unchanged. -/
theorem run :
    θ_run defs (onTc (τ := τ) (main (F := Ideal))) ⟨m, fun _ => 0, ρ⟩ fun r => ∀ c : Dev nD,
      r.2.mem ((c : Thread nD τ).loc main_v6) = REF (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m ρ c), (h c).2⟩)
    (run_arr m ρ)

end Cert.Kernel2Ideal.FfnAct

namespace Cert.Proof.FfnAct

theorem frame_k : Cert.quiescent_Kernel2 := fun m ρ _ => Cert.Kernel2.Gen.frame m ρ
theorem frame_ki : Cert.quiescent_Kernel2Ideal := fun m ρ _ => Cert.Kernel2Ideal.Gen.frame m ρ
theorem frame_ri : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)
theorem preserves : Cert.preserves_Kernel2_Kernel2Ideal := trivial

/-- At `Ideal` the result is the reference's, argument for argument. -/
theorem algebraic : Cert.algebraic_Kernel2Ideal_Reference2Ideal := by
  intro m ρ m' ρ' _ hagree
  refine ⟨fun c => Cert.Reference2Ideal.FfnAct.REF (m ((c.tc : Thread _ _).loc Cert.Kernel2Ideal.main_arg0)) (m ((c.tc : Thread _ _).loc Cert.Kernel2Ideal.main_arg1)) (m ((c.tc : Thread _ _).loc Cert.Kernel2Ideal.main_arg2)) (m ((c.tc : Thread _ _).loc Cert.Kernel2Ideal.main_arg3)),
    ?_, ?_⟩
  · exact Cert.Kernel2Ideal.FfnAct.run m ρ
  refine (θ_run Cert.Reference2Ideal.defs _ _).mono (fun r h c => ⟨(h c).1.trans ?_, (h c).2⟩)
    (Cert.Reference2Ideal.Value.run (F := Ideal) m' ρ')
  · rw [(hagree c).1, (hagree c).2.1, (hagree c).2.2.1, (hagree c).2.2.2]
    rfl

end Cert.Proof.FfnAct

end
-- ==== Proof.Part3.lean ====
/- What the three results of the feed-forward block's down projection hold after the run: the residual sum, its
   product with the next norm's weights, and the sum of its squares along a row. -/
module

public import proofs.«01_k».proof.Defs
public import proofs.«01_k».proof.Proof.Gen.Kernel3.Frame
public import proofs.«01_k».proof.Proof.Gen.Kernel3Ideal.Value
public import proofs.«01_k».proof.Proof.Gen.Reference3Ideal.Run
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel3Ideal.Resid

open Cert.Kernel3Ideal Cert.Kernel3Ideal.Gen

variable (m : (ℓ : Loc nD τ sig) → Buf (Elt Ideal) ℓ)

/-- The index maps of the seven windows, at every grid point: row block `t / 8`, column block `t % 8`. -/
theorem idx : ∀ t : Fin cfg0.N, win0_0.index t = ![t.val / 8, 0] ∧ win0_1.index t = ![0, 0, t.val % 8]
    ∧ win0_2.index t = ![t.val / 8, t.val % 8] ∧ win0_3.index t = ![0, 0, t.val % 8]
    ∧ win0_4.index t = ![t.val / 8, t.val % 8] ∧ win0_5.index t = ![t.val / 8, t.val % 8]
    ∧ win0_6.index t = ![t.val / 8, 0] :=
  (by decide +kernel : ∀ t : Fin grid0.N, _)

/-- The residual sum. -/
def HN (X : FVec Ideal S16384x11008 .bf16) (W : FVec Ideal S4x11008x4096 .f32) (H : FVec Ideal S16384x4096 .f32) : FVec Ideal S16384x4096 .f32 :=
  addf H (Host.dotGeneral Cert.Reference3Ideal.dot_S16384x11008_S11008x4096_S16384x4096_1_0_0_1_n_n none (extf .f32 X Cert.Reference3Ideal.Gen.bitsLt_bf16_f32) (shapeCast _ (extractStridedSlice Cert.Reference3Ideal.S1x11008x4096 ![0, 0, 0] W Cert.Reference3Ideal.Gen.slices_S4x11008x4096_S1x11008x4096_0_0_0) Cert.Reference3Ideal.Gen.shapeCasts_S1x11008x4096_S11008x4096))

/-- Its product with the norm's weights. -/
def HG (X : FVec Ideal S16384x11008 .bf16) (W : FVec Ideal S4x11008x4096 .f32) (H : FVec Ideal S16384x4096 .f32) (G : FVec Ideal S4x4096 .f32) : FVec Ideal S16384x4096 .bf16 :=
  truncf .bf16 (mulf (HN X W H) (broadcastInDim S16384x4096 ![0, 1] Cert.Reference3Ideal.Gen.bcast_S1x4096_S16384x4096_0_1 (broadcastInDim Cert.Reference3Ideal.S1x4096 ![1] Cert.Reference3Ideal.Gen.bcast_S4096_S1x4096_1 (shapeCast _ (extractStridedSlice Cert.Reference3Ideal.S1x4096 ![0, 0] G Cert.Reference3Ideal.Gen.slices_S4x4096_S1x4096_0_0) Cert.Reference3Ideal.Gen.shapeCasts_S1x4096_S4096)))) Cert.Reference3Ideal.Gen.bitsLt_bf16_f32

/-- The sum of its squares along each row. -/
def SQ (X : FVec Ideal S16384x11008 .bf16) (W : FVec Ideal S4x11008x4096 .f32) (H : FVec Ideal S16384x4096 .f32) : FVec Ideal S16384x1 .f32 :=
  broadcastInDim S16384x1 ![0] Cert.Reference3Ideal.Gen.bcast_S16384_S16384x1_0 (Host.reduceAdd (mulf (HN X W H) (HN X W H)) (constant Cert.Reference3Ideal.S_ .f32 0x00000000#32) Cert.Reference3Ideal.Gen.reducesTo_S16384x4096_S16384_d1 Cert.Reference3Ideal.Gen.h_S_)

/-- One element of a block of the residual sum is the array's. -/
theorem core (c : Dev nD) (t : Fin cfg0.N) (y : S512x512.Idx) (j : S16384x4096.Idx)
    (h0 : (j 0 : ℕ) = t.val / 8 * 512 + y 0) (h1 : (j 1 : ℕ) = t.val % 8 * 512 + y 1) :
    k0_pay1 (F := Ideal) (iblk m c 2 t) (iblk m c 0 t) (iblk m c 1 t) y
      = HN (m ((c : Thread nD τ).loc main_arg0)) (m ((c : Thread nD τ).loc main_arg1)) (m ((c : Thread nD τ).loc main_arg2)) j := by
  pointwise [k0_pay1, HN]
  blk_point [iblk, V, idx t, h0, h1]

/-- One element of a block of its product with the weights is the array's. -/
theorem core_g (c : Dev nD) (t : Fin cfg0.N) (y : S512x512.Idx) (j : S16384x4096.Idx)
    (h0 : (j 0 : ℕ) = t.val / 8 * 512 + y 0) (h1 : (j 1 : ℕ) = t.val % 8 * 512 + y 1) :
    k0_pay2 (F := Ideal) (iblk m c 2 t) (iblk m c 0 t) (iblk m c 1 t) (iblk m c 3 t) y
      = HG (m ((c : Thread nD τ).loc main_arg0)) (m ((c : Thread nD τ).loc main_arg1)) (m ((c : Thread nD τ).loc main_arg2)) (m ((c : Thread nD τ).loc main_arg3)) j := by
  have e := core m c t y j h0 h1
  pointwise [k0_pay2, HG]
  refine Ideal.mul_congr e ?_
  blk_point [iblk, V, idx t, h0, h1]

/-- One row's sum over a block. -/
theorem row (x : FVec Ideal S512x11008 .bf16) (w : FVec Ideal S1x11008x512 .bf16) (h : FVec Ideal S512x512 .f32) (j : S512x1.Idx) :
    k0_pay3 (F := Ideal) h x w j = ∑ k : Fin 512, k0_pay1 (F := Ideal) h x w (ix2 (j 0) k) * k0_pay1 (F := Ideal) h x w (ix2 (j 0) k) := by
  pointwise [k0_pay3]

theorem row_acc (x : FVec Ideal S512x11008 .bf16) (w : FVec Ideal S1x11008x512 .bf16) (h : FVec Ideal S512x512 .f32) (p : FVec Ideal S512x1 .f32) (j : S512x1.Idx) :
    k0_pay4 (F := Ideal) h x w p j = p j + ∑ k : Fin 512, k0_pay1 (F := Ideal) h x w (ix2 (j 0) k) * k0_pay1 (F := Ideal) h x w (ix2 (j 0) k) := by
  pointwise [k0_pay4, row]

theorem sq (X : FVec Ideal S16384x11008 .bf16) (W : FVec Ideal S4x11008x4096 .f32) (H : FVec Ideal S16384x4096 .f32) (j : S16384x1.Idx) :
    SQ X W H j = ∑ k : Fin 4096, HN X W H (ix2 (j 0) k) * HN X W H (ix2 (j 0) k) := by
  pointwise [SQ]

/-- The first result after the run. -/
theorem final4 (c : Dev nD) : (dats m 0 c).arrAt 4 (cfgs 0).N
    = HN (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h0 : t.val % 8 = 0
  · rw [outsAt0_A m c t h0 (by omega)]
    frame_out
    refine core m c t _ _ ?_ ?_ <;> blk_simp [idx t]
  · rw [outsAt0_B m c t h0 (by omega)]
    frame_out
    refine core m c t _ _ ?_ ?_ <;> blk_simp [idx t]

/-- The second result after the run. -/
theorem final5 (c : Dev nD) : (dats m 0 c).arrAt 5 (cfgs 0).N
    = HG (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h0 : t.val % 8 = 0
  · rw [outsAt0_A m c t h0 (by omega)]
    frame_out
    refine core_g m c t _ _ ?_ ?_ <;> blk_simp [idx t]
  · rw [outsAt0_B m c t h0 (by omega)]
    frame_out
    refine core_g m c t _ _ ?_ ?_ <;> blk_simp [idx t]

/-- The third result after the run: eight column blocks' sums, added in order. -/
theorem final6 (c : Dev nD) : (dats m 0 c).arrAt 6 (cfgs 0).N
    = SQ (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
      (fun p j => ∑ k : Fin 512, k0_pay1 (F := Ideal) (iblk m c 2 p) (iblk m c 0 p) (iblk m c 1 p) (ix2 (j 0) k)
        * k0_pay1 (F := Ideal) (iblk m c 2 p) (iblk m c 0 p) (iblk m c 1 p) (ix2 (j 0) k))
    (fun t h j => by rw [outsAt0_A m c t h (by omega)]; frame_out; rw [row, zero_add])
    (fun t h j => by rw [outsAt0_B m c t h (by omega)]; frame_out; rw [row_acc])
    t ((flush0_6 t).mp hf) _, zero_add, sq]
  refine Fin.sum_mul_add_congr fun s k hl => ?_
  have e : ∀ y : S512x512.Idx, ∀ j : S16384x4096.Idx, _ := core m c ⟨_, Pipeline.run_point_lt_of_flush t ((flush0_6 t).mp hf) s⟩
  rw [e _ _ ?_ ?_]
  · have := s.isLt
    have hi := (idx t).2.2.2.2.2.2
    blk_simp [hi]
    show t.val / 8 * 512 + (y 0).val = (8 * (t.val / 8) + s.val) / 8 * 512 + (y 0).val
    omega
  · have := s.isLt
    show s.val * 512 + k.val = (8 * (t.val / 8) + s.val) % 8 * 512 + k.val
    omega

/-- The run: the three results are the reference's terms of the arguments, which end unchanged. -/
theorem run (ρ : Dev nD → PrngReg) :
    θ_run defs (onTc (τ := τ) (main (F := Ideal))) ⟨m, fun _ => 0, ρ⟩ fun r => ∀ c : Dev nD,
      r.2.mem ((c : Thread nD τ).loc main_v2_0) = HN (m ((c : Thread nD τ).loc main_arg0)) (m ((c : Thread nD τ).loc main_arg1)) (m ((c : Thread nD τ).loc main_arg2))
      ∧ r.2.mem ((c : Thread nD τ).loc main_v2_1) = HG (m ((c : Thread nD τ).loc main_arg0)) (m ((c : Thread nD τ).loc main_arg1)) (m ((c : Thread nD τ).loc main_arg2)) (m ((c : Thread nD τ).loc main_arg3))
      ∧ r.2.mem ((c : Thread nD τ).loc main_v2_2) = SQ (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.Kernel3Ideal.Resid

namespace Cert.Proof.Resid3

theorem frame_k : Cert.quiescent_Kernel3 := fun m ρ _ => Cert.Kernel3.Gen.frame m ρ
theorem frame_ki : Cert.quiescent_Kernel3Ideal := fun m ρ _ => Cert.Kernel3Ideal.Gen.frame m ρ
theorem frame_ri : Cert.quiescent_Reference3Ideal := fun m ρ _ =>
  (θ_run Cert.Reference3Ideal.defs _ _).mono (fun r h => ⟨fun c => (h c).2.2.2, sem_eq_zero_of_no_sems (by decide) r.2⟩)
    (Cert.Reference3Ideal.Value.run (F := Ideal) m ρ)
theorem preserves : Cert.preserves_Kernel3_Kernel3Ideal := trivial

/-- At `Ideal` the three results are the reference's, argument for argument. -/
theorem algebraic : Cert.algebraic_Kernel3Ideal_Reference3Ideal := by
  intro m ρ m' ρ' _ hagree
  refine ⟨fun c => Cert.Kernel3Ideal.Resid.HN (m ((c.tc : Thread _ _).loc Cert.Kernel3Ideal.main_arg0)) (m ((c.tc : Thread _ _).loc Cert.Kernel3Ideal.main_arg1)) (m ((c.tc : Thread _ _).loc Cert.Kernel3Ideal.main_arg2)),
    fun c => Cert.Kernel3Ideal.Resid.HG (m ((c.tc : Thread _ _).loc Cert.Kernel3Ideal.main_arg0)) (m ((c.tc : Thread _ _).loc Cert.Kernel3Ideal.main_arg1)) (m ((c.tc : Thread _ _).loc Cert.Kernel3Ideal.main_arg2)) (m ((c.tc : Thread _ _).loc Cert.Kernel3Ideal.main_arg3)),
    fun c => Cert.Kernel3Ideal.Resid.SQ (m ((c.tc : Thread _ _).loc Cert.Kernel3Ideal.main_arg0)) (m ((c.tc : Thread _ _).loc Cert.Kernel3Ideal.main_arg1)) (m ((c.tc : Thread _ _).loc Cert.Kernel3Ideal.main_arg2)),
    ?_, ?_⟩
  · exact Cert.Kernel3Ideal.Resid.run m ρ
  refine (θ_run Cert.Reference3Ideal.defs _ _).mono (fun r h c => ⟨(h c).1.trans ?_, (h c).2.1.trans ?_, (h c).2.2.1.trans ?_, (h c).2.2.2⟩)
    (Cert.Reference3Ideal.Value.run (F := Ideal) m' ρ')
  · rw [(hagree c).1, (hagree c).2.1, (hagree c).2.2.1]
    rfl
  · rw [(hagree c).1, (hagree c).2.1, (hagree c).2.2.1, (hagree c).2.2.2]
    rfl
  · rw [(hagree c).1, (hagree c).2.1, (hagree c).2.2.1]
    rfl

end Cert.Proof.Resid3

end
-- ==== Proof.Part4.lean ====
/- What the three results of the mixer's output projection hold after the run: the residual sum, its
   product with the next norm's weights, and the sum of its squares along a row. -/
module

public import proofs.«01_k».proof.Defs
public import proofs.«01_k».proof.Proof.Gen.Kernel4.Frame
public import proofs.«01_k».proof.Proof.Gen.Kernel4Ideal.Value
public import proofs.«01_k».proof.Proof.Gen.Reference4Ideal.Run
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Kernel4Ideal.Resid

open Cert.Kernel4Ideal Cert.Kernel4Ideal.Gen

variable (m : (ℓ : Loc nD τ sig) → Buf (Elt Ideal) ℓ)

/-- The index maps of the seven windows, at every grid point: row block `t / 8`, column block `t % 8`. -/
theorem idx : ∀ t : Fin cfg0.N, win0_0.index t = ![t.val / 8, 0] ∧ win0_1.index t = ![0, 0, t.val % 8]
    ∧ win0_2.index t = ![t.val / 8, t.val % 8] ∧ win0_3.index t = ![0, 0, t.val % 8]
    ∧ win0_4.index t = ![t.val / 8, t.val % 8] ∧ win0_5.index t = ![t.val / 8, t.val % 8]
    ∧ win0_6.index t = ![t.val / 8, 0] :=
  (by decide +kernel : ∀ t : Fin grid0.N, _)

/-- The residual sum. -/
def HN (X : FVec Ideal S16384x4096 .bf16) (W : FVec Ideal S4x4096x4096 .f32) (H : FVec Ideal S16384x4096 .f32) : FVec Ideal S16384x4096 .f32 :=
  addf H (Host.dotGeneral Cert.Reference4Ideal.dot_S16384x4096_S4096x4096_S16384x4096_1_0_0_1_n_n none (extf .f32 X Cert.Reference4Ideal.Gen.bitsLt_bf16_f32) (shapeCast _ (extractStridedSlice Cert.Reference4Ideal.S1x4096x4096 ![0, 0, 0] W Cert.Reference4Ideal.Gen.slices_S4x4096x4096_S1x4096x4096_0_0_0) Cert.Reference4Ideal.Gen.shapeCasts_S1x4096x4096_S4096x4096))

/-- Its product with the norm's weights. -/
def HG (X : FVec Ideal S16384x4096 .bf16) (W : FVec Ideal S4x4096x4096 .f32) (H : FVec Ideal S16384x4096 .f32) (G : FVec Ideal S4x4096 .f32) : FVec Ideal S16384x4096 .bf16 :=
  truncf .bf16 (mulf (HN X W H) (broadcastInDim S16384x4096 ![0, 1] Cert.Reference4Ideal.Gen.bcast_S1x4096_S16384x4096_0_1 (broadcastInDim Cert.Reference4Ideal.S1x4096 ![1] Cert.Reference4Ideal.Gen.bcast_S4096_S1x4096_1 (shapeCast _ (extractStridedSlice Cert.Reference4Ideal.S1x4096 ![0, 0] G Cert.Reference4Ideal.Gen.slices_S4x4096_S1x4096_0_0) Cert.Reference4Ideal.Gen.shapeCasts_S1x4096_S4096)))) Cert.Reference4Ideal.Gen.bitsLt_bf16_f32

/-- The sum of its squares along each row. -/
def SQ (X : FVec Ideal S16384x4096 .bf16) (W : FVec Ideal S4x4096x4096 .f32) (H : FVec Ideal S16384x4096 .f32) : FVec Ideal S16384x1 .f32 :=
  broadcastInDim S16384x1 ![0] Cert.Reference4Ideal.Gen.bcast_S16384_S16384x1_0 (Host.reduceAdd (mulf (HN X W H) (HN X W H)) (constant Cert.Reference4Ideal.S_ .f32 0x00000000#32) Cert.Reference4Ideal.Gen.reducesTo_S16384x4096_S16384_d1 Cert.Reference4Ideal.Gen.h_S_)

/-- One element of a block of the residual sum is the array's. -/
theorem core (c : Dev nD) (t : Fin cfg0.N) (y : S1024x512.Idx) (j : S16384x4096.Idx)
    (h0 : (j 0 : ℕ) = t.val / 8 * 1024 + y 0) (h1 : (j 1 : ℕ) = t.val % 8 * 512 + y 1) :
    k0_pay1 (F := Ideal) (iblk m c 2 t) (iblk m c 0 t) (iblk m c 1 t) y
      = HN (m ((c : Thread nD τ).loc main_arg0)) (m ((c : Thread nD τ).loc main_arg1)) (m ((c : Thread nD τ).loc main_arg2)) j := by
  pointwise [k0_pay1, HN]
  blk_point [iblk, V, idx t, h0, h1]

/-- One element of a block of its product with the weights is the array's. -/
theorem core_g (c : Dev nD) (t : Fin cfg0.N) (y : S1024x512.Idx) (j : S16384x4096.Idx)
    (h0 : (j 0 : ℕ) = t.val / 8 * 1024 + y 0) (h1 : (j 1 : ℕ) = t.val % 8 * 512 + y 1) :
    k0_pay2 (F := Ideal) (iblk m c 2 t) (iblk m c 0 t) (iblk m c 1 t) (iblk m c 3 t) y
      = HG (m ((c : Thread nD τ).loc main_arg0)) (m ((c : Thread nD τ).loc main_arg1)) (m ((c : Thread nD τ).loc main_arg2)) (m ((c : Thread nD τ).loc main_arg3)) j := by
  have e := core m c t y j h0 h1
  pointwise [k0_pay2, HG]
  refine Ideal.mul_congr e ?_
  blk_point [iblk, V, idx t, h0, h1]

/-- One row's sum over a block. -/
theorem row (x : FVec Ideal S1024x4096 .bf16) (w : FVec Ideal S1x4096x512 .bf16) (h : FVec Ideal S1024x512 .f32) (j : S1024x1.Idx) :
    k0_pay3 (F := Ideal) h x w j = ∑ k : Fin 512, k0_pay1 (F := Ideal) h x w (ix2 (j 0) k) * k0_pay1 (F := Ideal) h x w (ix2 (j 0) k) := by
  pointwise [k0_pay3]

theorem row_acc (x : FVec Ideal S1024x4096 .bf16) (w : FVec Ideal S1x4096x512 .bf16) (h : FVec Ideal S1024x512 .f32) (p : FVec Ideal S1024x1 .f32) (j : S1024x1.Idx) :
    k0_pay4 (F := Ideal) h x w p j = p j + ∑ k : Fin 512, k0_pay1 (F := Ideal) h x w (ix2 (j 0) k) * k0_pay1 (F := Ideal) h x w (ix2 (j 0) k) := by
  pointwise [k0_pay4, row]

theorem sq (X : FVec Ideal S16384x4096 .bf16) (W : FVec Ideal S4x4096x4096 .f32) (H : FVec Ideal S16384x4096 .f32) (j : S16384x1.Idx) :
    SQ X W H j = ∑ k : Fin 4096, HN X W H (ix2 (j 0) k) * HN X W H (ix2 (j 0) k) := by
  pointwise [SQ]

/-- The first result after the run. -/
theorem final4 (c : Dev nD) : (dats m 0 c).arrAt 4 (cfgs 0).N
    = HN (m ((c : Thread nD τ).loc main_arg0)) (m ((c : Thread nD τ).loc main_arg1)) (m ((c : Thread nD τ).loc main_arg2)) := by
  refine (dats m 0 c).arrAt_eq_of_covers 4 _ (by decide +kernel) fun t _ y => ?_
  blk_simp
  rw [after0_4]
  by_cases h0 : t.val % 8 = 0
  · rw [outsAt0_A m c t h0 (by omega)]
    frame_out
    refine core m c t _ _ ?_ ?_ <;> blk_simp [idx t]
  · rw [outsAt0_B m c t h0 (by omega)]
    frame_out
    refine core m c t _ _ ?_ ?_ <;> blk_simp [idx t]

/-- The second result after the run. -/
theorem final5 (c : Dev nD) : (dats m 0 c).arrAt 5 (cfgs 0).N
    = HG (m ((c : Thread nD τ).loc main_arg0)) (m ((c : Thread nD τ).loc main_arg1)) (m ((c : Thread nD τ).loc main_arg2)) (m ((c : Thread nD τ).loc main_arg3)) := by
  refine (dats m 0 c).arrAt_eq_of_covers 5 _ (by decide +kernel) fun t _ y => ?_
  blk_simp
  rw [after0_5]
  by_cases h0 : t.val % 8 = 0
  · rw [outsAt0_A m c t h0 (by omega)]
    frame_out
    refine core_g m c t _ _ ?_ ?_ <;> blk_simp [idx t]
  · rw [outsAt0_B m c t h0 (by omega)]
    frame_out
    refine core_g m c t _ _ ?_ ?_ <;> blk_simp [idx t]

/-- The third result after the run: eight column blocks' sums, added in order. -/
theorem final6 (c : Dev nD) : (dats m 0 c).arrAt 6 (cfgs 0).N
    = SQ (m ((c : Thread nD τ).loc main_arg0)) (m ((c : Thread nD τ).loc main_arg1)) (m ((c : Thread nD τ).loc main_arg2)) := by
  refine (dats m 0 c).arrAt_eq_of_covers 6 _ (by decide +kernel) fun t hf y => ?_
  blk_simp
  rw [after0_6, Pipeline.eq_sum_fin_of_reset_step_apply_of_flush (fun n h => (outsAt0 m c n h).2.2) 8 (fun _ => 0)
      (fun p j => ∑ k : Fin 512, k0_pay1 (F := Ideal) (iblk m c 2 p) (iblk m c 0 p) (iblk m c 1 p) (ix2 (j 0) k)
        * k0_pay1 (F := Ideal) (iblk m c 2 p) (iblk m c 0 p) (iblk m c 1 p) (ix2 (j 0) k))
    (fun t h j => by rw [outsAt0_A m c t h (by omega)]; frame_out; rw [row, zero_add])
    (fun t h j => by rw [outsAt0_B m c t h (by omega)]; frame_out; rw [row_acc])
    t ((flush0_6 t).mp hf) _, zero_add, sq]
  refine Fin.sum_mul_add_congr fun s k hl => ?_
  have e : ∀ y : S1024x512.Idx, ∀ j : S16384x4096.Idx, _ := core m c ⟨_, Pipeline.run_point_lt_of_flush t ((flush0_6 t).mp hf) s⟩
  rw [e _ _ ?_ ?_]
  · have := s.isLt
    have hi := (idx t).2.2.2.2.2.2
    blk_simp [hi]
    show t.val / 8 * 1024 + (y 0).val = (8 * (t.val / 8) + s.val) / 8 * 1024 + (y 0).val
    omega
  · have := s.isLt
    show s.val * 512 + k.val = (8 * (t.val / 8) + s.val) % 8 * 512 + k.val
    omega

/-- The run: the three results are the reference's terms of the arguments, which end unchanged. -/
theorem run (ρ : Dev nD → PrngReg) :
    θ_run defs (onTc (τ := τ) (main (F := Ideal))) ⟨m, fun _ => 0, ρ⟩ fun r => ∀ c : Dev nD,
      r.2.mem ((c : Thread nD τ).loc main_v2_0) = HN (m ((c : Thread nD τ).loc main_arg0)) (m ((c : Thread nD τ).loc main_arg1)) (m ((c : Thread nD τ).loc main_arg2))
      ∧ r.2.mem ((c : Thread nD τ).loc main_v2_1) = HG (m ((c : Thread nD τ).loc main_arg0)) (m ((c : Thread nD τ).loc main_arg1)) (m ((c : Thread nD τ).loc main_arg2)) (m ((c : Thread nD τ).loc main_arg3))
      ∧ r.2.mem ((c : Thread nD τ).loc main_v2_2) = SQ (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2.1.trans (final6 m c), (h c).2.2.2⟩)
    (Value.run_blocks m ρ)

end Cert.Kernel4Ideal.Resid

namespace Cert.Proof.Resid4

theorem frame_k : Cert.quiescent_Kernel4 := fun m ρ _ => Cert.Kernel4.Gen.frame m ρ
theorem frame_ki : Cert.quiescent_Kernel4Ideal := fun m ρ _ => Cert.Kernel4Ideal.Gen.frame m ρ
theorem frame_ri : Cert.quiescent_Reference4Ideal := fun m ρ _ =>
  (θ_run Cert.Reference4Ideal.defs _ _).mono (fun r h => ⟨fun c => (h c).2.2.2, sem_eq_zero_of_no_sems (by decide) r.2⟩)
    (Cert.Reference4Ideal.Value.run (F := Ideal) m ρ)
theorem preserves : Cert.preserves_Kernel4_Kernel4Ideal := trivial

/-- At `Ideal` the three results are the reference's, argument for argument. -/
theorem algebraic : Cert.algebraic_Kernel4Ideal_Reference4Ideal := by
  intro m ρ m' ρ' _ hagree
  refine ⟨fun c => Cert.Kernel4Ideal.Resid.HN (m ((c.tc : Thread _ _).loc Cert.Kernel4Ideal.main_arg0)) (m ((c.tc : Thread _ _).loc Cert.Kernel4Ideal.main_arg1)) (m ((c.tc : Thread _ _).loc Cert.Kernel4Ideal.main_arg2)),
    fun c => Cert.Kernel4Ideal.Resid.HG (m ((c.tc : Thread _ _).loc Cert.Kernel4Ideal.main_arg0)) (m ((c.tc : Thread _ _).loc Cert.Kernel4Ideal.main_arg1)) (m ((c.tc : Thread _ _).loc Cert.Kernel4Ideal.main_arg2)) (m ((c.tc : Thread _ _).loc Cert.Kernel4Ideal.main_arg3)),
    fun c => Cert.Kernel4Ideal.Resid.SQ (m ((c.tc : Thread _ _).loc Cert.Kernel4Ideal.main_arg0)) (m ((c.tc : Thread _ _).loc Cert.Kernel4Ideal.main_arg1)) (m ((c.tc : Thread _ _).loc Cert.Kernel4Ideal.main_arg2)),
    ?_, ?_⟩
  · exact Cert.Kernel4Ideal.Resid.run m ρ
  refine (θ_run Cert.Reference4Ideal.defs _ _).mono (fun r h c => ⟨(h c).1.trans ?_, (h c).2.1.trans ?_, (h c).2.2.1.trans ?_, (h c).2.2.2⟩)
    (Cert.Reference4Ideal.Value.run (F := Ideal) m' ρ')
  · rw [(hagree c).1, (hagree c).2.1, (hagree c).2.2.1]
    rfl
  · rw [(hagree c).1, (hagree c).2.1, (hagree c).2.2.1, (hagree c).2.2.2]
    rfl
  · rw [(hagree c).1, (hagree c).2.1, (hagree c).2.2.1]
    rfl

end Cert.Proof.Resid4

end
-- ==== Proof.Part5.lean ====
/- What the input projection's two halves hold after the run: the rows are weighted and their squares summed first, the
   contractions are scaled by the row's scale after; the query columns also by the attention's scale. -/
module

public import proofs.«01_k».proof.Defs
public import proofs.«01_k».proof.Proof.Gen.Kernel5.Frame
public import proofs.«01_k».proof.Proof.Gen.Kernel5Ideal.Frame
public import proofs.«01_k».proof.Proof.Gen.Reference5Ideal.Run
public import proofs.«01_k».proof.Proof.Norm
public import Idealize.ShloMosaic.Lib.Quiescent
public import Idealize.ShloMosaic.Lib.Routing.OpsOne
public import Idealize.ShloMosaic.Lib.Pointwise
public import Idealize.ShloMosaic.Lib.Pipeline.ValueKit

@[expose] public section

set_option maxRecDepth 16384

noncomputable section

open Idealize.ShloMosaic Idealize.ShloMosaic.TcCoe Idealize.ShloMosaic.Tactic
open Idealize.SL.Sem
open Idealize.ShloMosaic.Pipeline (Dat)

namespace Cert.Reference5Ideal.InProj

open Cert.Reference5Ideal Cert.Reference5Ideal.Gen

/-- The reference's first term. -/
def REFQ (A0 : FVec Ideal S16384x4096 .f32) (A1 : FVec Ideal S4x4096 .f32) (A2 : FVec Ideal S4x4096x4096 .bf16) : FVec Ideal S16384x4096 .bf16 :=
  truncf .bf16 ((concatenate S16384x4096 1 [⟨S16384x1024, ((extractStridedSlice S16384x1024 ![0, 0] (Host.dotGeneral dot_S16384x4096_S4096x4096_S16384x4096_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (transpose S4096x4096 [1, 0] (extf .f32 (shapeCast _ (extractStridedSlice S1x4096x4096 ![0, 0, 0] A2 slices_S4x4096x4096_S1x4096x4096_0_0_0) shapeCasts_S1x4096x4096_S4096x4096) bitsLt_bf16_f32) transposes_S4096x4096_S4096x4096_1_0)) slices_S16384x4096_S16384x1024_0_0) : (⟨S16384x1024, .f32⟩ : BufTy).Contents (Elt Ideal))⟩, ⟨S16384x1024, ((mulf (extractStridedSlice S16384x1024 ![0, 1024] (Host.dotGeneral dot_S16384x4096_S4096x4096_S16384x4096_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (transpose S4096x4096 [1, 0] (extf .f32 (shapeCast _ (extractStridedSlice S1x4096x4096 ![0, 0, 0] A2 slices_S4x4096x4096_S1x4096x4096_0_0_0) shapeCasts_S1x4096x4096_S4096x4096) bitsLt_bf16_f32) transposes_S4096x4096_S4096x4096_1_0)) slices_S16384x4096_S16384x1024_0_1024) (broadcastInDim S16384x1024 ![] bcast_S_S16384x1024 (constant S_ .f32 0x3E0293EE#32))) : (⟨S16384x1024, .f32⟩ : BufTy).Contents (Elt Ideal))⟩, ⟨S16384x2048, ((extractStridedSlice S16384x2048 ![0, 2048] (Host.dotGeneral dot_S16384x4096_S4096x4096_S16384x4096_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (transpose S4096x4096 [1, 0] (extf .f32 (shapeCast _ (extractStridedSlice S1x4096x4096 ![0, 0, 0] A2 slices_S4x4096x4096_S1x4096x4096_0_0_0) shapeCasts_S1x4096x4096_S4096x4096) bitsLt_bf16_f32) transposes_S4096x4096_S4096x4096_1_0)) slices_S16384x4096_S16384x2048_0_2048) : (⟨S16384x2048, .f32⟩ : BufTy).Contents (Elt Ideal))⟩] concatenates_S16384x1024_S16384x1024_S16384x2048_S16384x4096_d1 : (⟨S16384x4096, .f32⟩ : BufTy).Contents (Elt Ideal))) bitsLt_bf16_f32

/-- The reference's second term. -/
def REFC (A0 : FVec Ideal S16384x4096 .f32) (A1 : FVec Ideal S4x4096 .f32) (A3 : FVec Ideal S4x4096x4096 .bf16) : FVec Ideal S16384x4096 .bf16 :=
  truncf .bf16 (Host.dotGeneral dot_S16384x4096_S4096x4096_S16384x4096_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (transpose S4096x4096 [1, 0] (extf .f32 (shapeCast _ (extractStridedSlice S1x4096x4096 ![0, 0, 0] A3 slices_S4x4096x4096_S1x4096x4096_0_0_0) shapeCasts_S1x4096x4096_S4096x4096) bitsLt_bf16_f32) transposes_S4096x4096_S4096x4096_1_0)) bitsLt_bf16_f32

end Cert.Reference5Ideal.InProj

namespace Cert.Kernel5Ideal.InProj

open Cert.Kernel5Ideal Cert.Kernel5Ideal.Gen
open Cert.Reference5Ideal.InProj (REFQ REFC)
open Idealize.ShloMosaic.Routing (resultIdx?_ix2 scatter_set_hit scatter_set_miss)

section Whole

open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The whole run, the results named: the last two regions leave their output arrays in them, and the arguments are as launched. -/
theorem run_arr : θ_run defs (onTc (τ := τ) (main (F := F))) ⟨m, fun _ => 0, ρ⟩ (fun r => ∀ c : Dev nD,
      r.2.mem ((c.tc : Thread nD τ).loc main_v8) = (dat1 (V2 m ρ) c).arrAt 4 cfg1.N
      ∧ r.2.mem ((c.tc : Thread nD τ).loc main_v9) = (dat2 (V3 m ρ) c).arrAt 4 cfg2.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h hz => fun c =>
      ⟨(h c _ (mem_uc main_v8 (by decide))).trans ((W4_of m ρ c main_v8 (by decide)).trans (W3_arr m ρ c 4)),
       (h c _ (mem_uc main_v9 (by decide))).trans (W4_arr m ρ c 4),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

end Whole

variable (m : (ℓ : Loc nD τ sig) → Buf (Elt Ideal) ℓ) (ρ : Dev nD → PrngReg)

/-- The first call's index maps: row block `t`. -/
theorem idx0 : ∀ t : Fin cfg0.N, win0_0.index t = ![t.val, 0] ∧ win0_1.index t = ![0, 0]
    ∧ win0_2.index t = ![t.val, 0] ∧ win0_3.index t = ![t.val, 0] :=
  (by decide +kernel : ∀ t : Fin grid0.N, _)

/-- The second call's: row block `t / 4`, column block `t % 4`. -/
theorem idx1 : ∀ t : Fin cfg1.N, win1_0.index t = ![t.val / 4, 0] ∧ win1_1.index t = ![t.val / 4, 0]
    ∧ win1_2.index t = ![0, t.val % 4, 0] ∧ win1_3.index t = ![0, t.val % 4]
    ∧ win1_4.index t = ![t.val / 4, t.val % 4] :=
  (by decide +kernel : ∀ t : Fin grid1.N, _)

/-- The third call's, the same. -/
theorem idx2 : ∀ t : Fin cfg2.N, win2_0.index t = ![t.val / 4, 0] ∧ win2_1.index t = ![t.val / 4, 0]
    ∧ win2_2.index t = ![0, t.val % 4, 0] ∧ win2_3.index t = ![0, t.val % 4]
    ∧ win2_4.index t = ![t.val / 4, t.val % 4] :=
  (by decide +kernel : ∀ t : Fin grid2.N, _)

/-- The rows, weighted. -/
def HG (H : FVec Ideal S16384x4096 .f32) (G : FVec Ideal S4x4096 .f32) : FVec Ideal S16384x4096 .bf16 :=
  fun j => H j * G (ix2 0 (j 1))

/-- The sums of the rows' squares. -/
def SQ (H : FVec Ideal S16384x4096 .f32) : FVec Ideal S16384x1 .f32 :=
  fun j => ∑ k : Fin 4096, H (ix2 (j 0) k) * H (ix2 (j 0) k)

theorem final0_2 (c : Dev nD) : (dat0 (V1 m ρ) c).arrAt 2 cfg0.N = HG (m ((c : Thread nD τ).loc main_arg0)) (m ((c : Thread nD τ).loc main_arg1)) := by
  refine (dat0 (V1 m ρ) c).arrAt_eq_of_covers 2 _ (by decide +kernel) fun t _ y => ?_
  blk_simp
  rw [after0_2]
  frame_out
  pointwise [k0_pay2, HG]
  blk_point [iblk0, V1, W1, idx0 t]

theorem final0_3 (c : Dev nD) : (dat0 (V1 m ρ) c).arrAt 3 cfg0.N = SQ (m ((c : Thread nD τ).loc main_arg0)) := by
  refine (dat0 (V1 m ρ) c).arrAt_eq_of_covers 3 _ (by decide +kernel) fun t _ y => ?_
  blk_simp
  rw [after0_3]
  frame_out
  pointwise [k0_pay1, SQ]
  blk_point [iblk0, V1, W1, idx0 t]

/-- The columns' scales: the attention's over the query columns, one elsewhere. -/
def CS : FVec Ideal S1x4096 .f32 := fun j =>
  if 1024 ≤ (j 1).val ∧ (j 1).val < 2048 then Ideal.ofBits .f32 0x3E0293EE#32 else Ideal.ofBits .f32 0x3F800000#32

/-- Where an update of the query columns' scatter lands: one row, from column 1024. -/
theorem lands (idx : IVec S1 32) (hi : (idx (ix1 0)).toInt = 1024) (k : Fin 1024) (e : Fin 4096) :
    scatter_S1x4096_S1_S1x1024_01_n_1_0.resultIdx? (ix2 0 k) idx = some (ix2 0 e) ↔ e.val = 1024 + k.val := by
  have h0 : scatter_S1x4096_S1_S1x1024_01_n_1_0.start (ix2 0 k) idx 0 = 0 := by
    unfold ScatterDims.start
    rw [dif_neg (by decide)]
  have h1 : scatter_S1x4096_S1_S1x1024_01_n_1_0.start (ix2 0 k) idx 1 = 1024 := by
    unfold ScatterDims.start
    rw [dif_pos (by decide), ← hi]
    congr 2
    funext b
    match b with
    | ⟨0, _⟩ => exact Subsingleton.elim (α := Fin 1) _ _
  have w0 : scatter_S1x4096_S1_S1x1024_01_n_1_0.window (ix2 0 k) 0 = 0 := by
    unfold ScatterDims.window
    rw [dif_pos (by decide)]
    rfl
  have w1 : scatter_S1x4096_S1_S1x1024_01_n_1_0.window (ix2 0 k) 1 = k.val := by
    unfold ScatterDims.window
    rw [dif_pos (by decide)]
    rfl
  refine (resultIdx?_ix2 _ _ _ 0 e).trans ?_
  rw [h0, h1, w0, w1]
  simp
  omega

/-- The row of scales, as it is scattered. -/
theorem scatter_row (x : FVec Ideal S1x4096 .f32) (idx : IVec S1 32) (u : FVec Ideal S1x1024 .f32) (hi : (idx (ix1 0)).toInt = 1024)
    (hx : ∀ j, x j = Ideal.ofBits .f32 0x3F800000#32) (hu : ∀ j, u j = Ideal.ofBits .f32 0x3E0293EE#32) :
    Host.scatter scatter_S1x4096_S1_S1x1024_01_n_1_0 (fun _ b => b) x idx u = CS := by
  funext j
  obtain ⟨e, rfl⟩ : ∃ e : Fin 4096, j = ix2 0 e := ⟨j 1, by
    refine (ValueIdx.eq_ix2 j).trans ?_
    congr 1
    exact Subsingleton.elim (α := Fin 1) _ _⟩
  by_cases h : 1024 ≤ e.val ∧ e.val < 2048
  · rw [scatter_set_hit _ x idx u _ _ (fun k _ => hu k) (ix2 0 ⟨e.val - 1024, by omega⟩)
      ((lands idx hi _ _).2 (by show e.val = 1024 + (e.val - 1024); omega))]
    exact (if_pos h).symm
  · rw [scatter_set_miss]
    · exact (hx _).trans (if_neg h).symm
    · intro k hk
      obtain ⟨k', rfl⟩ : ∃ k' : Fin 1024, k = ix2 0 k' := ⟨k 1, by
        refine (ValueIdx.eq_ix2 k).trans ?_
        congr 1
        exact Subsingleton.elim (α := Fin 1) _ _⟩
      have := (lands idx hi _ _).1 hk
      have := k'.isLt
      omega

theorem v2_hg (c : Dev nD) : V2 m ρ c main_v7_0 = HG (m ((c : Thread nD τ).loc main_arg0)) (m ((c : Thread nD τ).loc main_arg1)) :=
  (W2_arr m ρ c 2).trans (final0_2 m ρ c)
theorem v2_sq (c : Dev nD) : V2 m ρ c main_v7_1 = SQ (m ((c : Thread nD τ).loc main_arg0)) :=
  (W2_arr m ρ c 3).trans (final0_3 m ρ c)
theorem v2_w (c : Dev nD) : V2 m ρ c main_arg2 = m ((c : Thread nD τ).loc main_arg2) := W2_args m ρ c main_arg2 (by decide)
theorem v2_cs (c : Dev nD) : V2 m ρ c main_v3 = CS := by
  refine (W2_of m ρ c main_v3 (by decide)).trans ?_
  show StableHlo.after hostOps0 (W0 m ρ c) main_v3 = _
  after_results
  exact scatter_row _ _ _ rfl (fun _ => rfl) (fun _ => rfl)
theorem v3_hg (c : Dev nD) : V3 m ρ c main_v7_0 = HG (m ((c : Thread nD τ).loc main_arg0)) (m ((c : Thread nD τ).loc main_arg1)) :=
  (W3_of m ρ c main_v7_0 (by decide)).trans (v2_hg m ρ c)
theorem v3_sq (c : Dev nD) : V3 m ρ c main_v7_1 = SQ (m ((c : Thread nD τ).loc main_arg0)) :=
  (W3_of m ρ c main_v7_1 (by decide)).trans (v2_sq m ρ c)
theorem v3_w (c : Dev nD) : V3 m ρ c main_arg3 = m ((c : Thread nD τ).loc main_arg3) := W3_args m ρ c main_arg3 (by decide)
theorem v3_cs (c : Dev nD) : V3 m ρ c main_v0 = fun _ => Ideal.ofBits .f32 0x3F800000#32 := by
  refine (W3_of m ρ c main_v0 (by decide)).trans ((W2_of m ρ c main_v0 (by decide)).trans ?_)
  show StableHlo.after hostOps0 (W0 m ρ c) main_v0 = _
  after_results
  rfl

/-- A contraction of the normalised rows is the contraction of the weighted rows, scaled after. -/
theorem dot_eq (H : FVec Ideal S16384x4096 .f32) (G : FVec Ideal S4x4096 .f32) (W : FVec Ideal S4x4096x4096 .bf16)
    (a : Fin 16384) (b : Fin 4096) :
    ∑ k : Fin 4096, H (ix2 a k) * Ideal.rsqrt (Ideal.div (∑ l : Fin 4096, H (ix2 a l) * H (ix2 a l)) (Ideal.ofBits .f32 0x45800000#32)
        + Ideal.ofBits .f32 0x358637BD#32) * G (ix2 0 k) * W (ix3 0 b k)
      = (∑ k : Fin 4096, HG H G (ix2 a k) * W (ix3 0 b k)) * Ideal.rsqrt (Ideal.div (SQ H (ix2 a 0)) (Ideal.ofBits .f32 0x45800000#32)
        + Ideal.ofBits .f32 0x358637BD#32) :=
  Cert.Proof.Norm.contract (fun k => H (ix2 a k)) (fun k => G (ix2 0 k)) (fun k => W (ix3 0 b k))

/-- The two halves' entries, at a row of scales. -/
def MID (H : FVec Ideal S16384x4096 .f32) (G : FVec Ideal S4x4096 .f32) (W : FVec Ideal S4x4096x4096 .bf16) (C : FVec Ideal S1x4096 .f32)
    (j : S16384x4096.Idx) : EReal :=
  (∑ k : Fin 4096, HG H G (ix2 (j 0) k) * W (ix3 0 (j 1) k)) * Ideal.rsqrt (Ideal.div (SQ H (ix2 (j 0) 0)) (Ideal.ofBits .f32 0x45800000#32)
        + Ideal.ofBits .f32 0x358637BD#32) * C (ix2 0 (j 1))

theorem one_bits : Ideal.ofBits .f32 0x3F800000#32 = 1 := by
  simp

theorem refc_form (H : FVec Ideal S16384x4096 .f32) (G : FVec Ideal S4x4096 .f32) (W : FVec Ideal S4x4096x4096 .bf16) (j : S16384x4096.Idx) :
    REFC H G W j = MID H G W (fun _ => Ideal.ofBits .f32 0x3F800000#32) j := by
  unfold MID
  rw [← dot_eq H G W (j 0) (j 1), one_bits, mul_one]
  pointwise [REFC]

theorem refq_form (H : FVec Ideal S16384x4096 .f32) (G : FVec Ideal S4x4096 .f32) (W : FVec Ideal S4x4096x4096 .bf16) (j : S16384x4096.Idx) :
    REFQ H G W j = MID H G W CS j := by
  unfold MID
  rw [← dot_eq H G W (j 0) (j 1)]
  pointwise [REFQ, CS]
  by_cases h1 : (j 1).val < 1024
  · refine (dif_pos h1).trans ?_
    rw [if_neg (show ¬ (1024 ≤ (j 1).val ∧ (j 1).val < 2048) by omega), mul_one]
  · by_cases h2 : (j 1).val - 1024 < 1024
    · refine (dif_neg h1).trans ((dif_pos h2).trans ?_)
      rw [if_pos (show 1024 ≤ (j 1).val ∧ (j 1).val < 2048 by omega)]
      exact Ideal.mul_congr (Finset.sum_congr rfl fun x _ => Ideal.mul_congr rfl (congrArg (fun o => W (ix3 0 o x)) (Fin.ext (show 1024 + ((j 1).val - 1024) = (j 1).val by omega)))) rfl
    · refine (dif_neg h1).trans ((dif_neg h2).trans ?_)
      rw [if_neg (show ¬ (1024 ≤ (j 1).val ∧ (j 1).val < 2048) by omega), mul_one]
      exact Finset.sum_congr rfl fun x _ => Ideal.mul_congr rfl (congrArg (fun o => W (ix3 0 o x)) (Fin.ext (show 2048 + ((j 1).val - 1024 - 1024) = (j 1).val by omega)))

section Blocks1

variable (V : (c : Dev nD) → (b : Ref sig .tc) → Buf (Elt Ideal) ((c : Thread nD τ).loc b)) (c : Dev nD) (t : Fin cfg1.N)
  (a : Fin 1024) (i : Fin 16384) (hi : i.val = t.val / 4 * 1024 + a.val)

include hi

/-- The weighted rows' block. -/
theorem blk1_rows (k : Fin 4096) : (show FVec Ideal S1024x4096 .bf16 from iblk1 V c 0 t) (ix2 a k)
    = (show FVec Ideal S16384x4096 .bf16 from V c main_v7_0) (ix2 i k) := by
  blk_point [iblk1, idx1 t, hi]

/-- The block of the sums of squares. -/
theorem blk1_sums : (show FVec Ideal S1024x1 .f32 from iblk1 V c 1 t) (ix2 a 0)
    = (show FVec Ideal S16384x1 .f32 from V c main_v7_1) (ix2 i 0) := by
  blk_point [iblk1, idx1 t, hi]

omit hi
variable (b : Fin 1024) (o : Fin 4096) (ho : o.val = t.val % 4 * 1024 + b.val)
include ho

/-- The weights' block. -/
theorem blk1_w (k : Fin 4096) : (show FVec Ideal S1x1024x4096 .bf16 from iblk1 V c 2 t) (ix3 0 b k)
    = (show FVec Ideal S4x4096x4096 .bf16 from V c main_arg2) (ix3 0 o k) := by
  blk_point [iblk1, idx1 t, ho]

/-- The block of the columns' scales. -/
theorem blk1_cs : (show FVec Ideal S1x1024 .f32 from iblk1 V c 3 t) (ix2 0 b)
    = (show FVec Ideal S1x4096 .f32 from V c main_v3) (ix2 0 o) := by
  blk_point [iblk1, idx1 t, ho]

end Blocks1

/-- The result of the call, from any contents it may find. -/
theorem final1_of (V : (c : Dev nD) → (b : Ref sig .tc) → Buf (Elt Ideal) ((c : Thread nD τ).loc b)) (c : Dev nD)
    (H : FVec Ideal S16384x4096 .f32) (G : FVec Ideal S4x4096 .f32) (W : FVec Ideal S4x4096x4096 .bf16) (C : FVec Ideal S1x4096 .f32)
    (h0 : V c main_v7_0 = HG H G) (h1 : V c main_v7_1 = SQ H) (h2 : V c main_arg2 = W) (h3 : V c main_v3 = C) :
    (dat1 V c).arrAt 4 cfg1.N = MID H G W C := by
  refine (dat1 V c).arrAt_eq_of_covers 4 _ (by decide +kernel) fun t _ y => ?_
  blk_simp
  rw [after1_4]
  frame_out
  unfold MID
  pointwise [k1_pay1]
  have hi : ((win1_4.blk t).view.emb y 0).val = t.val / 4 * 1024 + (y 0).val := by blk_simp [idx1 t]
  have ho : ((win1_4.blk t).view.emb y 1).val = t.val % 4 * 1024 + (y 1).val := by blk_simp [idx1 t]
  have ew : ∀ x : Fin 4096, _ := blk1_w V c t _ _ ho
  have ec := blk1_cs V c t _ _ ho
  have er : ∀ x : Fin 4096, _ := blk1_rows V c t _ _ hi
  have es := blk1_sums V c t _ _ hi
  simp only [h0, h1, h2, h3] at ew ec er es
  have e := congrArg (fun s => Ideal.rsqrt (Ideal.div s (Ideal.ofBits .f32 0x45800000#32) + Ideal.ofBits .f32 0x358637BD#32)) es
  have g := Ideal.mul_congr (Finset.sum_congr (rfl : (Finset.univ : Finset (Fin 4096)) = _) fun x _ => Ideal.mul_congr (er x) (ew x)) e
  exact Ideal.mul_congr g ec

section Blocks2

variable (V : (c : Dev nD) → (b : Ref sig .tc) → Buf (Elt Ideal) ((c : Thread nD τ).loc b)) (c : Dev nD) (t : Fin cfg2.N)
  (a : Fin 1024) (i : Fin 16384) (hi : i.val = t.val / 4 * 1024 + a.val)

include hi

/-- The weighted rows' block. -/
theorem blk2_rows (k : Fin 4096) : (show FVec Ideal S1024x4096 .bf16 from iblk2 V c 0 t) (ix2 a k)
    = (show FVec Ideal S16384x4096 .bf16 from V c main_v7_0) (ix2 i k) := by
  blk_point [iblk2, idx2 t, hi]

/-- The block of the sums of squares. -/
theorem blk2_sums : (show FVec Ideal S1024x1 .f32 from iblk2 V c 1 t) (ix2 a 0)
    = (show FVec Ideal S16384x1 .f32 from V c main_v7_1) (ix2 i 0) := by
  blk_point [iblk2, idx2 t, hi]

omit hi
variable (b : Fin 1024) (o : Fin 4096) (ho : o.val = t.val % 4 * 1024 + b.val)
include ho

/-- The weights' block. -/
theorem blk2_w (k : Fin 4096) : (show FVec Ideal S1x1024x4096 .bf16 from iblk2 V c 2 t) (ix3 0 b k)
    = (show FVec Ideal S4x4096x4096 .bf16 from V c main_arg3) (ix3 0 o k) := by
  blk_point [iblk2, idx2 t, ho]

/-- The block of the columns' scales. -/
theorem blk2_cs : (show FVec Ideal S1x1024 .f32 from iblk2 V c 3 t) (ix2 0 b)
    = (show FVec Ideal S1x4096 .f32 from V c main_v0) (ix2 0 o) := by
  blk_point [iblk2, idx2 t, ho]

end Blocks2

/-- The result of the call, from any contents it may find. -/
theorem final2_of (V : (c : Dev nD) → (b : Ref sig .tc) → Buf (Elt Ideal) ((c : Thread nD τ).loc b)) (c : Dev nD)
    (H : FVec Ideal S16384x4096 .f32) (G : FVec Ideal S4x4096 .f32) (W : FVec Ideal S4x4096x4096 .bf16) (C : FVec Ideal S1x4096 .f32)
    (h0 : V c main_v7_0 = HG H G) (h1 : V c main_v7_1 = SQ H) (h2 : V c main_arg3 = W) (h3 : V c main_v0 = C) :
    (dat2 V c).arrAt 4 cfg2.N = MID H G W C := by
  refine (dat2 V c).arrAt_eq_of_covers 4 _ (by decide +kernel) fun t _ y => ?_
  blk_simp
  rw [after2_4]
  frame_out
  unfold MID
  pointwise [k2_pay1]
  have hi : ((win2_4.blk t).view.emb y 0).val = t.val / 4 * 1024 + (y 0).val := by blk_simp [idx2 t]
  have ho : ((win2_4.blk t).view.emb y 1).val = t.val % 4 * 1024 + (y 1).val := by blk_simp [idx2 t]
  have ew : ∀ x : Fin 4096, _ := blk2_w V c t _ _ ho
  have ec := blk2_cs V c t _ _ ho
  have er : ∀ x : Fin 4096, _ := blk2_rows V c t _ _ hi
  have es := blk2_sums V c t _ _ hi
  simp only [h0, h1, h2, h3] at ew ec er es
  have e := congrArg (fun s => Ideal.rsqrt (Ideal.div s (Ideal.ofBits .f32 0x45800000#32) + Ideal.ofBits .f32 0x358637BD#32)) es
  have g := Ideal.mul_congr (Finset.sum_congr (rfl : (Finset.univ : Finset (Fin 4096)) = _) fun x _ => Ideal.mul_congr (er x) (ew x)) e
  exact Ideal.mul_congr g ec

theorem final1 (c : Dev nD) : (dat1 (V2 m ρ) c).arrAt 4 cfg1.N = REFQ (m ((c : Thread nD τ).loc main_arg0)) (m ((c : Thread nD τ).loc main_arg1)) (m ((c : Thread nD τ).loc main_arg2)) :=
  (final1_of (V2 m ρ) c _ _ _ _ (v2_hg m ρ c) (v2_sq m ρ c) (v2_w m ρ c) (v2_cs m ρ c)).trans (funext fun j => (refq_form _ _ _ j).symm)

theorem final2 (c : Dev nD) : (dat2 (V3 m ρ) c).arrAt 4 cfg2.N = REFC (m ((c : Thread nD τ).loc main_arg0)) (m ((c : Thread nD τ).loc main_arg1)) (m ((c : Thread nD τ).loc main_arg3)) :=
  (final2_of (V3 m ρ) c _ _ _ _ (v3_hg m ρ c) (v3_sq m ρ c) (v3_w m ρ c) (v3_cs m ρ c)).trans (funext fun j => (refc_form _ _ _ j).symm)

/-- The run: the two results are the reference's terms of the arguments, which end unchanged. -/
theorem run :
    θ_run defs (onTc (τ := τ) (main (F := Ideal))) ⟨m, fun _ => 0, ρ⟩ fun r => ∀ c : Dev nD,
      r.2.mem ((c : Thread nD τ).loc main_v8) = REFQ (m ((c : Thread nD τ).loc main_arg0)) (m ((c : Thread nD τ).loc main_arg1)) (m ((c : Thread nD τ).loc main_arg2))
      ∧ r.2.mem ((c : Thread nD τ).loc main_v9) = REFC (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final1 m ρ c), (h c).2.1.trans (final2 m ρ c), (h c).2.2⟩)
    (run_arr m ρ)

end Cert.Kernel5Ideal.InProj

namespace Cert.Proof.InProj

theorem frame_k : Cert.quiescent_Kernel5 := fun m ρ _ => Cert.Kernel5.Gen.frame m ρ
theorem frame_ki : Cert.quiescent_Kernel5Ideal := fun m ρ _ => Cert.Kernel5Ideal.Gen.frame m ρ
theorem frame_ri : Cert.quiescent_Reference5Ideal := fun m ρ _ =>
  (θ_run Cert.Reference5Ideal.defs _ _).mono (fun r h => ⟨fun c => (h c).2.2, sem_eq_zero_of_no_sems (by decide) r.2⟩)
    (Cert.Reference5Ideal.Value.run (F := Ideal) m ρ)
theorem preserves : Cert.preserves_Kernel5_Kernel5Ideal := trivial

/-- At `Ideal` the two results are the reference's, argument for argument. -/
theorem algebraic : Cert.algebraic_Kernel5Ideal_Reference5Ideal := by
  intro m ρ m' ρ' _ hagree
  refine ⟨fun c => Cert.Reference5Ideal.InProj.REFQ (m ((c.tc : Thread _ _).loc Cert.Kernel5Ideal.main_arg0)) (m ((c.tc : Thread _ _).loc Cert.Kernel5Ideal.main_arg1)) (m ((c.tc : Thread _ _).loc Cert.Kernel5Ideal.main_arg2)),
    fun c => Cert.Reference5Ideal.InProj.REFC (m ((c.tc : Thread _ _).loc Cert.Kernel5Ideal.main_arg0)) (m ((c.tc : Thread _ _).loc Cert.Kernel5Ideal.main_arg1)) (m ((c.tc : Thread _ _).loc Cert.Kernel5Ideal.main_arg3)),
    ?_, ?_⟩
  · exact Cert.Kernel5Ideal.InProj.run m ρ
  refine (θ_run Cert.Reference5Ideal.defs _ _).mono (fun r h c => ⟨(h c).1.trans ?_, (h c).2.1.trans ?_, (h c).2.2⟩)
    (Cert.Reference5Ideal.Value.run (F := Ideal) m' ρ')
  · have e : Cert.Reference5Ideal.Value.res_main_v26 m' c = Cert.Reference5Ideal.InProj.REFQ (m' ((c.tc : Thread _ _).loc Cert.Reference5Ideal.main_arg0)) (m' ((c.tc : Thread _ _).loc Cert.Reference5Ideal.main_arg1)) (m' ((c.tc : Thread _ _).loc Cert.Reference5Ideal.main_arg2)) := rfl
    rw [e, (hagree c).1, (hagree c).2.1, (hagree c).2.2.1]
  · rw [(hagree c).1, (hagree c).2.1, (hagree c).2.2.2]
    rfl

end Cert.Proof.InProj

end
-- ==== Proof.Part6.lean ====
/- What the result of the branch merge holds after the run: the four branches, each projected and weighted by its
   gate, added in order and cast. -/
module

public import proofs.«01_k».proof.Defs
public import proofs.«01_k».proof.Proof.Gen.Kernel6.Frame
public import proofs.«01_k».proof.Proof.Gen.Kernel6Ideal.Value
public import proofs.«01_k».proof.Proof.Gen.Reference6Ideal.Run
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference6Ideal.Merge

open Cert.Reference6Ideal Cert.Reference6Ideal.Gen

/-- The reference's term of its eight arguments. -/
def REF (A0 : FVec Ideal S16384x1024 .bf16) (A1 : FVec Ideal S16384x1024 .bf16) (A2 : FVec Ideal S16384x1024 .bf16) (A3 : FVec Ideal S16384x1024 .bf16) (A4 : FVec Ideal S16384x256 .bf16) (A5 : FVec Ideal S4x4x1024x4096 .f32) (A6 : FVec Ideal S4x4x256x4096 .f32) (A7 : FVec Ideal S4x4x4096 .f32) : FVec Ideal S16384x4096 .bf16 :=
  truncf .bf16 (addf (addf (addf (addf (broadcastInDim S16384x4096 ![] bcast_S_S16384x4096 (constant S_ .f32 0x00000000#32)) (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (Host.dotGeneral dot_S16384x256_S256x4096_S16384x4096_1_0_0_1_n_n none (extf .f32 A4 bitsLt_bf16_f32) (shapeCast _ (extractStridedSlice S1x1x256x4096 ![0, 0, 0, 0] A6 slices_S4x4x256x4096_S1x1x256x4096_0_0_0_0) shapeCasts_S1x1x256x4096_S256x4096)) (broadcastInDim S16384x4096 ![0, 1] bcast_S1x4096_S16384x4096_0_1 (broadcastInDim S1x4096 ![1] bcast_S4096_S1x4096_1 (shapeCast _ (extractStridedSlice S1x1x4096 ![0, 0, 0] A7 slices_S4x4x4096_S1x1x4096_0_0_0) shapeCasts_S1x1x4096_S4096)))))))) (Host.dotGeneral dot_S16384x1024_S1024x4096_S16384x4096_1_0_0_1_n_n none (extf .f32 A0 bitsLt_bf16_f32) (shapeCast _ (extractStridedSlice S1x1x1024x4096 ![0, 0, 0, 0] A5 slices_S4x4x1024x4096_S1x1x1024x4096_0_0_0_0) shapeCasts_S1x1x1024x4096_S1024x4096)))) (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (Host.dotGeneral dot_S16384x256_S256x4096_S16384x4096_1_0_0_1_n_n none (extf .f32 A4 bitsLt_bf16_f32) (shapeCast _ (extractStridedSlice S1x1x256x4096 ![0, 1, 0, 0] A6 slices_S4x4x256x4096_S1x1x256x4096_0_1_0_0) shapeCasts_S1x1x256x4096_S256x4096)) (broadcastInDim S16384x4096 ![0, 1] bcast_S1x4096_S16384x4096_0_1 (broadcastInDim S1x4096 ![1] bcast_S4096_S1x4096_1 (shapeCast _ (extractStridedSlice S1x1x4096 ![0, 1, 0] A7 slices_S4x4x4096_S1x1x4096_0_1_0) shapeCasts_S1x1x4096_S4096)))))))) (Host.dotGeneral dot_S16384x1024_S1024x4096_S16384x4096_1_0_0_1_n_n none (extf .f32 A1 bitsLt_bf16_f32) (shapeCast _ (extractStridedSlice S1x1x1024x4096 ![0, 1, 0, 0] A5 slices_S4x4x1024x4096_S1x1x1024x4096_0_1_0_0) shapeCasts_S1x1x1024x4096_S1024x4096)))) (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (Host.dotGeneral dot_S16384x256_S256x4096_S16384x4096_1_0_0_1_n_n none (extf .f32 A4 bitsLt_bf16_f32) (shapeCast _ (extractStridedSlice S1x1x256x4096 ![0, 2, 0, 0] A6 slices_S4x4x256x4096_S1x1x256x4096_0_2_0_0) shapeCasts_S1x1x256x4096_S256x4096)) (broadcastInDim S16384x4096 ![0, 1] bcast_S1x4096_S16384x4096_0_1 (broadcastInDim S1x4096 ![1] bcast_S4096_S1x4096_1 (shapeCast _ (extractStridedSlice S1x1x4096 ![0, 2, 0] A7 slices_S4x4x4096_S1x1x4096_0_2_0) shapeCasts_S1x1x4096_S4096)))))))) (Host.dotGeneral dot_S16384x1024_S1024x4096_S16384x4096_1_0_0_1_n_n none (extf .f32 A2 bitsLt_bf16_f32) (shapeCast _ (extractStridedSlice S1x1x1024x4096 ![0, 2, 0, 0] A5 slices_S4x4x1024x4096_S1x1x1024x4096_0_2_0_0) shapeCasts_S1x1x1024x4096_S1024x4096)))) (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (addf (Host.dotGeneral dot_S16384x256_S256x4096_S16384x4096_1_0_0_1_n_n none (extf .f32 A4 bitsLt_bf16_f32) (shapeCast _ (extractStridedSlice S1x1x256x4096 ![0, 3, 0, 0] A6 slices_S4x4x256x4096_S1x1x256x4096_0_3_0_0) shapeCasts_S1x1x256x4096_S256x4096)) (broadcastInDim S16384x4096 ![0, 1] bcast_S1x4096_S16384x4096_0_1 (broadcastInDim S1x4096 ![1] bcast_S4096_S1x4096_1 (shapeCast _ (extractStridedSlice S1x1x4096 ![0, 3, 0] A7 slices_S4x4x4096_S1x1x4096_0_3_0) shapeCasts_S1x1x4096_S4096)))))))) (Host.dotGeneral dot_S16384x1024_S1024x4096_S16384x4096_1_0_0_1_n_n none (extf .f32 A3 bitsLt_bf16_f32) (shapeCast _ (extractStridedSlice S1x1x1024x4096 ![0, 3, 0, 0] A5 slices_S4x4x1024x4096_S1x1x1024x4096_0_3_0_0) shapeCasts_S1x1x1024x4096_S1024x4096)))) bitsLt_bf16_f32

end Cert.Reference6Ideal.Merge

namespace Cert.Kernel6Ideal.Merge

open Cert.Kernel6Ideal Cert.Kernel6Ideal.Gen
open Cert.Reference6Ideal.Merge (REF)

variable (m : (ℓ : Loc nD τ sig) → Buf (Elt Ideal) ℓ)

/-- The index maps of the nine windows, at every grid point: column block `t / 32`, row block `t % 32`. -/
theorem idx : ∀ t : Fin cfg0.N, win0_0.index t = ![t.val % 32, 0] ∧ win0_1.index t = ![t.val % 32, 0]
    ∧ win0_2.index t = ![t.val % 32, 0] ∧ win0_3.index t = ![t.val % 32, 0] ∧ win0_4.index t = ![t.val % 32, 0]
    ∧ win0_5.index t = ![0, 0, 0, t.val / 32] ∧ win0_6.index t = ![0, 0, 0, t.val / 32]
    ∧ win0_7.index t = ![0, 0, t.val / 32] ∧ win0_8.index t = ![t.val % 32, t.val / 32] :=
  (by decide +kernel : ∀ t : Fin grid0.N, _)

/-- The result after the run. -/
theorem final (c : Dev nD) : (dats m 0 c).arrAt 8 (cfgs 0).N = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (dats m 0 c).arrAt_eq_of_covers 8 _ (by decide +kernel) fun t _ y => ?_
  blk_simp
  rw [after0_8]
  frame_out
  pointwise [k0_pay1, k0_pay2, k0_pay3, k0_pay4, k0_pay5, REF]
  simp only [Ideal.logistic]
  blk_point [iblk, V, idx t]

/-- The run: the result is the reference's terms of the arguments, which end unchanged. -/
theorem run (ρ : Dev nD → PrngReg) :
    θ_run defs (onTc (τ := τ) (main (F := Ideal))) ⟨m, fun _ => 0, ρ⟩ fun r => ∀ c : Dev nD,
      r.2.mem ((c : Thread nD τ).loc main_v2) = REF (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩)
    (Value.run_blocks m ρ)

end Cert.Kernel6Ideal.Merge

namespace Cert.Proof.Merge

theorem frame_k : Cert.quiescent_Kernel6 := fun m ρ _ => Cert.Kernel6.Gen.frame m ρ
theorem frame_ki : Cert.quiescent_Kernel6Ideal := fun m ρ _ => Cert.Kernel6Ideal.Gen.frame m ρ
theorem frame_ri : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)
theorem preserves : Cert.preserves_Kernel6_Kernel6Ideal := trivial

/-- At `Ideal` the result is the reference's, argument for argument. -/
theorem algebraic : Cert.algebraic_Kernel6Ideal_Reference6Ideal := by
  intro m ρ m' ρ' _ hagree
  refine ⟨fun c => Cert.Reference6Ideal.Merge.REF (m ((c.tc : Thread _ _).loc Cert.Kernel6Ideal.main_arg0)) (m ((c.tc : Thread _ _).loc Cert.Kernel6Ideal.main_arg1)) (m ((c.tc : Thread _ _).loc Cert.Kernel6Ideal.main_arg2)) (m ((c.tc : Thread _ _).loc Cert.Kernel6Ideal.main_arg3)) (m ((c.tc : Thread _ _).loc Cert.Kernel6Ideal.main_arg4)) (m ((c.tc : Thread _ _).loc Cert.Kernel6Ideal.main_arg5)) (m ((c.tc : Thread _ _).loc Cert.Kernel6Ideal.main_arg6)) (m ((c.tc : Thread _ _).loc Cert.Kernel6Ideal.main_arg7)),
    ?_, ?_⟩
  · exact Cert.Kernel6Ideal.Merge.run m ρ
  refine (θ_run Cert.Reference6Ideal.defs _ _).mono (fun r h c => ⟨(h c).1.trans ?_, (h c).2⟩)
    (Cert.Reference6Ideal.Value.run (F := Ideal) m' ρ')
  · unfold Cert.Reference6Ideal.Value.res_main_v82
    rw [(hagree c).1, (hagree c).2.1, (hagree c).2.2.1, (hagree c).2.2.2.1, (hagree c).2.2.2.2.1, (hagree c).2.2.2.2.2.1, (hagree c).2.2.2.2.2.2.1, (hagree c).2.2.2.2.2.2.2]
    rfl

end Cert.Proof.Merge

end
-- ==== Proof.Part7.lean ====
/- What the three results of the per-layer input hold after the run: the stream with the gated input added, its product
   with the next norm's weights, and the sum of its squares along a row. -/
module

public import proofs.«01_k».proof.Defs
public import proofs.«01_k».proof.Proof.Gen.Kernel7.Frame
public import proofs.«01_k».proof.Proof.Gen.Kernel7Ideal.Value
public import proofs.«01_k».proof.Proof.Gen.Reference7Ideal.Run
public import Idealize.ShloMosaic.Lib.Quiescent
public import Idealize.ShloMosaic.Lib.Pointwise
public import Idealize.ShloMosaic.Lib.Pipeline.ValueKit
public import proofs.«01_k».proof.Proof.Norm
public import Idealize.ShloMosaic.Lib.Pipeline.ReadBack

@[expose] public section

set_option maxRecDepth 16384

noncomputable section

open Idealize.ShloMosaic Idealize.ShloMosaic.TcCoe Idealize.SL.Sem
open Idealize.ShloMosaic.Pipeline (Dat)

namespace Cert.Reference7Ideal.Ple

open Cert.Reference7Ideal Cert.Reference7Ideal.Gen

/-- The reference's first product of the gate: the normalised rows with the gate's first weights. -/
def REFM (A0 : FVec Ideal S16384x4096 .f32) (A1 : FVec Ideal S4x4096 .f32) (A2 : FVec Ideal S4x4096x256 .f32) : FVec Ideal S16384x256 .f32 :=
  Host.dotGeneral dot_S16384x4096_S4096x256_S16384x256_1_0_0_1_n_n none (mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 (shapeCast _ (extractStridedSlice S1x4096 ![0, 0] A1 slices_S4x4096_S1x4096_0_0) shapeCasts_S1x4096_S4096)))) (shapeCast _ (extractStridedSlice S1x4096x256 ![0, 0, 0] A2 slices_S4x4096x256_S1x4096x256_0_0_0) shapeCasts_S1x4096x256_S4096x256)

/-- The reference's stream after the per-layer input. -/
def REFN (A0 : FVec Ideal S16384x4096 .f32) (A1 : FVec Ideal S4x4096 .f32) (A2 : FVec Ideal S4x4096x256 .f32) (A3 : FVec Ideal S4x256x4096 .f32) (A4 : FVec Ideal S4x16384x256 .f32) (A5 : FVec Ideal S4x256x4096 .f32) : FVec Ideal S16384x4096 .f32 :=
  addf A0 (mulf (Host.divf (broadcastInDim S16384x4096 ![] bcast_S_S16384x4096 (constant S_ .f32 0x3F800000#32)) (addf (broadcastInDim S16384x4096 ![] bcast_S_S16384x4096 (constant S_ .f32 0x3F800000#32)) (Host.exp (Host.negf (Host.dotGeneral dot_S16384x256_S256x4096_S16384x4096_1_0_0_1_n_n none (REFM A0 A1 A2) (shapeCast _ (extractStridedSlice S1x256x4096 ![0, 0, 0] A3 slices_S4x256x4096_S1x256x4096_0_0_0) shapeCasts_S1x256x4096_S256x4096)))))) (Host.dotGeneral dot_S16384x256_S256x4096_S16384x4096_1_0_0_1_n_n none (shapeCast _ (extractStridedSlice S1x16384x256 ![0, 0, 0] A4 slices_S4x16384x256_S1x16384x256_0_0_0) shapeCasts_S1x16384x256_S16384x256) (shapeCast _ (extractStridedSlice S1x256x4096 ![0, 0, 0] A5 slices_S4x256x4096_S1x256x4096_0_0_0) shapeCasts_S1x256x4096_S256x4096)))

/-- Its product with the next norm's weights. -/
def REFG (A0 : FVec Ideal S16384x4096 .f32) (A1 : FVec Ideal S4x4096 .f32) (A2 : FVec Ideal S4x4096x256 .f32) (A3 : FVec Ideal S4x256x4096 .f32) (A4 : FVec Ideal S4x16384x256 .f32) (A5 : FVec Ideal S4x256x4096 .f32) (A6 : FVec Ideal S4x4096 .f32) : FVec Ideal S16384x4096 .bf16 :=
  truncf .bf16 (mulf (REFN A0 A1 A2 A3 A4 A5) (broadcastInDim S16384x4096 ![0, 1] bcast_S1x4096_S16384x4096_0_1 (broadcastInDim S1x4096 ![1] bcast_S4096_S1x4096_1 (shapeCast _ (extractStridedSlice S1x4096 ![1, 0] A6 slices_S4x4096_S1x4096_1_0) shapeCasts_S1x4096_S4096)))) bitsLt_bf16_f32

/-- The sum of its squares along each row. -/
def REFS (A0 : FVec Ideal S16384x4096 .f32) (A1 : FVec Ideal S4x4096 .f32) (A2 : FVec Ideal S4x4096x256 .f32) (A3 : FVec Ideal S4x256x4096 .f32) (A4 : FVec Ideal S4x16384x256 .f32) (A5 : FVec Ideal S4x256x4096 .f32) : FVec Ideal S16384x1 .f32 :=
  broadcastInDim S16384x1 ![0] bcast_S16384_S16384x1_0 (Host.reduceAdd (mulf (REFN A0 A1 A2 A3 A4 A5) (REFN A0 A1 A2 A3 A4 A5)) (constant S_ .f32 0x00000000#32) reducesTo_S16384x4096_S16384_d1 h_S_)

end Cert.Reference7Ideal.Ple

namespace Cert.Kernel7Ideal.Ple

open Cert.Kernel7Ideal Cert.Kernel7Ideal.Gen
open Cert.Reference7Ideal.Ple (REFM REFN REFG REFS)

variable (m : (ℓ : Loc nD τ sig) → Buf (Elt Ideal) ℓ)

/-- The index maps of the windows: row block `t / 4`, column block `t % 4`. -/
theorem idx : ∀ t : Fin cfg0.N, win0_0.index t = ![t.val / 4, 0] ∧ win0_1.index t = ![t.val / 4, 0]
    ∧ win0_2.index t = ![0, 0, 0] ∧ win0_3.index t = ![0, 0, t.val % 4] ∧ win0_4.index t = ![0, t.val / 4, 0]
    ∧ win0_5.index t = ![0, 0, t.val % 4] ∧ win0_6.index t = ![t.val / 4, t.val % 4] ∧ win0_7.index t = ![0, t.val % 4]
    ∧ win0_8.index t = ![t.val / 4, t.val % 4] ∧ win0_9.index t = ![t.val / 4, t.val % 4] ∧ win0_10.index t = ![t.val / 4, 0] :=
  (by decide +kernel : ∀ t : Fin grid0.N, _)

/-- The rows weighted by the norm's weights. -/
def HG (H : FVec Ideal S16384x4096 .f32) (G : FVec Ideal S4x4096 .f32) : FVec Ideal S16384x4096 .bf16 :=
  truncf .bf16 (mulf H (broadcastInDim S16384x4096 ![0, 1] bcast_S1x4096_S16384x4096_0_1 (broadcastInDim S1x4096 ![1] bcast_S4096_S1x4096_1 (shapeCast S4096 (extractStridedSlice S1x4096 ![0, 0] G slices_S4x4096_S1x4096_0_0) shapeCasts_S1x4096_S4096)))) bitsLt_bf16_f32

/-- The rows' sums of squares. -/
def SQ (X : FVec Ideal S16384x4096 .f32) : FVec Ideal S16384x1 .f32 :=
  broadcastInDim S16384x1 ![0] bcast_S16384_S16384x1_0 (Host.reduceAdd (mulf X X) (constant S_ .f32 0x00000000#32) reducesTo_S16384x4096_S16384_d1 h_S_)

/-- The host code in front of the call leaves the weighted rows in its first operand. -/
theorem V_hg (c : Dev nD) : V m c main_v5 = HG (m ((c : Thread nD τ).loc main_arg0)) (m ((c : Thread nD τ).loc main_arg1)) := by
  show StableHlo.after hostOps0 _ main_v5 = _
  after_results
  rfl

/-- And the rows' sums in its second. -/
theorem V_sq (c : Dev nD) : V m c main_v8 = SQ (m ((c : Thread nD τ).loc main_arg0)) := by
  show StableHlo.after hostOps0 _ main_v8 = _
  after_results
  rfl

/-- And the weights of the next norm in its last. -/
theorem V_gn (c : Dev nD) : V m c main_v14 = shapeCast S1x4096 (shapeCast S4096 (extractStridedSlice S1x4096 ![1, 0] (show FVec Ideal S4x4096 .f32 from m ((c : Thread nD τ).loc main_arg6)) slices_S4x4096_S1x4096_1_0) shapeCasts_S1x4096_S4096) shapeCasts_S4096_S1x4096 := by
  show StableHlo.after hostOps0 _ main_v14 = _
  after_results
  rfl

section Blocks

variable (c : Dev nD) (t : Fin cfg0.N) (a : Fin 1024) (i : Fin 16384) (hi : i.val = t.val / 4 * 1024 + a.val)

include hi

/-- The weighted rows' block. -/
theorem blk_rows (k : Fin 4096) : (show FVec Ideal S1024x4096 .bf16 from iblk m c 0 t) (ix2 a k)
    = (show FVec Ideal S16384x4096 .bf16 from V m c main_v5) (ix2 i k) := by
  unfold iblk
  generalize V m c = v
  blk_point [idx t, hi]

/-- The block of the sums of squares. -/
theorem blk_sums : (show FVec Ideal S1024x1 .f32 from iblk m c 1 t) (ix2 a 0)
    = (show FVec Ideal S16384x1 .f32 from V m c main_v8) (ix2 i 0) := by
  unfold iblk
  generalize V m c = v
  blk_point [idx t, hi]

/-- The per-layer input's block. -/
theorem blk_in (k : Fin 256) : (show FVec Ideal S1x1024x256 .f32 from iblk m c 4 t) (ix3 0 a k)
    = (show FVec Ideal S4x16384x256 .f32 from m ((c : Thread nD τ).loc main_arg4)) (ix3 0 i k) := by
  blk_point [iblk, V, idx t, hi]

omit hi

/-- The gate's first weights. -/
theorem blk_down (k : Fin 4096) (r : Fin 256) : (show FVec Ideal S1x4096x256 .bf16 from iblk m c 2 t) (ix3 0 k r)
    = (show FVec Ideal S4x4096x256 .f32 from m ((c : Thread nD τ).loc main_arg2)) (ix3 0 k r) := by
  blk_point [iblk, V, idx t]

variable (b : Fin 1024) (o : Fin 4096) (ho : o.val = t.val % 4 * 1024 + b.val)
include ho

/-- The gate's second weights' block. -/
theorem blk_up (k : Fin 256) : (show FVec Ideal S1x256x1024 .bf16 from iblk m c 3 t) (ix3 0 k b)
    = (show FVec Ideal S4x256x4096 .f32 from m ((c : Thread nD τ).loc main_arg3)) (ix3 0 k o) := by
  blk_point [iblk, V, idx t, ho]

/-- The per-layer input's weights' block. -/
theorem blk_win (k : Fin 256) : (show FVec Ideal S1x256x1024 .bf16 from iblk m c 5 t) (ix3 0 k b)
    = (show FVec Ideal S4x256x4096 .f32 from m ((c : Thread nD τ).loc main_arg5)) (ix3 0 k o) := by
  blk_point [iblk, V, idx t, ho]

/-- The next norm's weights' block. -/
theorem blk_gn : (show FVec Ideal S1x1024 .f32 from iblk m c 7 t) (ix2 0 b)
    = (show FVec Ideal S1x4096 .f32 from V m c main_v14) (ix2 0 o) := by
  unfold iblk
  generalize V m c = v
  blk_point [idx t, ho]

include hi

/-- The stream's block. -/
theorem blk_h : (show FVec Ideal S1024x1024 .f32 from iblk m c 6 t) (ix2 a b)
    = (show FVec Ideal S16384x4096 .f32 from m ((c : Thread nD τ).loc main_arg0)) (ix2 i o) := by
  blk_point [iblk, V, idx t, hi, ho]

end Blocks

/-- One element of the kernel's first product, scaled after. -/
theorem pay_mid (x : FVec Ideal S1024x4096 .bf16) (w : FVec Ideal S1x4096x256 .bf16) (q : FVec Ideal S1024x1 .f32) (a : Fin 1024) (r : Fin 256) :
    k0_pay2 (F := Ideal) x w q (ix2 a r)
      = (∑ k : Fin 4096, x (ix2 a k) * w (ix3 0 k r)) * Cert.Proof.Norm.scale (q (ix2 a 0)) := by
  pointwise [k0_pay2, Cert.Proof.Norm.scale]

/-- One element of the reference's first product, scaled after. -/
theorem ref_mid (H : FVec Ideal S16384x4096 .f32) (G : FVec Ideal S4x4096 .f32) (W : FVec Ideal S4x4096x256 .f32) (i : Fin 16384) (r : Fin 256) :
    REFM H G W (ix2 i r)
      = (∑ k : Fin 4096, HG H G (ix2 i k) * W (ix3 0 k r)) * Cert.Proof.Norm.scale (SQ H (ix2 i 0)) := by
  refine Eq.trans ?_ (Eq.trans (Cert.Proof.Norm.contract (fun k => H (ix2 i k)) (fun k => G (ix2 0 k)) (fun k => W (ix3 0 k r))) ?_)
  · pointwise [REFM, Cert.Proof.Norm.scale]
  · pointwise [HG, SQ, Cert.Proof.Norm.scale]

/-- The kernel's first product of a row block is the reference's. -/
theorem mid (c : Dev nD) (t : Fin cfg0.N) (a : Fin 1024) (i : Fin 16384) (hi : i.val = t.val / 4 * 1024 + a.val) (r : Fin 256) :
    k0_pay2 (F := Ideal) (iblk m c 0 t) (iblk m c 2 t) (iblk m c 1 t) (ix2 a r)
      = REFM (m ((c : Thread nD τ).loc main_arg0)) (m ((c : Thread nD τ).loc main_arg1)) (m ((c : Thread nD τ).loc main_arg2)) (ix2 i r) := by
  refine (pay_mid _ _ _ _ _).trans (Eq.trans ?_ (ref_mid _ _ _ _ _).symm)
  refine Ideal.mul_congr (Finset.sum_congr (rfl : (Finset.univ : Finset (Fin 4096)) = _) fun k _ => Ideal.mul_congr ?_ ?_) (congrArg Cert.Proof.Norm.scale ?_)
  · exact (blk_rows m c t a i hi k).trans (congrFun (V_hg m c) _)
  · exact blk_down m c t k r
  · exact (blk_sums m c t a i hi).trans (congrFun (V_sq m c) _)

/-- What the scratch holds after each point: its row block's first product. -/
theorem scr (c : Dev nD) : ∀ (n : ℕ) (hn : n < cfg0.N) (a : Fin 1024) (i : Fin 16384) (_ : i.val = n / 4 * 1024 + a.val) (r : Fin 256),
    (outsAt0 m c n hn).2.2.2 (ix2 a r)
      = REFM (m ((c : Thread nD τ).loc main_arg0)) (m ((c : Thread nD τ).loc main_arg1)) (m ((c : Thread nD τ).loc main_arg2)) (ix2 i r) := by
  intro n
  induction n with
  | zero =>
    intro hn a i hi r
    rw [outsAt0_A m c ⟨0, hn⟩ rfl rfl (by show ¬ 1 ≤ 0 % 4; decide)]
    frame_out
    exact mid m c ⟨0, hn⟩ a i hi r
  | succ n ih =>
    intro hn a i hi r
    by_cases h0 : (n + 1) % 4 = 0
    · rw [outsAt0_A m c ⟨n + 1, hn⟩ h0 h0 (by show ¬ 1 ≤ (n + 1) % 4; omega)]
      frame_out
      exact mid m c ⟨n + 1, hn⟩ a i hi r
    · rw [outsAt0_B m c ⟨n + 1, hn⟩ h0 h0 (by show 1 ≤ (n + 1) % 4; omega)]
      frame_out
      exact ih (Nat.lt_of_succ_lt hn) a i (by omega) r

/-- One element of a block of the stream, from the scratch. -/
theorem pay_h (s : FVec Ideal S1024x256 .bf16) (u : FVec Ideal S1x256x1024 .bf16) (p : FVec Ideal S1x1024x256 .f32) (w : FVec Ideal S1x256x1024 .bf16) (h : FVec Ideal S1024x1024 .f32) (y : S1024x1024.Idx) :
    k0_pay3 (F := Ideal) s u p w h y
      = h y + Ideal.logistic (∑ r : Fin 256, s (ix2 (y 0) r) * u (ix3 0 r (y 1))) * ∑ r : Fin 256, p (ix3 0 (y 0) r) * w (ix3 0 r (y 1)) := by
  pointwise [k0_pay3]

/-- One element of the reference's stream. -/
theorem ref_h (A0 : FVec Ideal S16384x4096 .f32) (A1 : FVec Ideal S4x4096 .f32) (A2 : FVec Ideal S4x4096x256 .f32) (A3 : FVec Ideal S4x256x4096 .f32) (A4 : FVec Ideal S4x16384x256 .f32) (A5 : FVec Ideal S4x256x4096 .f32) (j : S16384x4096.Idx) :
    REFN A0 A1 A2 A3 A4 A5 j
      = A0 j + Ideal.logistic (∑ r : Fin 256, REFM A0 A1 A2 (ix2 (j 0) r) * A3 (ix3 0 r (j 1))) * ∑ r : Fin 256, A4 (ix3 0 (j 0) r) * A5 (ix3 0 r (j 1)) := by
  simp only [Ideal.logistic]
  pointwise [REFN]

/-- One element of a block of the stream is the array's. -/
theorem core (c : Dev nD) (t : Fin cfg0.N) (s : FVec Ideal S1024x256 .bf16)
    (hs : ∀ (a : Fin 1024) (i : Fin 16384) (_ : i.val = t.val / 4 * 1024 + a.val) (r : Fin 256), s (ix2 a r)
      = REFM (m ((c : Thread nD τ).loc main_arg0)) (m ((c : Thread nD τ).loc main_arg1)) (m ((c : Thread nD τ).loc main_arg2)) (ix2 i r))
    (y : S1024x1024.Idx) (j : S16384x4096.Idx)
    (h0 : (j 0 : ℕ) = t.val / 4 * 1024 + y 0) (h1 : (j 1 : ℕ) = t.val % 4 * 1024 + y 1) :
    k0_pay3 (F := Ideal) s (iblk m c 3 t) (iblk m c 4 t) (iblk m c 5 t) (iblk m c 6 t) y
      = REFN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) j := by
  refine (pay_h _ _ _ _ _ _).trans (Eq.trans ?_ (ref_h _ _ _ _ _ _ _).symm)
  refine congrArg₂ (fun p q => p + q) ?_ (Ideal.mul_congr (congrArg Ideal.logistic ?_) ?_)
  · have e := blk_h m c t (y 0) (j 0) h0 (y 1) (j 1) h1
    rw [ValueIdx.eq_ix2 y, ValueIdx.eq_ix2 j]
    exact e
  · exact Finset.sum_congr (rfl : (Finset.univ : Finset (Fin 256)) = _) fun r _ => Ideal.mul_congr (hs (y 0) (j 0) h0 r) (blk_up m c t (y 1) (j 1) h1 r)
  · exact Finset.sum_congr (rfl : (Finset.univ : Finset (Fin 256)) = _) fun r _ => Ideal.mul_congr (blk_in m c t (y 0) (j 0) h0 r) (blk_win m c t (y 1) (j 1) h1 r)

/-- One element of a block of its product with the weights is the array's. -/
theorem core_g (c : Dev nD) (t : Fin cfg0.N) (s : FVec Ideal S1024x256 .bf16)
    (hs : ∀ (a : Fin 1024) (i : Fin 16384) (_ : i.val = t.val / 4 * 1024 + a.val) (r : Fin 256), s (ix2 a r)
      = REFM (m ((c : Thread nD τ).loc main_arg0)) (m ((c : Thread nD τ).loc main_arg1)) (m ((c : Thread nD τ).loc main_arg2)) (ix2 i r))
    (y : S1024x1024.Idx) (j : S16384x4096.Idx)
    (h0 : (j 0 : ℕ) = t.val / 4 * 1024 + y 0) (h1 : (j 1 : ℕ) = t.val % 4 * 1024 + y 1) :
    k0_pay4 (F := Ideal) s (iblk m c 3 t) (iblk m c 4 t) (iblk m c 5 t) (iblk m c 6 t) (iblk m c 7 t) y
      = REFG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) j := by
  have e := core m c t s hs y j h0 h1
  have eg := (blk_gn m c t (y 1) (j 1) h1).trans (congrFun (V_gn m c) _)
  pointwise [k0_pay4, REFG]
  refine Ideal.mul_congr e (Eq.trans eg ?_)
  pointwise []

/-- One row's sum of squares over a block. -/
theorem row (s : FVec Ideal S1024x256 .bf16) (u : FVec Ideal S1x256x1024 .bf16) (p : FVec Ideal S1x1024x256 .f32) (w : FVec Ideal S1x256x1024 .bf16) (h : FVec Ideal S1024x1024 .f32) (j : S1024x1.Idx) :
    k0_pay5 (F := Ideal) s u p w h j = ∑ k : Fin 1024, k0_pay3 (F := Ideal) s u p w h (ix2 (j 0) k) * k0_pay3 (F := Ideal) s u p w h (ix2 (j 0) k) := by
  pointwise [k0_pay5]

/-- A row's sum over a block, added to what the window held. -/
theorem row_acc (v : FVec Ideal S1024x1 .f32) (x : FVec Ideal S1024x1 .f32) (j : S1024x1.Idx) :
    k0_pay1 (F := Ideal) v x j = x j + v j := by
  pointwise [k0_pay1]

/-- The reference's sum of squares along a row. -/
theorem ref_sq (A0 : FVec Ideal S16384x4096 .f32) (A1 : FVec Ideal S4x4096 .f32) (A2 : FVec Ideal S4x4096x256 .f32) (A3 : FVec Ideal S4x256x4096 .f32) (A4 : FVec Ideal S4x16384x256 .f32) (A5 : FVec Ideal S4x256x4096 .f32) (j : S16384x1.Idx) :
    REFS A0 A1 A2 A3 A4 A5 j = ∑ k : Fin 4096, REFN A0 A1 A2 A3 A4 A5 (ix2 (j 0) k) * REFN A0 A1 A2 A3 A4 A5 (ix2 (j 0) k) := by
  pointwise [REFS]

/-- What the point before leaves in the scratch is the row block's first product too, unless the point is the block's
    first. -/
theorem scr_prev (c : Dev nD) (t : Fin cfg0.N) (h : ¬ t.val % 4 = 0) (a : Fin 1024) (i : Fin 16384) (hi : i.val = t.val / 4 * 1024 + a.val) (r : Fin 256) :
    (outsAt0 m c (t.val - 1) (Nat.lt_of_le_of_lt (Nat.sub_le _ _) t.isLt)).2.2.2 (ix2 a r)
      = REFM (m ((c : Thread nD τ).loc main_arg0)) (m ((c : Thread nD τ).loc main_arg1)) (m ((c : Thread nD τ).loc main_arg2)) (ix2 i r) :=
  scr m c (t.val - 1) _ a i (by omega) r

/-- The first result after the run. -/
theorem final8 (c : Dev nD) : (dats m 0 c).arrAt 8 (cfgs 0).N = REFN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 8 _ (by decide +kernel) fun t _ y => ?_
  blk_simp
  rw [after0_8]
  by_cases h0 : t.val % 4 = 0
  · rw [outsAt0_A m c t h0 h0 (by omega)]
    frame_out
    refine core m c t _ (mid m c t) _ _ ?_ ?_ <;> blk_simp [idx t]
  · rw [outsAt0_B m c t h0 h0 (by omega)]
    frame_out
    rw [read_unread_whole]
    refine core m c t _ (scr_prev m c t h0) _ _ ?_ ?_ <;> blk_simp [idx t]

/-- The second result after the run. -/
theorem final9 (c : Dev nD) : (dats m 0 c).arrAt 9 (cfgs 0).N = REFG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (dats m 0 c).arrAt_eq_of_covers 9 _ (by decide +kernel) fun t _ y => ?_
  blk_simp
  rw [after0_9]
  by_cases h0 : t.val % 4 = 0
  · rw [outsAt0_A m c t h0 h0 (by omega)]
    frame_out
    refine core_g m c t _ (mid m c t) _ _ ?_ ?_ <;> blk_simp [idx t]
  · rw [outsAt0_B m c t h0 h0 (by omega)]
    frame_out
    rw [read_unread_whole]
    refine core_g m c t _ (scr_prev m c t h0) _ _ ?_ ?_ <;> blk_simp [idx t]

/-- The scratch's contents that the products of point `p` read. -/
def scrAt (c : Dev nD) (p : Fin cfg0.N) : FVec Ideal S1024x256 .bf16 :=
  if p.val % 4 = 0 then k0_pay2 (F := Ideal) (iblk m c 0 p) (iblk m c 2 p) (iblk m c 1 p)
  else (outsAt0 m c (p.val - 1) (Nat.lt_of_le_of_lt (Nat.sub_le _ _) p.isLt)).2.2.2

/-- They are the row block's first product. -/
theorem scrAt_eq (c : Dev nD) (p : Fin cfg0.N) (a : Fin 1024) (i : Fin 16384) (hi : i.val = p.val / 4 * 1024 + a.val) (r : Fin 256) :
    scrAt m c p (ix2 a r)
      = REFM (m ((c : Thread nD τ).loc main_arg0)) (m ((c : Thread nD τ).loc main_arg1)) (m ((c : Thread nD τ).loc main_arg2)) (ix2 i r) := by
  unfold scrAt
  by_cases h : p.val % 4 = 0
  · rw [if_pos h]
    exact mid m c p a i hi r
  · rw [if_neg h]
    exact scr_prev m c p h a i hi r

/-- The third result after the run: four column blocks' sums, added in order. -/
theorem final10 (c : Dev nD) : (dats m 0 c).arrAt 10 (cfgs 0).N = REFS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (dats m 0 c).arrAt_eq_of_covers 10 _ (by decide +kernel) fun t hf y => ?_
  blk_simp
  rw [after0_10, Pipeline.eq_sum_fin_of_reset_step_apply_of_flush (fun n h => (outsAt0 m c n h).2.2.1) 4 (fun _ => 0)
      (fun p j => ∑ k : Fin 1024, k0_pay3 (F := Ideal) (scrAt m c p) (iblk m c 3 p) (iblk m c 4 p) (iblk m c 5 p) (iblk m c 6 p) (ix2 (j 0) k)
        * k0_pay3 (F := Ideal) (scrAt m c p) (iblk m c 3 p) (iblk m c 4 p) (iblk m c 5 p) (iblk m c 6 p) (ix2 (j 0) k))
    (fun t h j => by rw [outsAt0_A m c t h h (by omega)]; frame_out; unfold scrAt; rw [if_pos h, zero_add]; exact row _ _ _ _ _ _)
    (fun t h j => by rw [outsAt0_B m c t h h (by omega)]; frame_out; unfold scrAt; rw [if_neg h, row_acc, row, read_unread_whole])
    t ((flush0_10 t).mp hf) _, zero_add, ref_sq]
  refine Fin.sum_mul_add_congr fun s k hl => ?_
  have e : ∀ y : S1024x1024.Idx, ∀ j : S16384x4096.Idx, _ := core m c ⟨_, Pipeline.run_point_lt_of_flush t ((flush0_10 t).mp hf) s⟩ _ (scrAt_eq m c _)
  rw [e _ _ ?_ ?_]
  · have := s.isLt
    have hi := (idx t).2.2.2.2.2.2.2.2.2.2
    blk_simp [hi]
    show t.val / 4 * 1024 + (y 0).val = (4 * (t.val / 4) + s.val) / 4 * 1024 + (y 0).val
    omega
  · have := s.isLt
    show s.val * 1024 + k.val = (4 * (t.val / 4) + s.val) % 4 * 1024 + k.val
    omega

/-- The run: the three results are the reference's terms of the arguments, which end unchanged. -/
theorem run (ρ : Dev nD → PrngReg) :
    θ_run defs (onTc (τ := τ) (main (F := Ideal))) ⟨m, fun _ => 0, ρ⟩ fun r => ∀ c : Dev nD,
      r.2.mem ((c : Thread nD τ).loc main_v15_0) = REFN (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v15_1) = REFG (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
      ∧ r.2.mem ((c : Thread nD τ).loc main_v15_2) = REFS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final8 m c), (h c).2.1.trans (final9 m c), (h c).2.2.1.trans (final10 m c), (h c).2.2.2⟩)
    (Value.run_blocks m ρ)

end Cert.Kernel7Ideal.Ple

namespace Cert.Proof.Ple

theorem frame_k : Cert.quiescent_Kernel7 := fun m ρ _ => Cert.Kernel7.Gen.frame m ρ
theorem frame_ki : Cert.quiescent_Kernel7Ideal := fun m ρ _ => Cert.Kernel7Ideal.Gen.frame m ρ
theorem frame_ri : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)
theorem preserves : Cert.preserves_Kernel7_Kernel7Ideal := trivial

/-- At `Ideal` the three results are the reference's, argument for argument. -/
theorem algebraic : Cert.algebraic_Kernel7Ideal_Reference7Ideal := by
  intro m ρ m' ρ' _ hagree
  refine ⟨fun c => Cert.Reference7Ideal.Ple.REFN (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)) (m ((c.tc : Thread _ _).loc Cert.Kernel7Ideal.main_arg4)) (m ((c.tc : Thread _ _).loc Cert.Kernel7Ideal.main_arg5)),
    fun c => Cert.Reference7Ideal.Ple.REFG (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)) (m ((c.tc : Thread _ _).loc Cert.Kernel7Ideal.main_arg4)) (m ((c.tc : Thread _ _).loc Cert.Kernel7Ideal.main_arg5)) (m ((c.tc : Thread _ _).loc Cert.Kernel7Ideal.main_arg6)),
    fun c => Cert.Reference7Ideal.Ple.REFS (m ((c.tc : Thread _ _).loc Cert.Kernel7Ideal.main_arg0)) (m ((c.tc : Thread _ _).loc Cert.Kernel7Ideal.main_arg1)) (m ((c.tc : Thread _ _).loc Cert.Kernel7Ideal.main_arg2)) (m ((c.tc : Thread _ _).loc Cert.Kernel7Ideal.main_arg3)) (m ((c.tc : Thread _ _).loc Cert.Kernel7Ideal.main_arg4)) (m ((c.tc : Thread _ _).loc Cert.Kernel7Ideal.main_arg5)),
    ?_, ?_⟩
  · exact Cert.Kernel7Ideal.Ple.run m ρ
  refine (θ_run Cert.Reference7Ideal.defs _ _).mono (fun r h c => ⟨(h c).1.trans ?_, (h c).2.1.trans ?_, (h c).2.2.1.trans ?_, (h c).2.2.2⟩)
    (Cert.Reference7Ideal.Value.run (F := Ideal) m' ρ')
  · rw [(hagree c).1, (hagree c).2.1, (hagree c).2.2.1, (hagree c).2.2.2.1, (hagree c).2.2.2.2.1, (hagree c).2.2.2.2.2.1]
    rfl
  · rw [(hagree c).1, (hagree c).2.1, (hagree c).2.2.1, (hagree c).2.2.2.1, (hagree c).2.2.2.2.1, (hagree c).2.2.2.2.2.1, (hagree c).2.2.2.2.2.2]
    rfl
  · unfold Cert.Reference7Ideal.Value.res_main_v42
    rw [(hagree c).1, (hagree c).2.1, (hagree c).2.2.1, (hagree c).2.2.2.1, (hagree c).2.2.2.2.1, (hagree c).2.2.2.2.2.1]
    rfl

end Cert.Proof.Ple

end
-- ==== Proof.Part8.lean ====
/- What the output's normalisation holds after the run: each row by its reciprocal root mean square and the weights. -/
module

public import proofs.«01_k».proof.Defs
public import proofs.«01_k».proof.Proof.Gen.Kernel8.Frame
public import proofs.«01_k».proof.Proof.Gen.Kernel8Ideal.Value
public import proofs.«01_k».proof.Proof.Gen.Reference8Ideal.Run
public import Idealize.ShloMosaic.Lib.Quiescent
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.Reference8Ideal.FinalNorm

open Cert.Reference8Ideal Cert.Reference8Ideal.Gen

/-- The reference's term of its arguments. -/
def REF (A0 : FVec Ideal S16384x4096 .f32) (A1 : FVec Ideal S4096 .f32) :=
  mulf (mulf A0 (broadcastInDim S16384x4096 ![0, 1] bcast_S16384x1_S16384x4096_0_1 (Host.rsqrt (addf (Host.divf (broadcastInDim S16384x1 ![0] bcast_S16384_S16384x1_0 (Host.reduceAdd (mulf A0 A0) (constant S_ .f32 0x00000000#32) reducesTo_S16384x4096_S16384_d1 h_S_)) (broadcastInDim S16384x1 ![] bcast_S_S16384x1 (constant S_ .f32 0x45800000#32))) (broadcastInDim S16384x1 ![] bcast_S_S16384x1 (constant S_ .f32 0x358637BD#32)))))) (broadcastInDim S16384x4096 ![0, 1] bcast_S1x4096_S16384x4096_0_1 (broadcastInDim S1x4096 ![1] bcast_S4096_S1x4096_1 A1))

end Cert.Reference8Ideal.FinalNorm

namespace Cert.Kernel8Ideal.FinalNorm

open Cert.Kernel8Ideal Cert.Kernel8Ideal.Gen
open Cert.Reference8Ideal.FinalNorm (REF)

variable (m : (ℓ : Loc nD τ sig) → Buf (Elt Ideal) ℓ)

/-- The index maps of the four windows: row block `t`. -/
theorem idx : ∀ t : Fin cfg0.N, win0_0.index t = ![t.val, 0] ∧ win0_1.index t = ![t.val, 0]
    ∧ win0_2.index t = ![0, 0] ∧ win0_3.index t = ![t.val, 0] :=
  (by decide +kernel : ∀ t : Fin grid0.N, _)

/-- The rows' sums of squares. -/
def SQ (X : FVec Ideal S16384x4096 .f32) : FVec Ideal S16384x1 .f32 :=
  broadcastInDim S16384x1 ![0] bcast_S16384_S16384x1_0 (Host.reduceAdd (mulf X X) (constant S_ .f32 0x00000000#32) reducesTo_S16384x4096_S16384_d1 h_S_)

/-- The host code in front of the call leaves them in its second operand. -/
theorem V_sq (c : Dev nD) : V m c main_v2 = SQ (m ((c : Thread nD τ).loc main_arg0)) := by
  show StableHlo.after hostOps0 _ main_v2 = _
  after_results
  rfl

/-- A row of a block of any array over the rows' sums is the array's row. -/
theorem rd_sq (c : Dev nD) (t : Fin cfg0.N) (X : FVec Ideal S16384x1 .f32) (hX : V m c main_v2 = X) (a : Fin 256) (i : Fin 16384) (hi : i.val = t.val * 256 + a.val) :
    (show FVec Ideal S256x1 .f32 from iblk m c 1 t) (ix2 a 0) = X (ix2 i 0) := by
  subst hX
  unfold iblk
  generalize V m c = v
  blk_point [idx t, hi]

/-- One element of a block's result. -/
theorem pay (x : FVec Ideal S256x4096 .f32) (q : FVec Ideal S256x1 .f32) (g : FVec Ideal S1x4096 .f32) (y : S256x4096.Idx) :
    k0_pay1 (F := Ideal) x q g y = x y * Ideal.rsqrt (Ideal.div (q (ix2 (y 0) 0)) (Ideal.ofBits .f32 0x45800000#32) + Ideal.ofBits .f32 0x358637BD#32) * g (ix2 0 (y 1)) := by
  pointwise [k0_pay1]

/-- One element of the reference's result. -/
theorem ref_form (H : FVec Ideal S16384x4096 .f32) (G : FVec Ideal S4096 .f32) (j : S16384x4096.Idx) :
    REF H G j = H j * Ideal.rsqrt (Ideal.div (SQ H (ix2 (j 0) 0)) (Ideal.ofBits .f32 0x45800000#32) + Ideal.ofBits .f32 0x358637BD#32) * G (ix1 (j 1)) := by
  pointwise [REF, SQ]

/-- The result after the run. -/
theorem final (c : Dev nD) : (dats m 0 c).arrAt 3 (cfgs 0).N = REF (m ((c : Thread nD τ).loc main_arg0)) (m ((c : Thread nD τ).loc main_arg1)) := by
  refine (dats m 0 c).arrAt_eq_of_covers 3 _ (by decide +kernel) fun t _ y => ?_
  have h0 : (((View.whole main_v4).slice (win0_3.rect t)).emb y 0).val = t.val * 256 + (y 0).val := by blk_simp [idx t]
  have e := rd_sq m c t _ (V_sq m c) (y 0) _ h0
  blk_simp
  rw [after0_3]
  frame_out
  refine (pay _ _ _ _).trans (Eq.trans ?_ (ref_form _ _ _).symm)
  refine Ideal.mul_congr (Ideal.mul_congr ?_ ?_) ?_
  · blk_point [iblk, V, idx t]
  · exact congrArg (fun z => Ideal.rsqrt (Ideal.div z (Ideal.ofBits .f32 0x45800000#32) + Ideal.ofBits .f32 0x358637BD#32)) e
  · blk_point [iblk, V, idx t]

/-- The run: the result is the reference's terms of the arguments, which end unchanged. -/
theorem run (ρ : Dev nD → PrngReg) :
    θ_run defs (onTc (τ := τ) (main (F := Ideal))) ⟨m, fun _ => 0, ρ⟩ fun r => ∀ c : Dev nD,
      r.2.mem ((c : Thread nD τ).loc main_v4) = REF (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩)
    (Value.run_blocks m ρ)

end Cert.Kernel8Ideal.FinalNorm

namespace Cert.Proof.FinalNorm

theorem frame_k : Cert.quiescent_Kernel8 := fun m ρ _ => Cert.Kernel8.Gen.frame m ρ
theorem frame_ki : Cert.quiescent_Kernel8Ideal := fun m ρ _ => Cert.Kernel8Ideal.Gen.frame m ρ
theorem frame_ri : Cert.quiescent_Reference8Ideal := fun m ρ _ =>
  (θ_run Cert.Reference8Ideal.defs _ _).mono (fun r h => ⟨fun c => (h c).2, sem_eq_zero_of_no_sems (by decide) r.2⟩)
    (Cert.Reference8Ideal.Value.run (F := Ideal) m ρ)
theorem preserves : Cert.preserves_Kernel8_Kernel8Ideal := trivial

/-- At `Ideal` the result is the reference's, argument for argument. -/
theorem algebraic : Cert.algebraic_Kernel8Ideal_Reference8Ideal := by
  intro m ρ m' ρ' _ hagree
  refine ⟨fun c => Cert.Reference8Ideal.FinalNorm.REF (m ((c.tc : Thread _ _).loc Cert.Kernel8Ideal.main_arg0)) (m ((c.tc : Thread _ _).loc Cert.Kernel8Ideal.main_arg1)),
    ?_, ?_⟩
  · exact Cert.Kernel8Ideal.FinalNorm.run m ρ
  refine (θ_run Cert.Reference8Ideal.defs _ _).mono (fun r h c => ⟨(h c).1.trans ?_, (h c).2⟩)
    (Cert.Reference8Ideal.Value.run (F := Ideal) m' ρ')
  · rw [(hagree c).1, (hagree c).2]
    rfl

end Cert.Proof.FinalNorm

end
-- ==== Proof.AttnIBase.lean ====
/- The launch of the attention kernel over its grid: the staging buffers' schedule, the table of first blocks,
   and what each point's body is run on. -/
module

public import proofs.«01_k».proof.Proof.Gen.Kernel13Ideal.Launch
public import proofs.«01_k».proof.Proof.Gen.Kernel13Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.VecWindow

@[expose] public section

set_option maxRecDepth 16384

noncomputable section

namespace Cert.Kernel13Ideal.Attn

open Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

theorem fetch0_0 (a : (pcfg0 (F := F)).Adm) : ∀ t : Fin (cfg0 a).N, ((cfg0 a).win 0).fetch t = true :=
  (fun t => (Pipeline.Window.fetchOf_reads cc0_transform_0 reads0_0 hreads0_0 1 (by decide) (by decide) (Pipeline.Window.sep_of_coord cc0_transform_0 1 2 (fun _ => rfl) (by decide)) (P := 1) (by decide) t).mpr (Nat.mod_one _) : ∀ t : Fin grid0.N, Pipeline.Window.fetchOf grid0 false cc0_transform_0 t = true)
theorem fetch0_1 (a : (pcfg0 (F := F)).Adm) : ∀ t : Fin (cfg0 a).N, ((cfg0 a).win 1).fetch t = true ↔ t.val % 32 = 0 :=
  (fun t => Pipeline.Window.fetchOf_reads cc0_transform_1 reads0_1 hreads0_1 0 (by decide) (by decide) (Pipeline.Window.sep_of_coord cc0_transform_1 0 0 (fun _ => rfl) (by decide)) (P := 32) (by decide) t : ∀ t : Fin grid0.N, Pipeline.Window.fetchOf grid0 false cc0_transform_1 t = true ↔ t.val % 32 = 0)
theorem fetch0_2 (a : (pcfg0 (F := F)).Adm) : ∀ t : Fin (cfg0 a).N, ((cfg0 a).win 2).fetch t = true ↔ t.val % 32 = 0 :=
  (fun t => Pipeline.Window.fetchOf_reads cc0_transform_2 reads0_2 hreads0_2 0 (by decide) (by decide) (Pipeline.Window.sep_of_coord cc0_transform_2 0 0 (fun _ => rfl) (by decide)) (P := 32) (by decide) t : ∀ t : Fin grid0.N, Pipeline.Window.fetchOf grid0 false cc0_transform_2 t = true ↔ t.val % 32 = 0)
theorem flush0_3 (a : (pcfg0 (F := F)).Adm) : ∀ t : Fin (cfg0 a).N, ((cfg0 a).win 3).flush t = true :=
  (fun t => (Pipeline.Window.flushOf_reads cc0_transform_3 reads0_3 hreads0_3 1 (by decide) (by decide) (Pipeline.Window.sep_of_coord cc0_transform_3 1 0 (fun _ => rfl) (by decide)) (P := 1) (m := 0) (by decide) rfl t).mpr (Nat.mod_one _) : ∀ t : Fin grid0.N, Pipeline.Window.flushOf grid0 true cc0_transform_3 t = true)

abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)

abbrev bodyAt0 (a : (pcfg0 (F := F)).Adm) (t : Fin (cfg0 a).N) : Prog (TpuEff nD τ sig (Elt F) Λ₀ .tc) PUnit :=
  cc0_fox_attention (grid0.coords t) (Memref.whole main_arg2) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, StableHlo.unaryIndexed_writes, StableHlo.nary_writes, Finset.mem_singleton]
    repeat' apply And.intro
    all_goals exact StableHlo.devRef_ne_of_ne (by decide)))

def tbl : pre0.Contents (Elt F) := fun j => V m (0 : Dev nD) (pre0.ref j)
theorem V_pre (c : Dev nD) (j : Fin 1) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S256 .i32 := Memref.whole main_arg2
abbrev htbM0_0 : tbM0_0.IsWhole := Memref.isWhole_whole _

abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

theorem frame_of (hO : Ok m) (dats : (p : Fin 1) → (c : Dev nD) → Dat τ (Elt F) Unit ℕ (UR sig nD τ) ℕ ((Pipeline.pin pcfgs fun _ => adm m hO) p) c)
    (hA : ∀ c w, (dats 0 c).A w = V m c (Pipeline.arrRef spec0 w))
    (h : θ_run defs (onTc (τ := τ) (main (F := F))) (s₀ m ρ) (Pipeline.FramePost (Pipeline.pin pcfgs fun _ => adm m hO) dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_arg0 (by decide : main_arg0 ∈ Pipeline.restRefs sig spec0)).trans (V_main_arg0 m c),
      ((h c).2 main_arg1 (by decide : main_arg1 ∈ Pipeline.restRefs sig spec0)).trans (V_main_arg1 m c),
      ((h c).2 main_arg2 (by decide : main_arg2 ∈ Pipeline.restRefs sig spec0)).trans (V_main_arg2 m c)⟩) h

abbrev cond0_0 (i : grid0.Coords) (v3 : BitVec 32) : Prop := k0_cond1 i v3 = 1#1
/-- The body takes its conditional 2: 2 blocks remain. -/
abbrev cond0_1 (i : grid0.Coords) (v3 : BitVec 32) : Prop := k0_cond2 i v3 = 1#1
/-- The body takes its conditional 3: 3 blocks remain. -/
abbrev cond0_2 (i : grid0.Coords) (v3 : BitVec 32) : Prop := k0_cond3 i v3 = 1#1
/-- The body takes its conditional 4: 4 blocks remain. -/
abbrev cond0_3 (i : grid0.Coords) (v3 : BitVec 32) : Prop := k0_cond4 i v3 = 1#1

/-- One of the output's staging buffers, by which what the body leaves in either is stated. -/
abbrev VO0_3 : View sig .tc .vmem S512x128 .bf16 := (Memref.whole cc0_stg3_0 : Memref sig .tc .vmem S512x128 .bf16).view
/-- The staging buffers the body works on at point `t`. -/
abbrev ms0_0 (hO : Ok m) (t : Fin (cfgM m hO).N) : Memref sig .tc .vmem S1x256x512 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x16384x256 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x32x128x512 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S512x128 .bf16 := spec0_3.stage ((cfgM m hO).slots t 3)
abbrev hs0_3 (hO : Ok m) (t : Fin (cfgM m hO).N) : (ms0_3 m hO t).IsWhole := hstage0_3 (((cfgM m hO).slots t 3).cast nbuf0_3)

/-- The first block the point `t` reads off the table. -/
abbrev wordAt (t : Fin grid0.N) : BitVec 32 := (tbM0_0.view.readAt (Elt F) (Rect.unit (s := S256) (k0_off1 (grid0.coords t)) S1.size (k0_off1_inb (grid0.coords t))).toLoadRect (tbl m 0) (Shape.Idx.first (numel1_S1.symm ▸ Nat.one_pos)))

/-- Exactly one of the four conditionals is taken. -/
def OneOf (i : grid0.Coords) (v3 : BitVec 32) : Prop :=
  (cond0_0 i v3 ∧ ¬cond0_1 i v3 ∧ ¬cond0_2 i v3 ∧ ¬cond0_3 i v3) ∨ (¬cond0_0 i v3 ∧ cond0_1 i v3 ∧ ¬cond0_2 i v3 ∧ ¬cond0_3 i v3)
    ∨ (¬cond0_0 i v3 ∧ ¬cond0_1 i v3 ∧ cond0_2 i v3 ∧ ¬cond0_3 i v3) ∨ (¬cond0_0 i v3 ∧ ¬cond0_1 i v3 ∧ ¬cond0_2 i v3 ∧ cond0_3 i v3)

instance (i : grid0.Coords) (v3 : BitVec 32) : Decidable (OneOf i v3) := by unfold OneOf; infer_instance

/-- What the launch needs of the table: at every point the body's side condition, and one conditional taken. -/
def Hyps (m : (ℓ : Loc nD τ sig) → Buf (Elt F) ℓ) : Prop :=
  ∀ t : Fin grid0.N, k0_chk1 (grid0.coords t) (wordAt m t) ∧ OneOf (grid0.coords t) (wordAt m t)

/-- The five scratch buffers. -/
abbrev scM0_0 : Memref sig .tc .vmem S512x512 .f32 := Memref.whole cc0_scratch0
abbrev scM0_1 : Memref sig .tc .vmem S512x512 .f32 := Memref.whole cc0_scratch1
abbrev scM0_2 : Memref sig .tc .vmem S512x512 .bf16 := Memref.whole cc0_scratch2
abbrev scM0_3 : Memref sig .tc .vmem S512x512 .bf16 := Memref.whole cc0_scratch3
abbrev scM0_4 : Memref sig .tc .vmem S128x512 .f32 := Memref.whole cc0_scratch4

/-- What the body keeps from point to point: the scratch buffers, at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel13Ideal.Attn

end
-- ==== Proof.AttnIRun.lean ====
module

public import proofs.«01_k».proof.Proof.AttnIBase
public import Idealize.ShloMosaic.Lib.VecWindow
public import Idealize.ShloMosaic.Lib.LoopRemainder

@[expose] public section

set_option maxRecDepth 16384

noncomputable section

namespace Cert.Kernel13Ideal.Attn

open Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What the sequence of key blocks carries: the running maximum and denominator of each query, the scores of the
    block to come, the weights of the block just done, and the weighted sum of values (one block behind). -/
structure St (F : FTy → Type) [FloatOps F] where
  m : FVec F S1x512 .f32
  l : FVec F S1x512 .f32
  s : Vec F S512x512 .f32
  p : Vec F S512x512 .bf16
  acc : Vec F S128x512 .f32

/-- One block: the scores of the next block, this block's weights, and the value product owed by the block before. -/
def St.step (q : FVec F S256x512 .bf16) (kb : Vec F S1x512x256 .bf16) (vb : Vec F S1x1x128x512 .bf16) (S : St F) : St F where
  m := k0_pay13 S.m S.s
  l := k0_pay17 S.l (k0_pay14 S.m S.s) (k0_pay15 S.m S.s)
  s := k0_pay11 q kb
  p := k0_pay16 S.m S.s
  acc := k0_pay18 (k0_pay12 vb S.p) (k0_pay14 S.m S.s) S.acc

/-- The last block, on the diagonal: its scores masked, no further scores, both value products, the quotient. -/
def St.fin (va vb : Vec F S1x1x128x512 .bf16) (S : St F) : FVec F S512x128 .bf16 :=
  k0_pay2 (k0_pay17 S.l (k0_pay14 S.m (k0_pay75 S.s)) (k0_pay15 S.m (k0_pay75 S.s))) (k0_pay18 (k0_pay12 va S.p) (k0_pay14 S.m (k0_pay75 S.s)) S.acc) vb (k0_pay16 S.m (k0_pay75 S.s))

/-- The state before the first block: its scores, and nothing summed. -/
def St.start (q : FVec F S256x512 .bf16) (kb : Vec F S1x512x256 .bf16) : St F :=
  ⟨k0_pay152, k0_pay153, k0_pay11 q kb, k0_pay149, k0_pay150⟩

/-- A block of keys. -/
abbrev kAt (x1 : Vec F S1x16384x256 .bf16) (off : Fin 3 → ℕ) (h : ∀ a, off a + S1x512x256.size a ≤ S1x16384x256.size a) : Vec F S1x512x256 .bf16 :=
  VecWindow.window x1 off S1x512x256.size h

/-- A block of values. -/
abbrev vAt (x2 : Vec F S1x32x128x512 .bf16) (off : Fin 4 → ℕ) (h : ∀ a, off a + S1x1x128x512.size a ≤ S1x32x128x512.size a) : Vec F S1x1x128x512 .bf16 :=
  VecWindow.window x2 off S1x1x128x512.size h

theorem pay19_eq (q : FVec F S256x512 .bf16) (kb : Vec F S1x512x256 .bf16) : k0_pay19 q kb = k0_pay11 q kb := rfl
theorem pay28_eq (q : FVec F S256x512 .bf16) (kb : Vec F S1x512x256 .bf16) : k0_pay28 q kb = k0_pay11 q kb := rfl
theorem pay20_eq (vb : Vec F S1x1x128x512 .bf16) (p : Vec F S512x512 .bf16) : k0_pay20 vb p = k0_pay12 vb p := rfl
theorem pay22_eq (m : FVec F S1x512 .f32) (s : Vec F S512x512 .f32) : k0_pay22 m (k0_pay21 s) = k0_pay13 m s := rfl
theorem pay25_eq (m : FVec F S1x512 .f32) (s : Vec F S512x512 .f32) : k0_pay25 m s (k0_pay21 s) = k0_pay16 m s := rfl
theorem pay26_eq (m : FVec F S1x512 .f32) (l : FVec F S1x512 .f32) (s : Vec F S512x512 .f32) : k0_pay26 m l s (k0_pay21 s) = k0_pay17 l (k0_pay14 m s) (k0_pay15 m s) := rfl
theorem pay27_eq (m : FVec F S1x512 .f32) (o : FVec F S128x512 .f32) (s : Vec F S512x512 .f32) (a : Vec F S128x512 .f32) : k0_pay27 m o (k0_pay21 s) a = k0_pay18 o (k0_pay14 m s) a := rfl
theorem pay29_eq (m : FVec F S1x512 .f32) (s : Vec F S512x512 .f32) : k0_pay29 m s = k0_pay13 m s := rfl
theorem pay32_eq (m : FVec F S1x512 .f32) (s : Vec F S512x512 .f32) : k0_pay32 m s = k0_pay16 m s := rfl
theorem pay33_eq (m : FVec F S1x512 .f32) (l : FVec F S1x512 .f32) (s : Vec F S512x512 .f32) : k0_pay33 m l s = k0_pay17 l (k0_pay14 m s) (k0_pay15 m s) := rfl
theorem pay34_eq (m : FVec F S1x512 .f32) (vb : Vec F S1x1x128x512 .bf16) (p : Vec F S512x512 .bf16) (s : Vec F S512x512 .f32) (a : Vec F S128x512 .f32) : k0_pay34 m vb p s a = k0_pay18 (k0_pay12 vb p) (k0_pay14 m s) a := rfl
theorem pay36_eq (q : FVec F S256x512 .bf16) (kb : Vec F S1x512x256 .bf16) : k0_pay36 (k0_pay35 q kb) = k0_pay11 q kb := rfl
theorem pay37_eq (m : FVec F S1x512 .f32) (s : Vec F S512x512 .f32) : k0_pay37 m s = k0_pay13 m s := rfl
theorem pay40_eq (m : FVec F S1x512 .f32) (s : Vec F S512x512 .f32) : k0_pay40 m s = k0_pay16 m s := rfl
theorem pay41_eq (m : FVec F S1x512 .f32) (l : FVec F S1x512 .f32) (s : Vec F S512x512 .f32) : k0_pay41 m l s = k0_pay17 l (k0_pay14 m s) (k0_pay15 m s) := rfl
theorem pay42_eq (m : FVec F S1x512 .f32) (vb : Vec F S1x1x128x512 .bf16) (p : Vec F S512x512 .bf16) (s : Vec F S512x512 .f32) (a : Vec F S128x512 .f32) : k0_pay42 m vb p s a = k0_pay18 (k0_pay12 vb p) (k0_pay14 m s) a := rfl
theorem pay151_eq (x : Vec F S1x256x512 .bf16) (kb : Vec F S1x512x256 .bf16) : k0_pay151 x kb = k0_pay11 (k0_pay148 x) kb := rfl
theorem pay79_eq (m : FVec F S1x512 .f32) (s : Vec F S512x512 .f32) : k0_pay79 m s = k0_pay16 m (k0_pay75 s) := rfl
theorem pay80_eq (m : FVec F S1x512 .f32) (l : FVec F S1x512 .f32) (s : Vec F S512x512 .f32) : k0_pay80 m l s = k0_pay17 l (k0_pay14 m (k0_pay75 s)) (k0_pay15 m (k0_pay75 s)) := rfl
theorem pay1_eq (m : FVec F S1x512 .f32) (vb : Vec F S1x1x128x512 .bf16) (p : Vec F S512x512 .bf16) (s : Vec F S512x512 .f32) (a : Vec F S128x512 .f32) : k0_pay1 (k0_pay81 m vb p s a) = k0_pay18 (k0_pay12 vb p) (k0_pay14 m (k0_pay75 s)) a := rfl
theorem pay82_eq (q : FVec F S256x512 .bf16) (kb : Vec F S1x512x256 .bf16) : k0_pay82 q kb = k0_pay11 q kb := rfl
theorem pay83_eq (vb : Vec F S1x1x128x512 .bf16) (p : Vec F S512x512 .bf16) : k0_pay83 vb p = k0_pay12 vb p := rfl
theorem pay84_eq (m : FVec F S1x512 .f32) (s : Vec F S512x512 .f32) : k0_pay84 m s = k0_pay13 m s := rfl
theorem pay85_eq (m : FVec F S1x512 .f32) (s : Vec F S512x512 .f32) : k0_pay85 m s = k0_pay14 m s := rfl
theorem pay86_eq (m : FVec F S1x512 .f32) (s : Vec F S512x512 .f32) : k0_pay86 m s = k0_pay15 m s := rfl
theorem pay87_eq (m : FVec F S1x512 .f32) (s : Vec F S512x512 .f32) : k0_pay87 m s = k0_pay16 m s := rfl
theorem pay88_eq (o : FVec F S128x512 .f32) (b : FVec F S1x512 .f32) (a : Vec F S128x512 .f32) : k0_pay88 o b a = k0_pay18 o b a := rfl
theorem pay89_eq (vb : Vec F S1x1x128x512 .bf16) (p : Vec F S512x512 .bf16) : k0_pay89 vb p = k0_pay12 vb p := rfl
theorem pay92_eq (m : FVec F S1x512 .f32) (s : Vec F S512x512 .f32) : k0_pay92 m s = k0_pay14 m (k0_pay75 s) := rfl
theorem pay93_eq (m : FVec F S1x512 .f32) (s : Vec F S512x512 .f32) : k0_pay93 m s = k0_pay15 m (k0_pay75 s) := rfl
theorem pay94_eq (m : FVec F S1x512 .f32) (s : Vec F S512x512 .f32) : k0_pay94 m s = k0_pay16 m (k0_pay75 s) := rfl
theorem pay3_eq (o : FVec F S128x512 .f32) (b : FVec F S1x512 .f32) (a : Vec F S128x512 .f32) : k0_pay3 o b a = k0_pay18 o b a := rfl
theorem pay4_eq (m : FVec F S1x512 .f32) (s : Vec F S512x512 .f32) (l : FVec F S1x512 .f32) (b : FVec F S1x512 .f32) (e : FVec F S512x512 .f32) (a : Vec F S128x512 .f32) (vb : Vec F S1x1x128x512 .bf16) (p : Vec F S512x512 .bf16) : k0_pay4 (k0_pay15 m (k0_pay75 s)) (k0_pay95 l m b e s) a vb p = k0_pay2 (k0_pay17 (k0_pay17 l b e) (k0_pay14 m (k0_pay75 s)) (k0_pay15 m (k0_pay75 s))) a vb p := rfl
theorem pay96_eq (q : FVec F S256x512 .bf16) (kb : Vec F S1x512x256 .bf16) : k0_pay96 q kb = k0_pay11 q kb := rfl
theorem pay97_eq (vb : Vec F S1x1x128x512 .bf16) (p : Vec F S512x512 .bf16) : k0_pay97 vb p = k0_pay12 vb p := rfl
theorem pay98_eq (m : FVec F S1x512 .f32) (s : Vec F S512x512 .f32) : k0_pay98 m s = k0_pay13 m s := rfl
theorem pay99_eq (m : FVec F S1x512 .f32) (s : Vec F S512x512 .f32) : k0_pay99 m s = k0_pay14 m s := rfl
theorem pay100_eq (m : FVec F S1x512 .f32) (s : Vec F S512x512 .f32) : k0_pay100 m s = k0_pay15 m s := rfl
theorem pay101_eq (m : FVec F S1x512 .f32) (s : Vec F S512x512 .f32) : k0_pay101 m s = k0_pay16 m s := rfl
theorem pay102_eq (l : FVec F S1x512 .f32) (b : FVec F S1x512 .f32) (e : FVec F S512x512 .f32) : k0_pay102 l b e = k0_pay17 l b e := rfl
theorem pay103_eq (o : FVec F S128x512 .f32) (b : FVec F S1x512 .f32) (a : Vec F S128x512 .f32) : k0_pay103 o b a = k0_pay18 o b a := rfl
theorem pay104_eq (q : FVec F S256x512 .bf16) (kb : Vec F S1x512x256 .bf16) : k0_pay104 q kb = k0_pay11 q kb := rfl
theorem pay105_eq (vb : Vec F S1x1x128x512 .bf16) (p : Vec F S512x512 .bf16) : k0_pay105 vb p = k0_pay12 vb p := rfl
theorem pay107_eq (m : FVec F S1x512 .f32) (s : Vec F S512x512 .f32) : k0_pay107 m (k0_pay106 s) = k0_pay13 m s := rfl
theorem pay110_eq (m : FVec F S1x512 .f32) (s : Vec F S512x512 .f32) : k0_pay110 m s (k0_pay106 s) = k0_pay16 m s := rfl
theorem pay111_eq (m : FVec F S1x512 .f32) (l : FVec F S1x512 .f32) (s : Vec F S512x512 .f32) : k0_pay111 m l s (k0_pay106 s) = k0_pay17 l (k0_pay14 m s) (k0_pay15 m s) := rfl
theorem pay112_eq (m : FVec F S1x512 .f32) (o : FVec F S128x512 .f32) (s : Vec F S512x512 .f32) (a : Vec F S128x512 .f32) : k0_pay112 m o (k0_pay106 s) a = k0_pay18 o (k0_pay14 m s) a := rfl
theorem pay113_eq (vb : Vec F S1x1x128x512 .bf16) (p : Vec F S512x512 .bf16) : k0_pay113 vb p = k0_pay12 vb p := rfl
theorem pay114_eq (s : Vec F S512x512 .f32) : k0_pay114 s = k0_pay75 s := rfl
theorem pay115_eq (m : FVec F S1x512 .f32) (s : Vec F S512x512 .f32) (s' : Vec F S512x512 .f32) : k0_pay115 m (k0_pay106 s) s' = k0_pay13 (k0_pay13 m s) (k0_pay75 s') := rfl
theorem pay7_eq (s : Vec F S512x512 .f32) (m : FVec F S1x512 .f32) : k0_pay7 s (k0_pay13 m s) = k0_pay16 m s := rfl
theorem pay8_eq (m : FVec F S1x512 .f32) (o : FVec F S128x512 .f32) (s : Vec F S512x512 .f32) (a : Vec F S128x512 .f32) : k0_pay8 m o (k0_pay13 m s) a = k0_pay18 o (k0_pay14 m s) a := rfl
theorem pay9_eq (m : FVec F S1x512 .f32) (l : FVec F S1x512 .f32) (s : Vec F S512x512 .f32) (a : Vec F S128x512 .f32) (vb : Vec F S1x1x128x512 .bf16) (p : Vec F S512x512 .bf16) : k0_pay9 m l s (k0_pay13 m s) a vb p = k0_pay2 (k0_pay17 l (k0_pay14 m s) (k0_pay15 m s)) a vb p := rfl
theorem pay116_eq (q : FVec F S256x512 .bf16) (kb : Vec F S1x512x256 .bf16) : k0_pay116 q kb = k0_pay11 q kb := rfl
theorem pay117_eq (vb : Vec F S1x1x128x512 .bf16) (p : Vec F S512x512 .bf16) : k0_pay117 vb p = k0_pay12 vb p := rfl
theorem pay118_eq (m : FVec F S1x512 .f32) (s : Vec F S512x512 .f32) : k0_pay118 m s = k0_pay13 m s := rfl
theorem pay119_eq (m : FVec F S1x512 .f32) (s : Vec F S512x512 .f32) : k0_pay119 m s = k0_pay14 m s := rfl
theorem pay120_eq (m : FVec F S1x512 .f32) (s : Vec F S512x512 .f32) : k0_pay120 m s = k0_pay15 m s := rfl
theorem pay121_eq (m : FVec F S1x512 .f32) (s : Vec F S512x512 .f32) : k0_pay121 m s = k0_pay16 m s := rfl
theorem pay122_eq (l : FVec F S1x512 .f32) (b : FVec F S1x512 .f32) (e : FVec F S512x512 .f32) : k0_pay122 l b e = k0_pay17 l b e := rfl
theorem pay123_eq (o : FVec F S128x512 .f32) (b : FVec F S1x512 .f32) (a : Vec F S128x512 .f32) : k0_pay123 o b a = k0_pay18 o b a := rfl
theorem pay124_eq (q : FVec F S256x512 .bf16) (kb : Vec F S1x512x256 .bf16) : k0_pay124 q kb = k0_pay11 q kb := rfl
theorem pay125_eq (vb : Vec F S1x1x128x512 .bf16) (p : Vec F S512x512 .bf16) : k0_pay125 vb p = k0_pay12 vb p := rfl
theorem pay127_eq (m : FVec F S1x512 .f32) (s : Vec F S512x512 .f32) : k0_pay127 m (k0_pay126 s) = k0_pay13 m s := rfl
theorem pay130_eq (m : FVec F S1x512 .f32) (s : Vec F S512x512 .f32) : k0_pay130 m s (k0_pay126 s) = k0_pay16 m s := rfl
theorem pay131_eq (m : FVec F S1x512 .f32) (l : FVec F S1x512 .f32) (s : Vec F S512x512 .f32) : k0_pay131 m l s (k0_pay126 s) = k0_pay17 l (k0_pay14 m s) (k0_pay15 m s) := rfl
theorem pay132_eq (m : FVec F S1x512 .f32) (o : FVec F S128x512 .f32) (s : Vec F S512x512 .f32) (a : Vec F S128x512 .f32) : k0_pay132 m o (k0_pay126 s) a = k0_pay18 o (k0_pay14 m s) a := rfl
theorem pay133_eq (q : FVec F S256x512 .bf16) (kb : Vec F S1x512x256 .bf16) : k0_pay133 q kb = k0_pay11 q kb := rfl
theorem pay134_eq (m : FVec F S1x512 .f32) (s : Vec F S512x512 .f32) : k0_pay134 m s = k0_pay13 m s := rfl
theorem pay137_eq (m : FVec F S1x512 .f32) (s : Vec F S512x512 .f32) : k0_pay137 m s = k0_pay16 m s := rfl
theorem pay138_eq (m : FVec F S1x512 .f32) (l : FVec F S1x512 .f32) (s : Vec F S512x512 .f32) : k0_pay138 m l s = k0_pay17 l (k0_pay14 m s) (k0_pay15 m s) := rfl
theorem pay139_eq (m : FVec F S1x512 .f32) (vb : Vec F S1x1x128x512 .bf16) (p : Vec F S512x512 .bf16) (s : Vec F S512x512 .f32) (a : Vec F S128x512 .f32) : k0_pay139 m vb p s a = k0_pay18 (k0_pay12 vb p) (k0_pay14 m s) a := rfl
theorem pay140_eq (vb : Vec F S1x1x128x512 .bf16) (p : Vec F S512x512 .bf16) : k0_pay140 vb p = k0_pay12 vb p := rfl
theorem pay145_eq (m : FVec F S1x512 .f32) (s : Vec F S512x512 .f32) : k0_pay145 m s = k0_pay16 m (k0_pay75 s) := rfl
theorem pay146_eq (m : FVec F S1x512 .f32) (o : FVec F S128x512 .f32) (s : Vec F S512x512 .f32) (a : Vec F S128x512 .f32) : k0_pay146 m o s a = k0_pay18 o (k0_pay14 m (k0_pay75 s)) a := rfl
theorem pay10_eq (m : FVec F S1x512 .f32) (l : FVec F S1x512 .f32) (s : Vec F S512x512 .f32) (a : Vec F S128x512 .f32) (vb : Vec F S1x1x128x512 .bf16) (p : Vec F S512x512 .bf16) : k0_pay10 (k0_pay147 m l s a vb p) = k0_pay2 (k0_pay17 l (k0_pay14 m (k0_pay75 s)) (k0_pay15 m (k0_pay75 s))) a vb p := rfl

/-- What the body holds between blocks: the keys and values, and the scratch buffers reading the state `S`. -/
def Held (c : Dev nD) (arg4 : Memref sig .tc .vmem S1x16384x256 .bf16) (harg4 : arg4.IsWhole) (arg5 : Memref sig .tc .vmem S1x32x128x512 .bf16) (harg5 : arg5.IsWhole) (arg7 : Memref sig .tc .vmem S512x512 .f32) (arg8 : Memref sig .tc .vmem S512x512 .f32) (arg9 : Memref sig .tc .vmem S512x512 .bf16) (arg10 : Memref sig .tc .vmem S512x512 .bf16) (arg11 : Memref sig .tc .vmem S128x512 .f32)
    (x1 : Vec F S1x16384x256 .bf16) (x2 : Vec F S1x32x128x512 .bf16) (S : St F) : sProp 𝕄 :=
  iprop((arg4.view.loc (c : Thread nD τ) ↦[arg4.view.set]{fullShare} harg4.unread x1) ∗ (arg5.view.loc (c : Thread nD τ) ↦[arg5.view.set]{fullShare} harg5.unread x2)
    ∗ (∃ f, (arg7.view.loc (c : Thread nD τ) ↦[arg7.view.set]{fullShare} f) ∗ ⌜arg7.view.read (Elt F) f = S.s⌝) ∗ (∃ f, (arg8.view.loc (c : Thread nD τ) ↦[arg8.view.set]{fullShare} f)) ∗ (∃ f, (arg9.view.loc (c : Thread nD τ) ↦[arg9.view.set]{fullShare} f))
    ∗ (∃ f, (arg10.view.loc (c : Thread nD τ) ↦[arg10.view.set]{fullShare} f) ∗ ⌜arg10.view.read (Elt F) f = S.p⌝) ∗ (∃ f, (arg11.view.loc (c : Thread nD τ) ↦[arg11.view.set]{fullShare} f) ∗ ⌜arg11.view.read (Elt F) f = S.acc⌝))

/-- The four blocks of one trip of the loop. -/
def trip4 (i : grid0.Coords) (v3 : BitVec 32) (k0_hw1 : k0_chk1 i v3) (x1 : Vec F S1x16384x256 .bf16) (x2 : Vec F S1x32x128x512 .bf16) (q : FVec F S256x512 .bf16) (k : Fin (k0_t1_loop i v3).trips) (S : St F) : St F :=
  (((S.step q (kAt x1 (k0_off3 i v3 k 0#32) (k0_off3_inb i v3 k0_hw1 k 0)) (vAt x2 (k0_off4 i v3 k 0#32) (k0_off4_inb i v3 k0_hw1 k 0))).step q
    (kAt x1 (k0_off3 i v3 k 1#32) (k0_off3_inb i v3 k0_hw1 k 1)) (vAt x2 (k0_off4 i v3 k 1#32) (k0_off4_inb i v3 k0_hw1 k 1))).step q
    (kAt x1 (k0_off3 i v3 k 2#32) (k0_off3_inb i v3 k0_hw1 k 2)) (vAt x2 (k0_off4 i v3 k 2#32) (k0_off4_inb i v3 k0_hw1 k 2))).step q
    (kAt x1 (k0_off3 i v3 k 3#32) (k0_off3_inb i v3 k0_hw1 k 3)) (vAt x2 (k0_off4 i v3 k 3#32) (k0_off4_inb i v3 k0_hw1 k 3))

/-- A load of a rectangle of a whole buffer reads a window of its values. -/
theorem load_window {κ sp s e} {m : Memref sig κ sp s e} (h : m.IsWhole) (x : s.Idx → Elt F e) (off size : Fin s.rank → ℕ) (inb : ∀ a, off a + size a ≤ s.size a) :
    m.view.readAt (Elt F) (Rect.unit off size inb).toLoadRect (h.unread x) = VecWindow.window x off size inb := by
  rw [View.readAt_unit m.view (h.unread x) inb rfl inb, h.read_unread]

set_option sl_exec.resultNames true in
set_option maxHeartbeats 4000000 in
/-- One trip: the state goes on by four blocks. -/
theorem trip (c : Dev nD) (i : grid0.Coords) (arg2 : Memref sig .tc .smem S256 .i32) (harg2 : arg2.IsWhole) (arg3 : Memref sig .tc .vmem S1x256x512 .bf16) (harg3 : arg3.IsWhole) (arg4 : Memref sig .tc .vmem S1x16384x256 .bf16) (harg4 : arg4.IsWhole) (arg5 : Memref sig .tc .vmem S1x32x128x512 .bf16) (harg5 : arg5.IsWhole) (arg6 : Memref sig .tc .vmem S512x128 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (v3 : Elt F .i32) (k0_hw1 : k0_chk1 i v3) (v5 : FVec F S256x512 .bf16) (x1 : Vec F S1x16384x256 .bf16) (x2 : Vec F S1x32x128x512 .bf16) (k : Fin (k0_t1_loop i v3).trips) (E : Set ℕ) (S : St F) :
    Held c arg4 harg4 arg5 harg5 arg7 arg8 arg9 arg10 arg11 x1 x2 S
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 v3 k0_hw1 v5 k (S.m, S.l))
      (fun y => iprop(⌜y = ((trip4 i v3 k0_hw1 x1 x2 v5 k S).m, (trip4 i v3 k0_hw1 x1 x2 v5 k S).l)⌝ ∗ Held c arg4 harg4 arg5 harg5 arg7 arg8 arg9 arg10 arg11 x1 x2 (trip4 i v3 k0_hw1 x1 x2 v5 k S))) := by
  unfold k0_t1_body Held
  iintro ⟨H4, H5, ⟨%f7, H7, %h7⟩, ⟨%f8, H8⟩, ⟨%f9, H9⟩, ⟨%f10, H10, %h10⟩, ⟨%f11, H11, %h11⟩⟩
  sl_exec
  sl_step
  isplitr
  · ipureintro
    delta trip.sl.H10_1 trip.sl.H11_1 trip.sl.H11_2 trip.sl.H11_3 trip.sl.H7_1 trip.sl.H8_1 trip.sl.H8_2 trip.sl.H9_1 trip.sl.H9_2 trip.sl.v103 trip.sl.v128 trip.sl.v129 trip.sl.v130 trip.sl.v132 trip.sl.v133 trip.sl.v146 trip.sl.v147 trip.sl.v171 trip.sl.v173 trip.sl.v176 trip.sl.v189 trip.sl.v190 trip.sl.v204 trip.sl.v214 trip.sl.v216 trip.sl.v219 trip.sl.v232 trip.sl.v233 trip.sl.v86 trip.sl.v90 trip.sl.v92 trip.sl.v95; simp -proj only [View.readAt_full, View.read_writes_full, View.readCov_full, View.readAt_writes_full, load_window, h7, h10, h11, pay19_eq, pay28_eq, pay20_eq, pay22_eq, pay25_eq, pay26_eq, pay27_eq, pay29_eq, pay32_eq, pay33_eq, pay34_eq, pay36_eq, pay37_eq, pay40_eq, pay41_eq, pay42_eq, trip4, St.step]
  isplitl [H4]; · iexact H4
  isplitl [H5]; · iexact H5
  isplitl [H7]
  · iexists _; isplitl [H7]; · iexact H7
    ipureintro
    delta trip.sl.H10_1 trip.sl.H11_1 trip.sl.H11_2 trip.sl.H11_3 trip.sl.H7_1 trip.sl.H8_1 trip.sl.H8_2 trip.sl.H9_1 trip.sl.H9_2 trip.sl.v103 trip.sl.v128 trip.sl.v129 trip.sl.v130 trip.sl.v132 trip.sl.v133 trip.sl.v146 trip.sl.v147 trip.sl.v171 trip.sl.v173 trip.sl.v176 trip.sl.v189 trip.sl.v190 trip.sl.v204 trip.sl.v214 trip.sl.v216 trip.sl.v219 trip.sl.v232 trip.sl.v233 trip.sl.v86 trip.sl.v90 trip.sl.v92 trip.sl.v95; simp -proj only [View.readAt_full, View.read_writes_full, View.readCov_full, View.readAt_writes_full, load_window, h7, h10, h11, pay19_eq, pay28_eq, pay20_eq, pay22_eq, pay25_eq, pay26_eq, pay27_eq, pay29_eq, pay32_eq, pay33_eq, pay34_eq, pay36_eq, pay37_eq, pay40_eq, pay41_eq, pay42_eq, trip4, St.step]
  isplitl [H8]; · iexists _; iexact H8
  isplitl [H9]; · iexists _; iexact H9
  isplitl [H10]
  · iexists _; isplitl [H10]; · iexact H10
    ipureintro
    delta trip.sl.H10_1 trip.sl.H11_1 trip.sl.H11_2 trip.sl.H11_3 trip.sl.H7_1 trip.sl.H8_1 trip.sl.H8_2 trip.sl.H9_1 trip.sl.H9_2 trip.sl.v103 trip.sl.v128 trip.sl.v129 trip.sl.v130 trip.sl.v132 trip.sl.v133 trip.sl.v146 trip.sl.v147 trip.sl.v171 trip.sl.v173 trip.sl.v176 trip.sl.v189 trip.sl.v190 trip.sl.v204 trip.sl.v214 trip.sl.v216 trip.sl.v219 trip.sl.v232 trip.sl.v233 trip.sl.v86 trip.sl.v90 trip.sl.v92 trip.sl.v95; simp -proj only [View.readAt_full, View.read_writes_full, View.readCov_full, View.readAt_writes_full, load_window, h7, h10, h11, pay19_eq, pay28_eq, pay20_eq, pay22_eq, pay25_eq, pay26_eq, pay27_eq, pay29_eq, pay32_eq, pay33_eq, pay34_eq, pay36_eq, pay37_eq, pay40_eq, pay41_eq, pay42_eq, trip4, St.step]
  iexists _; isplitl [H11]; · iexact H11
  ipureintro
  delta trip.sl.H10_1 trip.sl.H11_1 trip.sl.H11_2 trip.sl.H11_3 trip.sl.H7_1 trip.sl.H8_1 trip.sl.H8_2 trip.sl.H9_1 trip.sl.H9_2 trip.sl.v103 trip.sl.v128 trip.sl.v129 trip.sl.v130 trip.sl.v132 trip.sl.v133 trip.sl.v146 trip.sl.v147 trip.sl.v171 trip.sl.v173 trip.sl.v176 trip.sl.v189 trip.sl.v190 trip.sl.v204 trip.sl.v214 trip.sl.v216 trip.sl.v219 trip.sl.v232 trip.sl.v233 trip.sl.v86 trip.sl.v90 trip.sl.v92 trip.sl.v95; simp -proj only [View.readAt_full, View.read_writes_full, View.readCov_full, View.readAt_writes_full, load_window, h7, h10, h11, pay19_eq, pay28_eq, pay20_eq, pay22_eq, pay25_eq, pay26_eq, pay27_eq, pay29_eq, pay32_eq, pay33_eq, pay34_eq, pay36_eq, pay37_eq, pay40_eq, pay41_eq, pay42_eq, trip4, St.step]

/-- The state before trip `n` of the loop, from the state `S`. -/
def loopSt (i : grid0.Coords) (v3 : BitVec 32) (k0_hw1 : k0_chk1 i v3) (x1 : Vec F S1x16384x256 .bf16) (x2 : Vec F S1x32x128x512 .bf16) (q : FVec F S256x512 .bf16) (S : St F) : ℕ → St F
  | 0 => S
  | n + 1 => if h : n < (k0_t1_loop i v3).trips then trip4 i v3 k0_hw1 x1 x2 q ⟨n, h⟩ (loopSt i v3 k0_hw1 x1 x2 q S n) else S

theorem loopSt_succ (i : grid0.Coords) (v3 : BitVec 32) (k0_hw1 : k0_chk1 i v3) (x1 : Vec F S1x16384x256 .bf16) (x2 : Vec F S1x32x128x512 .bf16) (q : FVec F S256x512 .bf16) (S : St F) (k : Fin (k0_t1_loop i v3).trips) :
    loopSt i v3 k0_hw1 x1 x2 q S (k.val + 1) = trip4 i v3 k0_hw1 x1 x2 q k (loopSt i v3 k0_hw1 x1 x2 q S k.val) := by
  rw [loopSt, dif_pos k.isLt]

/-- The state after the loop. -/
def endSt (i : grid0.Coords) (v3 : BitVec 32) (k0_hw1 : k0_chk1 i v3) (x0 : Vec F S1x256x512 .bf16) (x1 : Vec F S1x16384x256 .bf16) (x2 : Vec F S1x32x128x512 .bf16) : St F :=
  loopSt i v3 k0_hw1 x1 x2 (k0_pay148 x0) (St.start (k0_pay148 x0) (kAt x1 (k0_off2 v3) (k0_off2_inb i v3 k0_hw1))) (k0_t1_loop i v3).trips

/-- A trip of the loop takes its state to the next. -/
theorem trip_loop (c : Dev nD) (i : grid0.Coords) (arg2 : Memref sig .tc .smem S256 .i32) (harg2 : arg2.IsWhole) (arg3 : Memref sig .tc .vmem S1x256x512 .bf16) (harg3 : arg3.IsWhole) (arg4 : Memref sig .tc .vmem S1x16384x256 .bf16) (harg4 : arg4.IsWhole) (arg5 : Memref sig .tc .vmem S1x32x128x512 .bf16) (harg5 : arg5.IsWhole) (arg6 : Memref sig .tc .vmem S512x128 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole) (v3 : Elt F .i32) (k0_hw1 : k0_chk1 i v3) (v5 : FVec F S256x512 .bf16) (x1 : Vec F S1x16384x256 .bf16) (x2 : Vec F S1x32x128x512 .bf16) (k : Fin (k0_t1_loop i v3).trips) (E : Set ℕ) (S : St F) :
    Held c arg4 harg4 arg5 harg5 arg7 arg8 arg9 arg10 arg11 x1 x2 (loopSt i v3 k0_hw1 x1 x2 v5 S k)
    ⊢ wp frame (wpE (defs₀ (F := F)) Variants.none (c : Thread nD τ) none) E (k0_t1_body (F := F) i arg2 harg2 arg3 harg3 arg4 harg4 arg5 harg5 arg6 harg6 arg7 harg7 arg8 harg8 arg9 harg9 arg10 harg10 arg11 harg11 v3 k0_hw1 v5 k ((loopSt i v3 k0_hw1 x1 x2 v5 S k).m, (loopSt i v3 k0_hw1 x1 x2 v5 S k).l))
      (fun y => iprop(⌜y = ((loopSt i v3 k0_hw1 x1 x2 v5 S (k.val + 1)).m, (loopSt i v3 k0_hw1 x1 x2 v5 S (k.val + 1)).l)⌝ ∗ Held c arg4 harg4 arg5 harg5 arg7 arg8 arg9 arg10 arg11 x1 x2 (loopSt i v3 k0_hw1 x1 x2 v5 S (k.val + 1)))) := by
  rw [loopSt_succ]
  exact trip c i arg2 harg2 arg3 harg3 arg4 harg4 arg5 harg5 arg6 harg6 arg7 harg7 arg8 harg8 arg9 harg9 arg10 harg10 arg11 harg11 v3 k0_hw1 v5 x1 x2 k E _

theorem fst_pair {α β : Type*} (a : α) (b : β) : (a, b).1 = a := rfl
theorem snd_pair {α β : Type*} (a : α) (b : β) : (a, b).2 = b := rfl

/-- What the body stores where one block remains. -/
def out1 (i : grid0.Coords) (v3 : BitVec 32) (k0_hw1 : k0_chk1 i v3) (x0 : Vec F S1x256x512 .bf16) (x1 : Vec F S1x16384x256 .bf16) (x2 : Vec F S1x32x128x512 .bf16) : FVec F S512x128 .bf16 :=
  St.fin (vAt x2 (k0_off7 i) (k0_off7_inb i)) (vAt x2 (k0_off8 i) (k0_off8_inb i)) (endSt i v3 k0_hw1 x0 x1 x2)

/-- What the body stores where two blocks remain. -/
def out2 (i : grid0.Coords) (v3 : BitVec 32) (k0_hw1 : k0_chk1 i v3) (x0 : Vec F S1x256x512 .bf16) (x1 : Vec F S1x16384x256 .bf16) (x2 : Vec F S1x32x128x512 .bf16) : FVec F S512x128 .bf16 :=
  St.fin (vAt x2 (k0_off10 i 1#32) (k0_off10_inb i 1)) (vAt x2 (k0_off11 i) (k0_off11_inb i))
    (St.step (k0_pay148 x0) (kAt x1 (k0_off9 i) (k0_off9_inb i)) (vAt x2 (k0_off10 i 0#32) (k0_off10_inb i 0)) (endSt i v3 k0_hw1 x0 x1 x2))

/-- What the body stores where three blocks remain. -/
def out3 (i : grid0.Coords) (v3 : BitVec 32) (k0_hw1 : k0_chk1 i v3) (h : k0_cond3 i v3 = 1#1) (x0 : Vec F S1x256x512 .bf16) (x1 : Vec F S1x16384x256 .bf16) (x2 : Vec F S1x32x128x512 .bf16) : FVec F S512x128 .bf16 :=
  St.fin (vAt x2 (k0_off13 i 2#32) (k0_off13_inb i 2)) (vAt x2 (k0_off14 i) (k0_off14_inb i))
    (St.step (k0_pay148 x0) (kAt x1 (k0_off12 i 1#32) (k0_off12_inb i v3 k0_hw1 h 1)) (vAt x2 (k0_off13 i 1#32) (k0_off13_inb i 1))
      (St.step (k0_pay148 x0) (kAt x1 (k0_off12 i 0#32) (k0_off12_inb i v3 k0_hw1 h 0)) (vAt x2 (k0_off13 i 0#32) (k0_off13_inb i 0)) (endSt i v3 k0_hw1 x0 x1 x2)))

/-- What the body stores where four blocks remain. -/
def out4 (i : grid0.Coords) (v3 : BitVec 32) (k0_hw1 : k0_chk1 i v3) (h : k0_cond4 i v3 = 1#1) (x0 : Vec F S1x256x512 .bf16) (x1 : Vec F S1x16384x256 .bf16) (x2 : Vec F S1x32x128x512 .bf16) : FVec F S512x128 .bf16 :=
  St.fin (vAt x2 (k0_off16 i 3#32) (k0_off16_inb i 3)) (vAt x2 (k0_off17 i) (k0_off17_inb i))
    (St.step (k0_pay148 x0) (kAt x1 (k0_off15 i 2#32) (k0_off15_inb i v3 k0_hw1 h 2)) (vAt x2 (k0_off16 i 2#32) (k0_off16_inb i 2))
      (St.step (k0_pay148 x0) (kAt x1 (k0_off15 i 1#32) (k0_off15_inb i v3 k0_hw1 h 1)) (vAt x2 (k0_off16 i 1#32) (k0_off16_inb i 1))
        (St.step (k0_pay148 x0) (kAt x1 (k0_off15 i 0#32) (k0_off15_inb i v3 k0_hw1 h 0)) (vAt x2 (k0_off16 i 0#32) (k0_off16_inb i 0)) (endSt i v3 k0_hw1 x0 x1 x2))))

set_option sl_exec.resultNames true in
set_option maxHeartbeats 4000000 in
/-- The body where one block remains: it stores `out1`. -/
theorem run1 (c : Dev nD) (i : grid0.Coords) (arg3 : Memref sig .tc .vmem S1x256x512 .bf16) (harg3 : arg3.IsWhole) (arg4 : Memref sig .tc .vmem S1x16384x256 .bf16) (harg4 : arg4.IsWhole) (arg5 : Memref sig .tc .vmem S1x32x128x512 .bf16) (harg5 : arg5.IsWhole) (arg6 : Memref sig .tc .vmem S512x128 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole)
    (x0 : Vec F S1x256x512 .bf16) (x1 : Vec F S1x16384x256 .bf16) (x2 : Vec F S1x32x128x512 .bf16) (xt0 : TbBuf0 (F := F) c tbM0_0) (hc0 : cond0_0 i (tbM0_0.view.readAt (Elt F) (Rect.unit (s := S256) (k0_off1 i) S1.size (k0_off1_inb i)).toLoadRect xt0 (Shape.Idx.first (numel1_S1.symm ▸ Nat.one_pos)))) (hc1 : ¬cond0_1 i (tbM0_0.view.readAt (Elt F) (Rect.unit (s := S256) (k0_off1 i) S1.size (k0_off1_inb i)).toLoadRect xt0 (Shape.Idx.first (numel1_S1.symm ▸ Nat.one_pos)))) (hc2 : ¬cond0_2 i (tbM0_0.view.readAt (Elt F) (Rect.unit (s := S256) (k0_off1 i) S1.size (k0_off1_inb i)).toLoadRect xt0 (Shape.Idx.first (numel1_S1.symm ▸ Nat.one_pos)))) (hc3 : ¬cond0_3 i (tbM0_0.view.readAt (Elt F) (Rect.unit (s := S256) (k0_off1 i) S1.size (k0_off1_inb i)).toLoadRect xt0 (Shape.Idx.first (numel1_S1.symm ▸ Nat.one_pos)))) (k0_hw1 : k0_chk1 i (tbM0_0.view.readAt (Elt F) (Rect.unit (s := S256) (k0_off1 i) S1.size (k0_off1_inb i)).toLoadRect xt0 (Shape.Idx.first (numel1_S1.symm ▸ Nat.one_pos)))) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
      ∗ (iprop(owns (c : Thread nD τ) arg3 fullShare x0 ∗ owns (c : Thread nD τ) arg4 fullShare x1 ∗ owns (c : Thread nD τ) arg5 fullShare x2 ∗ owns (c : Thread nD τ) arg6 fullShare (out1 i (tbM0_0.view.readAt (Elt F) (Rect.unit (s := S256) (k0_off1 i) S1.size (k0_off1_inb i)).toLoadRect xt0 (Shape.Idx.first (numel1_S1.symm ▸ Nat.one_pos))) k0_hw1 x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
    ⊢ wp frame (wpE (defs₀ (F := F)) Variants.none c none) E (cc0_fox_attention i tbM0_0 htbM0_0 arg3 harg3 arg4 harg4 arg5 harg5 arg6 harg6 arg7 harg7 arg8 harg8 arg9 harg9 arg10 harg10 arg11 harg11) K := by
  simp only [cc0_fox_attention_eq_skeleton]; unfold cc0_fox_attention_skel
  simp only [k0_part22_eq_skeleton, k0_part11_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2
  sl_exec (disch := first | sl_exact k0_hw1)
  sl_for (fun k y => iprop(⌜y = ((loopSt i (run1.sl.v3 c i xt0) k0_hw1 x1 x2 (k0_pay148 x0) (St.start (k0_pay148 x0) (kAt x1 (k0_off2 (run1.sl.v3 c i xt0)) (k0_off2_inb i (run1.sl.v3 c i xt0) k0_hw1))) k).m, (loopSt i (run1.sl.v3 c i xt0) k0_hw1 x1 x2 (k0_pay148 x0) (St.start (k0_pay148 x0) (kAt x1 (k0_off2 (run1.sl.v3 c i xt0)) (k0_off2_inb i (run1.sl.v3 c i xt0) k0_hw1))) k).l)⌝ ∗ Held c arg4 harg4 arg5 harg5 arg7 arg8 arg9 arg10 arg11 x1 x2 (loopSt i (run1.sl.v3 c i xt0) k0_hw1 x1 x2 (k0_pay148 x0) (St.start (k0_pay148 x0) (kAt x1 (k0_off2 (run1.sl.v3 c i xt0)) (k0_off2_inb i (run1.sl.v3 c i xt0) k0_hw1))) k))) $$ [H1 H2 HS0 HS1 HS2 HS3 HS4]
  case region =>
    intro k y
    iintro ⟨%hy, H⟩
    subst hy
    have hr : run1.sl.r c arg3 harg3 x0 = k0_pay148 x0 := by
      delta run1.sl.r; simp -proj only [View.readAt_full, load_window, harg3.read_unread]
    delta run1.sl.prog.body_1
    rw [hr]
    exact trip_loop c i tbM0_0 htbM0_0 arg3 harg3 arg4 harg4 arg5 harg5 arg6 harg6 arg7 harg7 arg8 harg8 arg9 harg9 arg10 harg10 arg11 harg11 (run1.sl.v3 c i xt0) k0_hw1 (k0_pay148 x0) x1 x2 k E (St.start (k0_pay148 x0) (kAt x1 (k0_off2 (run1.sl.v3 c i xt0)) (k0_off2_inb i (run1.sl.v3 c i xt0) k0_hw1)))
  · unfold Held
    isplitr; · ipureintro; rfl
    isplitl [H1]; · iexact H1
    isplitl [H2]; · iexact H2
    isplitl [HS0]
    · iexists _; isplitl [HS0]; · iexact HS0
      ipureintro
      (first | delta run1.sl.HS0_1 run1.sl.r | delta run1.sl.HS3_1 | delta run1.sl.HS4_1); simp -proj only [View.readAt_full, View.read_writes_full, View.readCov_full, View.readAt_writes_full, load_window, harg3.read_unread, pay151_eq]; rfl
    isplitl [HS1]; · iexists _; iexact HS1
    isplitl [HS2]; · iexists _; iexact HS2
    isplitl [HS3]
    · iexists _; isplitl [HS3]; · iexact HS3
      ipureintro
      (first | delta run1.sl.HS0_1 run1.sl.r | delta run1.sl.HS3_1 | delta run1.sl.HS4_1); simp -proj only [View.readAt_full, View.read_writes_full, View.readCov_full, View.readAt_writes_full, load_window, harg3.read_unread, pay151_eq]; rfl
    iexists _; isplitl [HS4]; · iexact HS4
    ipureintro
    (first | delta run1.sl.HS0_1 run1.sl.r | delta run1.sl.HS3_1 | delta run1.sl.HS4_1); simp -proj only [View.readAt_full, View.read_writes_full, View.readCov_full, View.readAt_writes_full, load_window, harg3.read_unread, pay151_eq]; rfl
  generalize hS : (loopSt i (run1.sl.v3 c i xt0) k0_hw1 x1 x2 (k0_pay148 x0) (St.start (k0_pay148 x0) (kAt x1 (k0_off2 (run1.sl.v3 c i xt0)) (k0_off2_inb i (run1.sl.v3 c i xt0) k0_hw1))) (Scf.trips (k0_t1_loop i (run1.sl.v3 c i xt0)).lb (k0_t1_loop i (run1.sl.v3 c i xt0)).ub (k0_t1_loop i (run1.sl.v3 c i xt0)).st)) = S
  unfold Held
  iintro %y ⟨%hy, H1, H2, ⟨%g7, HS0, %h7⟩, ⟨%g8, HS1⟩, ⟨%g9, HS2⟩, ⟨%g10, HS3, %h10⟩, ⟨%g11, HS4, %h11⟩⟩
  subst hy
  sl_exec (disch := first | sl_exact hc0 | sl_exact hc1 | sl_exact hc2 | sl_exact hc3 | sl_exact k0_hw1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    refine (View.read_writes_full _ _ _ _ _).trans ?_
    delta run1.sl.HS0_1 run1.sl.HS2_1 run1.sl.HS3_1 run1.sl.HS4_1 run1.sl.HS4_1_1 run1.sl.r run1.sl.r_1 run1.sl.r_2 run1.sl.r_3 run1.sl.v105 run1.sl.v109 run1.sl.v25 run1.sl.v26 run1.sl.v27 run1.sl.v28 run1.sl.v29 run1.sl.v3 run1.sl.v30 run1.sl.v31
    simp -proj only [View.readAt_full, View.read_writes_full, View.readCov_full, View.readAt_writes_full, load_window, fst_pair, snd_pair, harg3.read_unread, h7, h10, h11]
    simp -proj only [pay19_eq, pay28_eq, pay20_eq, pay22_eq, pay25_eq, pay26_eq, pay27_eq, pay29_eq, pay32_eq, pay33_eq, pay34_eq, pay36_eq, pay37_eq, pay40_eq, pay41_eq, pay42_eq, pay151_eq, pay79_eq, pay80_eq, pay1_eq, pay82_eq, pay83_eq, pay84_eq, pay85_eq, pay86_eq, pay87_eq, pay88_eq, pay89_eq, pay92_eq, pay93_eq, pay94_eq, pay3_eq, pay4_eq, pay96_eq, pay97_eq, pay98_eq, pay99_eq, pay100_eq, pay101_eq, pay102_eq, pay103_eq, pay104_eq, pay105_eq, pay107_eq, pay110_eq, pay111_eq, pay112_eq, pay113_eq, pay114_eq, pay115_eq, pay7_eq, pay8_eq, pay9_eq, pay116_eq, pay117_eq, pay118_eq, pay119_eq, pay120_eq, pay121_eq, pay122_eq, pay123_eq, pay124_eq, pay125_eq, pay127_eq, pay130_eq, pay131_eq, pay132_eq, pay133_eq, pay134_eq, pay137_eq, pay138_eq, pay139_eq, pay140_eq, pay145_eq, pay146_eq, pay10_eq]

    repeat erw [View.readCov_full]

    subst hS
    simp -proj only [out1, St.fin, St.step, endSt]
    rfl
  isplitl [HS0]; · iexists _; iexists _; isplitr; swap; · iexact HS0
                   ipureintro; rfl
  isplitl [HS1]; · iexists _; iexists _; isplitr; swap; · iexact HS1
                   ipureintro; rfl
  isplitl [HS2]; · iexists _; iexists _; isplitr; swap; · iexact HS2
                   ipureintro; rfl
  isplitl [HS3]; · iexists _; iexists _; isplitr; swap; · iexact HS3
                   ipureintro; rfl
  isplitl [HS4]; · iexists _; iexists _; isplitr; swap; · iexact HS4
                   ipureintro; rfl
  iexact HT0

set_option sl_exec.resultNames true in
set_option maxHeartbeats 4000000 in
/-- The body where two blocks remain: it stores `out2`. -/
theorem run2 (c : Dev nD) (i : grid0.Coords) (arg3 : Memref sig .tc .vmem S1x256x512 .bf16) (harg3 : arg3.IsWhole) (arg4 : Memref sig .tc .vmem S1x16384x256 .bf16) (harg4 : arg4.IsWhole) (arg5 : Memref sig .tc .vmem S1x32x128x512 .bf16) (harg5 : arg5.IsWhole) (arg6 : Memref sig .tc .vmem S512x128 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole)
    (x0 : Vec F S1x256x512 .bf16) (x1 : Vec F S1x16384x256 .bf16) (x2 : Vec F S1x32x128x512 .bf16) (xt0 : TbBuf0 (F := F) c tbM0_0) (hc0 : ¬cond0_0 i (tbM0_0.view.readAt (Elt F) (Rect.unit (s := S256) (k0_off1 i) S1.size (k0_off1_inb i)).toLoadRect xt0 (Shape.Idx.first (numel1_S1.symm ▸ Nat.one_pos)))) (hc1 : cond0_1 i (tbM0_0.view.readAt (Elt F) (Rect.unit (s := S256) (k0_off1 i) S1.size (k0_off1_inb i)).toLoadRect xt0 (Shape.Idx.first (numel1_S1.symm ▸ Nat.one_pos)))) (hc2 : ¬cond0_2 i (tbM0_0.view.readAt (Elt F) (Rect.unit (s := S256) (k0_off1 i) S1.size (k0_off1_inb i)).toLoadRect xt0 (Shape.Idx.first (numel1_S1.symm ▸ Nat.one_pos)))) (hc3 : ¬cond0_3 i (tbM0_0.view.readAt (Elt F) (Rect.unit (s := S256) (k0_off1 i) S1.size (k0_off1_inb i)).toLoadRect xt0 (Shape.Idx.first (numel1_S1.symm ▸ Nat.one_pos)))) (k0_hw1 : k0_chk1 i (tbM0_0.view.readAt (Elt F) (Rect.unit (s := S256) (k0_off1 i) S1.size (k0_off1_inb i)).toLoadRect xt0 (Shape.Idx.first (numel1_S1.symm ▸ Nat.one_pos)))) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
      ∗ (iprop(owns (c : Thread nD τ) arg3 fullShare x0 ∗ owns (c : Thread nD τ) arg4 fullShare x1 ∗ owns (c : Thread nD τ) arg5 fullShare x2 ∗ owns (c : Thread nD τ) arg6 fullShare (out2 i (tbM0_0.view.readAt (Elt F) (Rect.unit (s := S256) (k0_off1 i) S1.size (k0_off1_inb i)).toLoadRect xt0 (Shape.Idx.first (numel1_S1.symm ▸ Nat.one_pos))) k0_hw1 x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
    ⊢ wp frame (wpE (defs₀ (F := F)) Variants.none c none) E (cc0_fox_attention i tbM0_0 htbM0_0 arg3 harg3 arg4 harg4 arg5 harg5 arg6 harg6 arg7 harg7 arg8 harg8 arg9 harg9 arg10 harg10 arg11 harg11) K := by
  simp only [cc0_fox_attention_eq_skeleton]; unfold cc0_fox_attention_skel
  simp only [k0_part22_eq_skeleton, k0_part12_eq_skeleton, k0_part13_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2
  sl_exec (disch := first | sl_exact k0_hw1)
  sl_for (fun k y => iprop(⌜y = ((loopSt i (run2.sl.v3 c i xt0) k0_hw1 x1 x2 (k0_pay148 x0) (St.start (k0_pay148 x0) (kAt x1 (k0_off2 (run2.sl.v3 c i xt0)) (k0_off2_inb i (run2.sl.v3 c i xt0) k0_hw1))) k).m, (loopSt i (run2.sl.v3 c i xt0) k0_hw1 x1 x2 (k0_pay148 x0) (St.start (k0_pay148 x0) (kAt x1 (k0_off2 (run2.sl.v3 c i xt0)) (k0_off2_inb i (run2.sl.v3 c i xt0) k0_hw1))) k).l)⌝ ∗ Held c arg4 harg4 arg5 harg5 arg7 arg8 arg9 arg10 arg11 x1 x2 (loopSt i (run2.sl.v3 c i xt0) k0_hw1 x1 x2 (k0_pay148 x0) (St.start (k0_pay148 x0) (kAt x1 (k0_off2 (run2.sl.v3 c i xt0)) (k0_off2_inb i (run2.sl.v3 c i xt0) k0_hw1))) k))) $$ [H1 H2 HS0 HS1 HS2 HS3 HS4]
  case region =>
    intro k y
    iintro ⟨%hy, H⟩
    subst hy
    have hr : run2.sl.r c arg3 harg3 x0 = k0_pay148 x0 := by
      delta run2.sl.r; simp -proj only [View.readAt_full, load_window, harg3.read_unread]
    delta run2.sl.prog.body_1
    rw [hr]
    exact trip_loop c i tbM0_0 htbM0_0 arg3 harg3 arg4 harg4 arg5 harg5 arg6 harg6 arg7 harg7 arg8 harg8 arg9 harg9 arg10 harg10 arg11 harg11 (run2.sl.v3 c i xt0) k0_hw1 (k0_pay148 x0) x1 x2 k E (St.start (k0_pay148 x0) (kAt x1 (k0_off2 (run2.sl.v3 c i xt0)) (k0_off2_inb i (run2.sl.v3 c i xt0) k0_hw1)))
  · unfold Held
    isplitr; · ipureintro; rfl
    isplitl [H1]; · iexact H1
    isplitl [H2]; · iexact H2
    isplitl [HS0]
    · iexists _; isplitl [HS0]; · iexact HS0
      ipureintro
      (first | delta run2.sl.HS0_1 run2.sl.r | delta run2.sl.HS3_1 | delta run2.sl.HS4_1); simp -proj only [View.readAt_full, View.read_writes_full, View.readCov_full, View.readAt_writes_full, load_window, harg3.read_unread, pay151_eq]; rfl
    isplitl [HS1]; · iexists _; iexact HS1
    isplitl [HS2]; · iexists _; iexact HS2
    isplitl [HS3]
    · iexists _; isplitl [HS3]; · iexact HS3
      ipureintro
      (first | delta run2.sl.HS0_1 run2.sl.r | delta run2.sl.HS3_1 | delta run2.sl.HS4_1); simp -proj only [View.readAt_full, View.read_writes_full, View.readCov_full, View.readAt_writes_full, load_window, harg3.read_unread, pay151_eq]; rfl
    iexists _; isplitl [HS4]; · iexact HS4
    ipureintro
    (first | delta run2.sl.HS0_1 run2.sl.r | delta run2.sl.HS3_1 | delta run2.sl.HS4_1); simp -proj only [View.readAt_full, View.read_writes_full, View.readCov_full, View.readAt_writes_full, load_window, harg3.read_unread, pay151_eq]; rfl
  generalize hS : (loopSt i (run2.sl.v3 c i xt0) k0_hw1 x1 x2 (k0_pay148 x0) (St.start (k0_pay148 x0) (kAt x1 (k0_off2 (run2.sl.v3 c i xt0)) (k0_off2_inb i (run2.sl.v3 c i xt0) k0_hw1))) (Scf.trips (k0_t1_loop i (run2.sl.v3 c i xt0)).lb (k0_t1_loop i (run2.sl.v3 c i xt0)).ub (k0_t1_loop i (run2.sl.v3 c i xt0)).st)) = S
  unfold Held
  iintro %y ⟨%hy, H1, H2, ⟨%g7, HS0, %h7⟩, ⟨%g8, HS1⟩, ⟨%g9, HS2⟩, ⟨%g10, HS3, %h10⟩, ⟨%g11, HS4, %h11⟩⟩
  subst hy
  sl_exec (disch := first | sl_exact hc0 | sl_exact hc1 | sl_exact hc2 | sl_exact hc3 | sl_exact k0_hw1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    refine (View.read_writes_full _ _ _ _ _).trans ?_
    delta run2.sl.HS0_1 run2.sl.HS1_1 run2.sl.HS2_1 run2.sl.HS3_1 run2.sl.HS3_1_1 run2.sl.HS4_1 run2.sl.HS4_1_1 run2.sl.HS4_2 run2.sl.r run2.sl.r_1 run2.sl.r_2 run2.sl.r_3 run2.sl.r_4 run2.sl.r_5 run2.sl.r_6 run2.sl.r_7 run2.sl.r_8 run2.sl.v117 run2.sl.v119 run2.sl.v141 run2.sl.v148 run2.sl.v152 run2.sl.v25 run2.sl.v26 run2.sl.v27 run2.sl.v28 run2.sl.v29 run2.sl.v3 run2.sl.v30 run2.sl.v31 run2.sl.v66 run2.sl.v67
    simp -proj only [View.readAt_full, View.read_writes_full, View.readCov_full, View.readAt_writes_full, load_window, fst_pair, snd_pair, harg3.read_unread, h7, h10, h11]
    simp -proj only [pay19_eq, pay28_eq, pay20_eq, pay22_eq, pay25_eq, pay26_eq, pay27_eq, pay29_eq, pay32_eq, pay33_eq, pay34_eq, pay36_eq, pay37_eq, pay40_eq, pay41_eq, pay42_eq, pay151_eq, pay79_eq, pay80_eq, pay1_eq, pay82_eq, pay83_eq, pay84_eq, pay85_eq, pay86_eq, pay87_eq, pay88_eq, pay89_eq, pay92_eq, pay93_eq, pay94_eq, pay3_eq, pay4_eq, pay96_eq, pay97_eq, pay98_eq, pay99_eq, pay100_eq, pay101_eq, pay102_eq, pay103_eq, pay104_eq, pay105_eq, pay107_eq, pay110_eq, pay111_eq, pay112_eq, pay113_eq, pay114_eq, pay115_eq, pay7_eq, pay8_eq, pay9_eq, pay116_eq, pay117_eq, pay118_eq, pay119_eq, pay120_eq, pay121_eq, pay122_eq, pay123_eq, pay124_eq, pay125_eq, pay127_eq, pay130_eq, pay131_eq, pay132_eq, pay133_eq, pay134_eq, pay137_eq, pay138_eq, pay139_eq, pay140_eq, pay145_eq, pay146_eq, pay10_eq]

    repeat erw [View.readCov_full]

    subst hS
    simp -proj only [out2, St.fin, St.step, endSt]
    rfl
  isplitl [HS0]; · iexists _; iexists _; isplitr; swap; · iexact HS0
                   ipureintro; rfl
  isplitl [HS1]; · iexists _; iexists _; isplitr; swap; · iexact HS1
                   ipureintro; rfl
  isplitl [HS2]; · iexists _; iexists _; isplitr; swap; · iexact HS2
                   ipureintro; rfl
  isplitl [HS3]; · iexists _; iexists _; isplitr; swap; · iexact HS3
                   ipureintro; rfl
  isplitl [HS4]; · iexists _; iexists _; isplitr; swap; · iexact HS4
                   ipureintro; rfl
  iexact HT0

set_option sl_exec.resultNames true in
set_option maxHeartbeats 4000000 in
/-- The body where three blocks remain: it stores `out3`. -/
theorem run3 (c : Dev nD) (i : grid0.Coords) (arg3 : Memref sig .tc .vmem S1x256x512 .bf16) (harg3 : arg3.IsWhole) (arg4 : Memref sig .tc .vmem S1x16384x256 .bf16) (harg4 : arg4.IsWhole) (arg5 : Memref sig .tc .vmem S1x32x128x512 .bf16) (harg5 : arg5.IsWhole) (arg6 : Memref sig .tc .vmem S512x128 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole)
    (x0 : Vec F S1x256x512 .bf16) (x1 : Vec F S1x16384x256 .bf16) (x2 : Vec F S1x32x128x512 .bf16) (xt0 : TbBuf0 (F := F) c tbM0_0) (hc0 : ¬cond0_0 i (tbM0_0.view.readAt (Elt F) (Rect.unit (s := S256) (k0_off1 i) S1.size (k0_off1_inb i)).toLoadRect xt0 (Shape.Idx.first (numel1_S1.symm ▸ Nat.one_pos)))) (hc1 : ¬cond0_1 i (tbM0_0.view.readAt (Elt F) (Rect.unit (s := S256) (k0_off1 i) S1.size (k0_off1_inb i)).toLoadRect xt0 (Shape.Idx.first (numel1_S1.symm ▸ Nat.one_pos)))) (hc2 : cond0_2 i (tbM0_0.view.readAt (Elt F) (Rect.unit (s := S256) (k0_off1 i) S1.size (k0_off1_inb i)).toLoadRect xt0 (Shape.Idx.first (numel1_S1.symm ▸ Nat.one_pos)))) (hc3 : ¬cond0_3 i (tbM0_0.view.readAt (Elt F) (Rect.unit (s := S256) (k0_off1 i) S1.size (k0_off1_inb i)).toLoadRect xt0 (Shape.Idx.first (numel1_S1.symm ▸ Nat.one_pos)))) (k0_hw1 : k0_chk1 i (tbM0_0.view.readAt (Elt F) (Rect.unit (s := S256) (k0_off1 i) S1.size (k0_off1_inb i)).toLoadRect xt0 (Shape.Idx.first (numel1_S1.symm ▸ Nat.one_pos)))) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
      ∗ (iprop(owns (c : Thread nD τ) arg3 fullShare x0 ∗ owns (c : Thread nD τ) arg4 fullShare x1 ∗ owns (c : Thread nD τ) arg5 fullShare x2 ∗ owns (c : Thread nD τ) arg6 fullShare (out3 i (tbM0_0.view.readAt (Elt F) (Rect.unit (s := S256) (k0_off1 i) S1.size (k0_off1_inb i)).toLoadRect xt0 (Shape.Idx.first (numel1_S1.symm ▸ Nat.one_pos))) k0_hw1 hc2 x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
    ⊢ wp frame (wpE (defs₀ (F := F)) Variants.none c none) E (cc0_fox_attention i tbM0_0 htbM0_0 arg3 harg3 arg4 harg4 arg5 harg5 arg6 harg6 arg7 harg7 arg8 harg8 arg9 harg9 arg10 harg10 arg11 harg11) K := by
  simp only [cc0_fox_attention_eq_skeleton]; unfold cc0_fox_attention_skel
  simp only [k0_part22_eq_skeleton, k0_part14_eq_skeleton, k0_part15_eq_skeleton, k0_part16_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2
  sl_exec (disch := first | sl_exact k0_hw1)
  sl_for (fun k y => iprop(⌜y = ((loopSt i (run3.sl.v3 c i xt0) k0_hw1 x1 x2 (k0_pay148 x0) (St.start (k0_pay148 x0) (kAt x1 (k0_off2 (run3.sl.v3 c i xt0)) (k0_off2_inb i (run3.sl.v3 c i xt0) k0_hw1))) k).m, (loopSt i (run3.sl.v3 c i xt0) k0_hw1 x1 x2 (k0_pay148 x0) (St.start (k0_pay148 x0) (kAt x1 (k0_off2 (run3.sl.v3 c i xt0)) (k0_off2_inb i (run3.sl.v3 c i xt0) k0_hw1))) k).l)⌝ ∗ Held c arg4 harg4 arg5 harg5 arg7 arg8 arg9 arg10 arg11 x1 x2 (loopSt i (run3.sl.v3 c i xt0) k0_hw1 x1 x2 (k0_pay148 x0) (St.start (k0_pay148 x0) (kAt x1 (k0_off2 (run3.sl.v3 c i xt0)) (k0_off2_inb i (run3.sl.v3 c i xt0) k0_hw1))) k))) $$ [H1 H2 HS0 HS1 HS2 HS3 HS4]
  case region =>
    intro k y
    iintro ⟨%hy, H⟩
    subst hy
    have hr : run3.sl.r c arg3 harg3 x0 = k0_pay148 x0 := by
      delta run3.sl.r; simp -proj only [View.readAt_full, load_window, harg3.read_unread]
    delta run3.sl.prog.body_1
    rw [hr]
    exact trip_loop c i tbM0_0 htbM0_0 arg3 harg3 arg4 harg4 arg5 harg5 arg6 harg6 arg7 harg7 arg8 harg8 arg9 harg9 arg10 harg10 arg11 harg11 (run3.sl.v3 c i xt0) k0_hw1 (k0_pay148 x0) x1 x2 k E (St.start (k0_pay148 x0) (kAt x1 (k0_off2 (run3.sl.v3 c i xt0)) (k0_off2_inb i (run3.sl.v3 c i xt0) k0_hw1)))
  · unfold Held
    isplitr; · ipureintro; rfl
    isplitl [H1]; · iexact H1
    isplitl [H2]; · iexact H2
    isplitl [HS0]
    · iexists _; isplitl [HS0]; · iexact HS0
      ipureintro
      (first | delta run3.sl.HS0_1 run3.sl.r | delta run3.sl.HS3_1 | delta run3.sl.HS4_1); simp -proj only [View.readAt_full, View.read_writes_full, View.readCov_full, View.readAt_writes_full, load_window, harg3.read_unread, pay151_eq]; rfl
    isplitl [HS1]; · iexists _; iexact HS1
    isplitl [HS2]; · iexists _; iexact HS2
    isplitl [HS3]
    · iexists _; isplitl [HS3]; · iexact HS3
      ipureintro
      (first | delta run3.sl.HS0_1 run3.sl.r | delta run3.sl.HS3_1 | delta run3.sl.HS4_1); simp -proj only [View.readAt_full, View.read_writes_full, View.readCov_full, View.readAt_writes_full, load_window, harg3.read_unread, pay151_eq]; rfl
    iexists _; isplitl [HS4]; · iexact HS4
    ipureintro
    (first | delta run3.sl.HS0_1 run3.sl.r | delta run3.sl.HS3_1 | delta run3.sl.HS4_1); simp -proj only [View.readAt_full, View.read_writes_full, View.readCov_full, View.readAt_writes_full, load_window, harg3.read_unread, pay151_eq]; rfl
  generalize hS : (loopSt i (run3.sl.v3 c i xt0) k0_hw1 x1 x2 (k0_pay148 x0) (St.start (k0_pay148 x0) (kAt x1 (k0_off2 (run3.sl.v3 c i xt0)) (k0_off2_inb i (run3.sl.v3 c i xt0) k0_hw1))) (Scf.trips (k0_t1_loop i (run3.sl.v3 c i xt0)).lb (k0_t1_loop i (run3.sl.v3 c i xt0)).ub (k0_t1_loop i (run3.sl.v3 c i xt0)).st)) = S
  unfold Held
  iintro %y ⟨%hy, H1, H2, ⟨%g7, HS0, %h7⟩, ⟨%g8, HS1⟩, ⟨%g9, HS2⟩, ⟨%g10, HS3, %h10⟩, ⟨%g11, HS4, %h11⟩⟩
  subst hy
  sl_exec (disch := first | sl_exact hc0 | sl_exact hc1 | sl_exact hc2 | sl_exact hc3 | sl_exact k0_hw1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    refine (View.read_writes_full _ _ _ _ _).trans ?_
    delta run3.sl.HS0_1 run3.sl.HS0_1_1 run3.sl.HS1_1 run3.sl.HS2_1 run3.sl.HS2_2 run3.sl.HS3_1 run3.sl.HS3_1_1 run3.sl.HS4_1 run3.sl.HS4_1_1 run3.sl.HS4_2 run3.sl.HS4_3 run3.sl.r run3.sl.r_1 run3.sl.r_10 run3.sl.r_11 run3.sl.r_12 run3.sl.r_2 run3.sl.r_3 run3.sl.r_4 run3.sl.r_5 run3.sl.r_6 run3.sl.r_7 run3.sl.r_8 run3.sl.r_9 run3.sl.v128 run3.sl.v130 run3.sl.v147 run3.sl.v160 run3.sl.v162 run3.sl.v184 run3.sl.v191 run3.sl.v195 run3.sl.v25 run3.sl.v26 run3.sl.v27 run3.sl.v28 run3.sl.v29 run3.sl.v3 run3.sl.v30 run3.sl.v31 run3.sl.v66 run3.sl.v67
    simp -proj only [View.readAt_full, View.read_writes_full, View.readCov_full, View.readAt_writes_full, load_window, fst_pair, snd_pair, harg3.read_unread, h7, h10, h11]
    simp -proj only [pay19_eq, pay28_eq, pay20_eq, pay22_eq, pay25_eq, pay26_eq, pay27_eq, pay29_eq, pay32_eq, pay33_eq, pay34_eq, pay36_eq, pay37_eq, pay40_eq, pay41_eq, pay42_eq, pay151_eq, pay79_eq, pay80_eq, pay1_eq, pay82_eq, pay83_eq, pay84_eq, pay85_eq, pay86_eq, pay87_eq, pay88_eq, pay89_eq, pay92_eq, pay93_eq, pay94_eq, pay3_eq, pay4_eq, pay96_eq, pay97_eq, pay98_eq, pay99_eq, pay100_eq, pay101_eq, pay102_eq, pay103_eq, pay104_eq, pay105_eq, pay107_eq, pay110_eq, pay111_eq, pay112_eq, pay113_eq, pay114_eq, pay115_eq, pay7_eq, pay8_eq, pay9_eq, pay116_eq, pay117_eq, pay118_eq, pay119_eq, pay120_eq, pay121_eq, pay122_eq, pay123_eq, pay124_eq, pay125_eq, pay127_eq, pay130_eq, pay131_eq, pay132_eq, pay133_eq, pay134_eq, pay137_eq, pay138_eq, pay139_eq, pay140_eq, pay145_eq, pay146_eq, pay10_eq]

    repeat erw [View.readCov_full]

    subst hS
    simp -proj only [out3, St.fin, St.step, endSt]
    rfl
  isplitl [HS0]; · iexists _; iexists _; isplitr; swap; · iexact HS0
                   ipureintro; rfl
  isplitl [HS1]; · iexists _; iexists _; isplitr; swap; · iexact HS1
                   ipureintro; rfl
  isplitl [HS2]; · iexists _; iexists _; isplitr; swap; · iexact HS2
                   ipureintro; rfl
  isplitl [HS3]; · iexists _; iexists _; isplitr; swap; · iexact HS3
                   ipureintro; rfl
  isplitl [HS4]; · iexists _; iexists _; isplitr; swap; · iexact HS4
                   ipureintro; rfl
  iexact HT0

set_option sl_exec.resultNames true in
set_option maxHeartbeats 4000000 in
/-- The body where four blocks remain: it stores `out4`. -/
theorem run4 (c : Dev nD) (i : grid0.Coords) (arg3 : Memref sig .tc .vmem S1x256x512 .bf16) (harg3 : arg3.IsWhole) (arg4 : Memref sig .tc .vmem S1x16384x256 .bf16) (harg4 : arg4.IsWhole) (arg5 : Memref sig .tc .vmem S1x32x128x512 .bf16) (harg5 : arg5.IsWhole) (arg6 : Memref sig .tc .vmem S512x128 .bf16) (harg6 : arg6.IsWhole) (arg7 : Memref sig .tc .vmem S512x512 .f32) (harg7 : arg7.IsWhole) (arg8 : Memref sig .tc .vmem S512x512 .f32) (harg8 : arg8.IsWhole) (arg9 : Memref sig .tc .vmem S512x512 .bf16) (harg9 : arg9.IsWhole) (arg10 : Memref sig .tc .vmem S512x512 .bf16) (harg10 : arg10.IsWhole) (arg11 : Memref sig .tc .vmem S128x512 .f32) (harg11 : arg11.IsWhole)
    (x0 : Vec F S1x256x512 .bf16) (x1 : Vec F S1x16384x256 .bf16) (x2 : Vec F S1x32x128x512 .bf16) (xt0 : TbBuf0 (F := F) c tbM0_0) (hc0 : ¬cond0_0 i (tbM0_0.view.readAt (Elt F) (Rect.unit (s := S256) (k0_off1 i) S1.size (k0_off1_inb i)).toLoadRect xt0 (Shape.Idx.first (numel1_S1.symm ▸ Nat.one_pos)))) (hc1 : ¬cond0_1 i (tbM0_0.view.readAt (Elt F) (Rect.unit (s := S256) (k0_off1 i) S1.size (k0_off1_inb i)).toLoadRect xt0 (Shape.Idx.first (numel1_S1.symm ▸ Nat.one_pos)))) (hc2 : ¬cond0_2 i (tbM0_0.view.readAt (Elt F) (Rect.unit (s := S256) (k0_off1 i) S1.size (k0_off1_inb i)).toLoadRect xt0 (Shape.Idx.first (numel1_S1.symm ▸ Nat.one_pos)))) (hc3 : cond0_3 i (tbM0_0.view.readAt (Elt F) (Rect.unit (s := S256) (k0_off1 i) S1.size (k0_off1_inb i)).toLoadRect xt0 (Shape.Idx.first (numel1_S1.symm ▸ Nat.one_pos)))) (k0_hw1 : k0_chk1 i (tbM0_0.view.readAt (Elt F) (Rect.unit (s := S256) (k0_off1 i) S1.size (k0_off1_inb i)).toLoadRect xt0 (Shape.Idx.first (numel1_S1.symm ▸ Nat.one_pos)))) (E : Set ℕ) (K : PUnit → sProp 𝕄) :
    iprop(owns (c : Thread nD τ) arg3 fullShare x0 ∗ owns (c : Thread nD τ) arg4 fullShare x1 ∗ owns (c : Thread nD τ) arg5 fullShare x2 ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0
      ∗ (iprop(owns (c : Thread nD τ) arg3 fullShare x0 ∗ owns (c : Thread nD τ) arg4 fullShare x1 ∗ owns (c : Thread nD τ) arg5 fullShare x2 ∗ owns (c : Thread nD τ) arg6 fullShare (out4 i (tbM0_0.view.readAt (Elt F) (Rect.unit (s := S256) (k0_off1 i) S1.size (k0_off1_inb i)).toLoadRect xt0 (Shape.Idx.first (numel1_S1.symm ▸ Nat.one_pos))) k0_hw1 hc3 x0 x1 x2) ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ tbPt0 c tbM0_0 xt0) -∗ K ⟨⟩))
    ⊢ wp frame (wpE (defs₀ (F := F)) Variants.none c none) E (cc0_fox_attention i tbM0_0 htbM0_0 arg3 harg3 arg4 harg4 arg5 harg5 arg6 harg6 arg7 harg7 arg8 harg8 arg9 harg9 arg10 harg10 arg11 harg11) K := by
  simp only [cc0_fox_attention_eq_skeleton]; unfold cc0_fox_attention_skel
  simp only [k0_part22_eq_skeleton, k0_part17_eq_skeleton, k0_part18_eq_skeleton, k0_part19_eq_skeleton, k0_part20_eq_skeleton, k0_part21_eq_skeleton]
  unfold owns
  iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, ⟨%ds4, %fs4, -, HS4⟩, HT0, Hk⟩
  obtain rfl := harg3.eq_unread hf0; obtain rfl := harg4.eq_unread hf1; obtain rfl := harg5.eq_unread hf2
  sl_exec (disch := first | sl_exact k0_hw1)
  sl_for (fun k y => iprop(⌜y = ((loopSt i (run4.sl.v3 c i xt0) k0_hw1 x1 x2 (k0_pay148 x0) (St.start (k0_pay148 x0) (kAt x1 (k0_off2 (run4.sl.v3 c i xt0)) (k0_off2_inb i (run4.sl.v3 c i xt0) k0_hw1))) k).m, (loopSt i (run4.sl.v3 c i xt0) k0_hw1 x1 x2 (k0_pay148 x0) (St.start (k0_pay148 x0) (kAt x1 (k0_off2 (run4.sl.v3 c i xt0)) (k0_off2_inb i (run4.sl.v3 c i xt0) k0_hw1))) k).l)⌝ ∗ Held c arg4 harg4 arg5 harg5 arg7 arg8 arg9 arg10 arg11 x1 x2 (loopSt i (run4.sl.v3 c i xt0) k0_hw1 x1 x2 (k0_pay148 x0) (St.start (k0_pay148 x0) (kAt x1 (k0_off2 (run4.sl.v3 c i xt0)) (k0_off2_inb i (run4.sl.v3 c i xt0) k0_hw1))) k))) $$ [H1 H2 HS0 HS1 HS2 HS3 HS4]
  case region =>
    intro k y
    iintro ⟨%hy, H⟩
    subst hy
    have hr : run4.sl.r c arg3 harg3 x0 = k0_pay148 x0 := by
      delta run4.sl.r; simp -proj only [View.readAt_full, load_window, harg3.read_unread]
    delta run4.sl.prog.body_1
    rw [hr]
    exact trip_loop c i tbM0_0 htbM0_0 arg3 harg3 arg4 harg4 arg5 harg5 arg6 harg6 arg7 harg7 arg8 harg8 arg9 harg9 arg10 harg10 arg11 harg11 (run4.sl.v3 c i xt0) k0_hw1 (k0_pay148 x0) x1 x2 k E (St.start (k0_pay148 x0) (kAt x1 (k0_off2 (run4.sl.v3 c i xt0)) (k0_off2_inb i (run4.sl.v3 c i xt0) k0_hw1)))
  · unfold Held
    isplitr; · ipureintro; rfl
    isplitl [H1]; · iexact H1
    isplitl [H2]; · iexact H2
    isplitl [HS0]
    · iexists _; isplitl [HS0]; · iexact HS0
      ipureintro
      (first | delta run4.sl.HS0_1 run4.sl.r | delta run4.sl.HS3_1 | delta run4.sl.HS4_1); simp -proj only [View.readAt_full, View.read_writes_full, View.readCov_full, View.readAt_writes_full, load_window, harg3.read_unread, pay151_eq]; rfl
    isplitl [HS1]; · iexists _; iexact HS1
    isplitl [HS2]; · iexists _; iexact HS2
    isplitl [HS3]
    · iexists _; isplitl [HS3]; · iexact HS3
      ipureintro
      (first | delta run4.sl.HS0_1 run4.sl.r | delta run4.sl.HS3_1 | delta run4.sl.HS4_1); simp -proj only [View.readAt_full, View.read_writes_full, View.readCov_full, View.readAt_writes_full, load_window, harg3.read_unread, pay151_eq]; rfl
    iexists _; isplitl [HS4]; · iexact HS4
    ipureintro
    (first | delta run4.sl.HS0_1 run4.sl.r | delta run4.sl.HS3_1 | delta run4.sl.HS4_1); simp -proj only [View.readAt_full, View.read_writes_full, View.readCov_full, View.readAt_writes_full, load_window, harg3.read_unread, pay151_eq]; rfl
  generalize hS : (loopSt i (run4.sl.v3 c i xt0) k0_hw1 x1 x2 (k0_pay148 x0) (St.start (k0_pay148 x0) (kAt x1 (k0_off2 (run4.sl.v3 c i xt0)) (k0_off2_inb i (run4.sl.v3 c i xt0) k0_hw1))) (Scf.trips (k0_t1_loop i (run4.sl.v3 c i xt0)).lb (k0_t1_loop i (run4.sl.v3 c i xt0)).ub (k0_t1_loop i (run4.sl.v3 c i xt0)).st)) = S
  unfold Held
  iintro %y ⟨%hy, H1, H2, ⟨%g7, HS0, %h7⟩, ⟨%g8, HS1⟩, ⟨%g9, HS2⟩, ⟨%g10, HS3, %h10⟩, ⟨%g11, HS4, %h11⟩⟩
  subst hy
  sl_exec (disch := first | sl_exact hc0 | sl_exact hc1 | sl_exact hc2 | sl_exact hc3 | sl_exact k0_hw1)
  sl_step
  iapply Hk
  isplitl [H0]; · iexists _; isplitr; · ipureintro; exact hf0
                  iexact H0
  isplitl [H1]; · iexists _; isplitr; · ipureintro; exact hf1
                  iexact H1
  isplitl [H2]; · iexists _; isplitr; · ipureintro; exact hf2
                  iexact H2
  isplitl [H3]
  · iexists _; isplitr; swap; · iexact H3
    ipureintro
    refine (View.read_writes_full _ _ _ _ _).trans ?_
    delta run4.sl.HS0_1 run4.sl.HS0_1_1 run4.sl.HS1_1 run4.sl.HS1_2 run4.sl.HS2_1 run4.sl.HS2_2 run4.sl.HS3_1 run4.sl.HS3_1_1 run4.sl.HS3_2 run4.sl.HS4_1 run4.sl.HS4_1_1 run4.sl.HS4_2 run4.sl.HS4_3 run4.sl.HS4_4 run4.sl.r run4.sl.r_1 run4.sl.r_10 run4.sl.r_11 run4.sl.r_12 run4.sl.r_2 run4.sl.r_3 run4.sl.r_4 run4.sl.r_5 run4.sl.r_6 run4.sl.r_7 run4.sl.r_8 run4.sl.r_9 run4.sl.v128 run4.sl.v130 run4.sl.v147 run4.sl.v171 run4.sl.v173 run4.sl.v190 run4.sl.v203 run4.sl.v205 run4.sl.v227 run4.sl.v234 run4.sl.v238 run4.sl.v243 run4.sl.v25 run4.sl.v26 run4.sl.v27 run4.sl.v28 run4.sl.v29 run4.sl.v3 run4.sl.v30 run4.sl.v31 run4.sl.v66 run4.sl.v67
    simp -proj only [View.readAt_full, View.read_writes_full, View.readCov_full, View.readAt_writes_full, load_window, fst_pair, snd_pair, harg3.read_unread, h7, h10, h11]
    simp -proj only [pay19_eq, pay28_eq, pay20_eq, pay22_eq, pay25_eq, pay26_eq, pay27_eq, pay29_eq, pay32_eq, pay33_eq, pay34_eq, pay36_eq, pay37_eq, pay40_eq, pay41_eq, pay42_eq, pay151_eq, pay79_eq, pay80_eq, pay1_eq, pay82_eq, pay83_eq, pay84_eq, pay85_eq, pay86_eq, pay87_eq, pay88_eq, pay89_eq, pay92_eq, pay93_eq, pay94_eq, pay3_eq, pay4_eq, pay96_eq, pay97_eq, pay98_eq, pay99_eq, pay100_eq, pay101_eq, pay102_eq, pay103_eq, pay104_eq, pay105_eq, pay107_eq, pay110_eq, pay111_eq, pay112_eq, pay113_eq, pay114_eq, pay115_eq, pay7_eq, pay8_eq, pay9_eq, pay116_eq, pay117_eq, pay118_eq, pay119_eq, pay120_eq, pay121_eq, pay122_eq, pay123_eq, pay124_eq, pay125_eq, pay127_eq, pay130_eq, pay131_eq, pay132_eq, pay133_eq, pay134_eq, pay137_eq, pay138_eq, pay139_eq, pay140_eq, pay145_eq, pay146_eq, pay10_eq]

    repeat erw [View.readCov_full]

    subst hS
    simp -proj only [out4, St.fin, St.step, endSt]
    rfl
  isplitl [HS0]; · iexists _; iexists _; isplitr; swap; · iexact HS0
                   ipureintro; rfl
  isplitl [HS1]; · iexists _; iexists _; isplitr; swap; · iexact HS1
                   ipureintro; rfl
  isplitl [HS2]; · iexists _; iexists _; isplitr; swap; · iexact HS2
                   ipureintro; rfl
  isplitl [HS3]; · iexists _; iexists _; isplitr; swap; · iexact HS3
                   ipureintro; rfl
  isplitl [HS4]; · iexists _; iexists _; isplitr; swap; · iexact HS4
                   ipureintro; rfl
  iexact HT0

end Cert.Kernel13Ideal.Attn

end
-- ==== Proof.AttnIFrame.lean ====
module

public import proofs.«01_k».proof.Proof.AttnIRun
public import Idealize.ShloMosaic.Lib.Claim

@[expose] public section

set_option maxRecDepth 16384

noncomputable section

namespace Cert.Kernel13Ideal.Attn

open Cert.Kernel13Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the output's staging buffer holds after the body at point `t`. -/
def outsAt0 (hO : Ok m) (hH : Hyps m) (c : Dev nD) (t : Fin (cfgM m hO).N) : Vec F S512x128 .bf16 :=
  if cond0_0 (grid0.coords t) (wordAt m t) then out1 (grid0.coords t) (wordAt m t) (hH t).1 (iblk m hO c 0 t) (iblk m hO c 1 t) (iblk m hO c 2 t)
  else if cond0_1 (grid0.coords t) (wordAt m t) then out2 (grid0.coords t) (wordAt m t) (hH t).1 (iblk m hO c 0 t) (iblk m hO c 1 t) (iblk m hO c 2 t)
  else if h : cond0_2 (grid0.coords t) (wordAt m t) then out3 (grid0.coords t) (wordAt m t) (hH t).1 h (iblk m hO c 0 t) (iblk m hO c 1 t) (iblk m hO c 2 t)
  else if h : cond0_3 (grid0.coords t) (wordAt m t) then out4 (grid0.coords t) (wordAt m t) (hH t).1 h (iblk m hO c 0 t) (iblk m hO c 1 t) (iblk m hO c 2 t)
  else out1 (grid0.coords t) (wordAt m t) (hH t).1 (iblk m hO c 0 t) (iblk m hO c 1 t) (iblk m hO c 2 t)

/-- What each window holds: the arrays at the start, and after each point the inputs their blocks and the output `outsAt0`. -/
def dats (hO : Ok m) (hH : Hyps m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => (outsAt0 m hO hH c t)
  Φ _ := iprop(Pipeline.ΦA spec0 c ∗ Pipeline.ΦT pre0 (tbl m) c)
  q _ := fullShare
  owed _ := 0

theorem A_eq (hO : Ok m) (hH : Hyps m) (c : Dev nD) (w : Fin (cfgM m hO).W) : (dats m hO hH 0 c).A w = V m c (Pipeline.arrRef spec0 w) := by
  dsimp only [dats]

theorem after0_0 (hO : Ok m) (hH : Hyps m) (c : Dev nD) (t : Fin (cfgM m hO).N) : (dats m hO hH 0 c).after 0 t = iblk m hO c 0 t := by dsimp only [dats]; try rfl
theorem after0_1 (hO : Ok m) (hH : Hyps m) (c : Dev nD) (t : Fin (cfgM m hO).N) : (dats m hO hH 0 c).after 1 t = iblk m hO c 1 t := by dsimp only [dats]; try rfl
theorem after0_2 (hO : Ok m) (hH : Hyps m) (c : Dev nD) (t : Fin (cfgM m hO).N) : (dats m hO hH 0 c).after 2 t = iblk m hO c 2 t := by dsimp only [dats]; try rfl
theorem after0_3 (hO : Ok m) (hH : Hyps m) (c : Dev nD) (t : Fin (cfgM m hO).N) : (dats m hO hH 0 c).after 3 t = (outsAt0 m hO hH c t) := by dsimp only [dats]; try rfl

theorem before0_0 (hO : Ok m) (hH : Hyps m) (c : Dev nD) (t : Fin (cfgM m hO).N) (d) : (dats m hO hH 0 c).before 0 t d = iblk m hO c 0 t :=
  before0_0_of m hO (dats m hO hH 0 c) (A_eq m hO hH c 0) (after0_0 m hO hH c) t d
theorem before0_1 (hO : Ok m) (hH : Hyps m) (c : Dev nD) (t : Fin (cfgM m hO).N) (d) : (dats m hO hH 0 c).before 1 t d = iblk m hO c 1 t :=
  before0_1_of m hO (dats m hO hH 0 c) (A_eq m hO hH c 1) (after0_1 m hO hH c) t d
theorem before0_2 (hO : Ok m) (hH : Hyps m) (c : Dev nD) (t : Fin (cfgM m hO).N) (d) : (dats m hO hH 0 c).before 2 t d = iblk m hO c 2 t :=
  before0_2_of m hO (dats m hO hH 0 c) (A_eq m hO hH c 2) (after0_2 m hO hH c) t d

/-- What the body is given at point `t`. -/
def bodyPre (hO : Ok m) (hH : Hyps m) (c : Dev nD) (t : Fin (cfgM m hO).N) : sProp 𝕄 :=
  iprop((dats m hO hH 0 c).Φ t.castSucc ∗ (dats m hO hH 0 c).owesAt () t.castSucc
    ∗ (∃ d, owns (c : Thread nD τ) (ms0_0 m hO t) fullShare ((dats m hO hH 0 c).before 0 t d))
    ∗ (∃ d, owns (c : Thread nD τ) (ms0_1 m hO t) fullShare ((dats m hO hH 0 c).before 1 t d))
    ∗ (∃ d, owns (c : Thread nD τ) (ms0_2 m hO t) fullShare ((dats m hO hH 0 c).before 2 t d))
    ∗ (∃ d, owns (c : Thread nD τ) (ms0_3 m hO t) fullShare ((dats m hO hH 0 c).before 3 t d)))

/-- What the body gives back at point `t`. -/
def bodyPost (hO : Ok m) (hH : Hyps m) (c : Dev nD) (t : Fin (cfgM m hO).N) : sProp 𝕄 :=
  iprop((dats m hO hH 0 c).Φ t.succ ∗ (dats m hO hH 0 c).owesAt () t.succ
    ∗ owns (c : Thread nD τ) (ms0_0 m hO t) fullShare ((dats m hO hH 0 c).after 0 t)
    ∗ owns (c : Thread nD τ) (ms0_1 m hO t) fullShare ((dats m hO hH 0 c).after 1 t)
    ∗ owns (c : Thread nD τ) (ms0_2 m hO t) fullShare ((dats m hO hH 0 c).after 2 t)
    ∗ owns (c : Thread nD τ) (ms0_3 m hO t) fullShare ((dats m hO hH 0 c).after 3 t))

set_option maxHeartbeats 12800000 in
/-- The body at any point, by which of its conditionals is taken. -/
theorem sound_body (hO : Ok m) (hH : Hyps m) (c : Dev nD) (t : Fin (cfgM m hO).N) :
    bodyPre m hO hH c t ⊢ wp frame (wpE (defs₀ (F := F)) Variants.none c none) Set.univ (bodyAt0 (adm m hO) t) (fun _ => bodyPost m hO hH c t) := by
  unfold bodyPre bodyPost bodyAt0
  simp only [before0_0, before0_1, before0_2]
  rw [show (dats m hO hH 0 c).Φ t.succ = (dats m hO hH 0 c).Φ t.castSucc from rfl,
    show (dats m hO hH 0 c).owesAt () t.succ = (dats m hO hH 0 c).owesAt () t.castSucc from rfl,
    after0_0, after0_1, after0_2, after0_3]
  rw [show (dats m hO hH 0 c).Φ t.castSucc = iprop(Pipeline.ΦA spec0 c ∗ Pipeline.ΦT pre0 (tbl m) c) from rfl, PhiT0_eq, PhiA0_eq]
  iintro ⟨⟨⟨⟨HS0, HS1, HS2, HS3, HS4⟩, Hg⟩, HT0⟩, Ho, ⟨%d0, H0⟩, ⟨%d1, H1⟩, ⟨%d2, H2⟩, ⟨%d3, H3⟩⟩
  rcases (hH t).2 with ⟨h0, h1, h2, h3⟩ | ⟨h0, h1, h2, h3⟩ | ⟨h0, h1, h2, h3⟩ | ⟨h0, h1, h2, h3⟩
  · rw [show outsAt0 m hO hH c t = _ from if_pos h0]
    iapply (run1 c (grid0.coords t) _ _ _ _ _ _ _ _ _ _ _ _ _ _ _ _ _ _ (iblk m hO c 0 t) (iblk m hO c 1 t) (iblk m hO c 2 t) (tbl m 0) h0 h1 h2 h3 (hH t).1 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, HS0, HS1, HS2, HS3, HS4, HT0⟩
    isplitl [HS0 HS1 HS2 HS3 HS4 Hg HT0]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT0
    isplitl [Ho]; · iexact Ho
    isplitl [H0]; · iexact H0
    isplitl [H1]; · iexact H1
    isplitl [H2]; · iexact H2
    iexact H3
  · rw [show outsAt0 m hO hH c t = _ from (if_neg h0).trans (if_pos h1)]
    iapply (run2 c (grid0.coords t) _ _ _ _ _ _ _ _ _ _ _ _ _ _ _ _ _ _ (iblk m hO c 0 t) (iblk m hO c 1 t) (iblk m hO c 2 t) (tbl m 0) h0 h1 h2 h3 (hH t).1 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, HS0, HS1, HS2, HS3, HS4, HT0⟩
    isplitl [HS0 HS1 HS2 HS3 HS4 Hg HT0]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT0
    isplitl [Ho]; · iexact Ho
    isplitl [H0]; · iexact H0
    isplitl [H1]; · iexact H1
    isplitl [H2]; · iexact H2
    iexact H3
  · rw [show outsAt0 m hO hH c t = _ from (if_neg h0).trans ((if_neg h1).trans (dif_pos h2))]
    iapply (run3 c (grid0.coords t) _ _ _ _ _ _ _ _ _ _ _ _ _ _ _ _ _ _ (iblk m hO c 0 t) (iblk m hO c 1 t) (iblk m hO c 2 t) (tbl m 0) h0 h1 h2 h3 (hH t).1 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, HS0, HS1, HS2, HS3, HS4, HT0⟩
    isplitl [HS0 HS1 HS2 HS3 HS4 Hg HT0]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT0
    isplitl [Ho]; · iexact Ho
    isplitl [H0]; · iexact H0
    isplitl [H1]; · iexact H1
    isplitl [H2]; · iexact H2
    iexact H3
  · rw [show outsAt0 m hO hH c t = _ from (if_neg h0).trans ((if_neg h1).trans ((dif_neg h2).trans (dif_pos h3)))]
    iapply (run4 c (grid0.coords t) _ _ _ _ _ _ _ _ _ _ _ _ _ _ _ _ _ _ (iblk m hO c 0 t) (iblk m hO c 1 t) (iblk m hO c 2 t) (tbl m 0) h0 h1 h2 h3 (hH t).1 Set.univ _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [HS4]; · iexact HS4
    isplitl [HT0]; · iexact HT0
    iintro ⟨H0, H1, H2, H3, HS0, HS1, HS2, HS3, HS4, HT0⟩
    isplitl [HS0 HS1 HS2 HS3 HS4 Hg HT0]
    · isplitl [HS0 HS1 HS2 HS3 HS4 Hg]
      · isplitl [HS0 HS1 HS2 HS3 HS4]
        · isplitl [HS0]; · iexact HS0
          isplitl [HS1]; · iexact HS1
          isplitl [HS2]; · iexact HS2
          isplitl [HS3]; · iexact HS3
          iexact HS4
        iexact Hg
      iexact HT0
    isplitl [Ho]; · iexact Ho
    isplitl [H0]; · iexact H0
    isplitl [H1]; · iexact H1
    isplitl [H2]; · iexact H2
    iexact H3

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The body at every point, as the launch asks. -/
theorem body_obligation (hO : Ok m) (hH : Hyps m) (c : Dev nD) : BodyObligation (dats (F := F) m hO hH 0 c) (defs₀ (F := F)) Variants.none () Set.univ := fun t => by
  rw [bigSep_W0, bigSep_W0, defs₀_row m hO]
  refine triple_restated (sound_body m hO hH c t) rfl .rfl fun _ => ?_
  unfold bodyPost
  refine sep_mono .rfl (sep_mono .rfl (sep_mono .rfl (sep_mono .rfl (sep_mono .rfl ?_))))
  dsimp only
  split
  · split
    · next h => exact absurd (h.symm.trans (flush0_3 (adm m hO) t)) (by decide)
    · exact .rfl
  · exact .rfl

set_option backward.isDefEq.respectTransparency.types false in
theorem run_main_quiescent (hO : Ok m) (hH : Hyps m) : θ_run defs (onTc (τ := τ) (main (F := F))) (s₀ m ρ) (fun r => (Pipeline.FramePost (Pipeline.pin pcfgs fun _ => adm m hO) (dats m hO hH) 0 (V m)) r ∧ r.2.sem = fun _ => 0) :=
  Pipeline.θ_run_frameP (Q' := _) pcfgs (fun _ => adm m hO) (dats m hO hH) (0 : Fin 1) launch0 defs₀ Variants.none m ρ main
    (hbody := fun c => (body_obligation m hO hH c).loose) (hshare := fun c => (dats m hO hH 0 c).share_full fun _ => rfl)
    (howed := fun _ _ => rfl) (V := V m) (hmain := hmain m Variants.none) (hA := A_eq m hO hH) (hpf := V_pre m)
    (hΦ := fun _ _ => rfl)

/-- The launch ends with the arrays as the proof data says. -/
theorem run_main (hO : Ok m) (hH : Hyps m) : θ_run defs (onTc (τ := τ) (main (F := F))) (s₀ m ρ) (Pipeline.FramePost (Pipeline.pin pcfgs fun _ => adm m hO) (dats m hO hH) 0 (V m)) :=
  (θ_run defs _ _).mono (fun _ h => h.1) (run_main_quiescent m ρ hO hH)

/-- The arguments end unchanged. -/
theorem unchanged (hO : Ok m) (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ hO (dats m hO hH) (A_eq m hO hH) (run_main m ρ hO hH)

/-- The launch ends, its arguments unchanged and every counter at zero. -/
theorem frame (hO : Ok m) (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ hO hH) ((θ_run defs _ _).mono (fun _ h => h.2) (run_main_quiescent m ρ hO hH))

end Cert.Kernel13Ideal.Attn

end
-- ==== Proof.AttnBPoints.lean ====
/- The kernel's checks over the grid: with the first block anywhere from zero to the query's own block, every load lies
   inside its array and exactly one conditional is taken. They do not depend on the head, so head zero is evaluated. -/
module

public import proofs.«01_k».proof.Proof.AttnBBase
public import Idealize.ShloMosaic.Lib.Decide

@[expose] public section

set_option maxRecDepth 100000

namespace Cert.Kernel13.Attn
open Cert.Kernel13.Gen
open Idealize.ShloMosaic

/-- The grid point of head `h` and query block `n`. -/
def crd (h : Fin 8) (n : Fin 32) : grid0.Coords := fun a => match a with | ⟨0, _⟩ => h | ⟨1, _⟩ => n

theorem chk_head (h : Fin 8) (n : Fin 32) (v : BitVec 32) : k0_chk1 (crd h n) v = k0_chk1 (crd 0 n) v := rfl
theorem one_head (h : Fin 8) (n : Fin 32) (v : BitVec 32) : OneOf (crd h n) v = OneOf (crd 0 n) v := rfl

set_option maxHeartbeats 0 in
theorem points0 : ∀ n : Fin 32, ∀ j : Fin 32, j.val ≤ n.val → OneOf (crd 0 n) (BitVec.ofNat 32 j.val) := by
  decide +kernel

set_option maxHeartbeats 0 in
set_option synthInstance.maxSize 1000000 in set_option synthInstance.maxHeartbeats 0 in
theorem points : ∀ n : Fin 32, ∀ j : Fin 32, j.val ≤ n.val → k0_chk1 (crd 0 n) (BitVec.ofNat 32 j.val) := by
  decide +kernel

end Cert.Kernel13.Attn

end
-- ==== Proof.AttnIPoints.lean ====
/- The kernel's checks over the grid: with the first block anywhere from zero to the query's own block, every load lies
   inside its array and exactly one conditional is taken. They do not depend on the head, so head zero is evaluated. -/
module

public import proofs.«01_k».proof.Proof.AttnIBase
public import Idealize.ShloMosaic.Lib.Decide

@[expose] public section

set_option maxRecDepth 100000

namespace Cert.Kernel13Ideal.Attn
open Cert.Kernel13Ideal.Gen
open Idealize.ShloMosaic

/-- The grid point of head `h` and query block `n`. -/
def crd (h : Fin 8) (n : Fin 32) : grid0.Coords := fun a => match a with | ⟨0, _⟩ => h | ⟨1, _⟩ => n

theorem chk_head (h : Fin 8) (n : Fin 32) (v : BitVec 32) : k0_chk1 (crd h n) v = k0_chk1 (crd 0 n) v := rfl
theorem one_head (h : Fin 8) (n : Fin 32) (v : BitVec 32) : OneOf (crd h n) v = OneOf (crd 0 n) v := rfl

set_option maxHeartbeats 0 in
theorem points0 : ∀ n : Fin 32, ∀ j : Fin 32, j.val ≤ n.val → OneOf (crd 0 n) (BitVec.ofNat 32 j.val) := by
  decide +kernel

set_option maxHeartbeats 0 in
set_option synthInstance.maxSize 1000000 in set_option synthInstance.maxHeartbeats 0 in
theorem points : ∀ n : Fin 32, ∀ j : Fin 32, j.val ≤ n.val → k0_chk1 (crd 0 n) (BitVec.ofNat 32 j.val) := by
  decide +kernel

end Cert.Kernel13Ideal.Attn

end
-- ==== Proof.Part13.lean ====
/- The attention's run: the precondition puts each query block's first key block between 0 and the query block itself, so
   the body's checks hold at every grid point, the run ends and its arguments are what they were. -/
module

public import proofs.«01_k».proof.Defs
public import proofs.«01_k».proof.Proof.AttnBFrame
public import proofs.«01_k».proof.Proof.AttnIFrame
public import proofs.«01_k».proof.Proof.AttnBPoints
public import proofs.«01_k».proof.Proof.AttnIPoints
public import proofs.«01_k».proof.Proof.Gen.Pre_first_in_range
public import Idealize.ShloMosaic.Lib.StableHlo.Predicate
public import Idealize.ShloMosaic.Lib.Pipeline.Value

@[expose] public section

set_option maxRecDepth 16384

noncomputable section

namespace Cert.Proof.Attn

open Idealize.ShloMosaic Idealize.ShloMosaic.TcCoe Idealize.SL.Sem

/-- A word between zero and a small number, both as signed numbers, is one of the numbers up to it. -/
theorem word_between (w : BitVec 32) (n : ℕ) (hn : n < 32)
    (h : IntOp.cmpi .sge w 0#32 &&& IntOp.cmpi .sle w (BitVec.ofNat 32 n) = 1#1) :
    ∃ j : Fin 32, j.val ≤ n ∧ w = BitVec.ofNat 32 j.val := by
  have hand : ∀ a b : BitVec 1, a &&& b = 1#1 → a = 1#1 ∧ b = 1#1 := by decide
  obtain ⟨h0, h1⟩ := hand _ _ h
  have e0 : (0#32).sle w = true := (StableHlo.Predicate.ofBool_eq_one_iff _).1 h0
  have e1 : w.sle (BitVec.ofNat 32 n) = true := (StableHlo.Predicate.ofBool_eq_one_iff _).1 h1
  rw [BitVec.sle, decide_eq_true_eq] at e0 e1
  rw [StableHlo.Predicate.toInt_ofNat_small n (by omega)] at e1
  have z : (0#32).toInt = 0 := by decide
  rw [z] at e0
  have hw := w.isLt
  rw [BitVec.toInt_eq_toNat_cond] at e0 e1
  have hle : w.toNat ≤ n := by split at e0 <;> split at e1 <;> omega
  exact ⟨⟨w.toNat, by omega⟩, hle, by simp⟩

/-- Where the table is read for head `h` and query block `n`. -/
def at_ (h : Fin 8) (n : Fin 32) : Cert.Pre_first_in_range.S256.Idx := fun a => match a with | ⟨0, _⟩ => ⟨h.val * 32 + n.val, by
  show h.val * 32 + n.val < 256
  omega⟩

/-- What the precondition says of the entry for head `h` and query block `n`. -/
theorem entry {F : FTy → Type} [FloatOps F] (a0 : FVec F Cert.Pre_first_in_range.S16384x4096 .bf16)
    (a1 : FVec F Cert.Pre_first_in_range.S16384x384 .bf16) (a2 : IVec Cert.Pre_first_in_range.S256 32)
    (hp : Cert.Pre_first_in_range.fn a0 a1 a2 = fun _ => 1#1) (h : Fin 8) (n : Fin 32) :
    ∃ j : Fin 32, j.val ≤ n.val ∧ a2 (at_ h n) = BitVec.ofNat 32 j.val := by
  have e := congrFun hp (StableHlo.Predicate.ij h n)
  simp only [Cert.Pre_first_in_range.fn, andi, cmpi] at e
  rw [StableHlo.Predicate.bcast_cols, StableHlo.Predicate.iota_apply,
    StableHlo.Predicate.bcast_scalar _ (by decide),
    shapeCast_apply a2 _ (StableHlo.Predicate.ij h n) (at_ h n)
      (by rw [Shape.rowMajor_val_one, Shape.rowMajor_val_two]; rfl)] at e
  exact word_between _ n.val n.isLt e

end Cert.Proof.Attn

namespace Cert.Kernel13.Attn

open Cert.Kernel13.Gen
open Idealize.ShloMosaic Idealize.ShloMosaic.TcCoe Idealize.SL.Sem

theorem coords_eq (i : grid0.Coords) : i = crd (i 0) (i 1) := by
  funext a
  match a with
  | ⟨0, _⟩ => rfl
  | ⟨1, _⟩ => rfl

theorem off_val : ∀ (h : Fin 8) (n : Fin 32), k0_off1 (crd h n) 0 = h.val * 32 + n.val := by decide +kernel

theorem read_at {F : FTy → Type} [FloatOps F] (m : (ℓ : Loc nD τ sig) → Buf (Elt F) ℓ) (t : Fin grid0.N) (h : Fin 8) (n : Fin 32)
    (ht : grid0.coords t = crd h n) :
    wordAt m t = (show IVec S256 32 from m (((0 : Dev nD).tc : Thread nD τ).loc main_arg2)) (Cert.Proof.Attn.at_ h n) := by
  have e : tbl m 0 = m (((0 : Dev nD).tc : Thread nD τ).loc main_arg2) := V_main_arg2 m 0
  unfold wordAt
  rw [e]
  refine congrArg (show IVec S256 32 from m (((0 : Dev nD).tc : Thread nD τ).loc main_arg2)) (funext fun a => Fin.ext ?_)
  match a with
  | ⟨0, _⟩ =>
    have o := off_val h n
    rw [← ht] at o
    show k0_off1 (grid0.coords t) 0 + _ = h.val * 32 + n.val
    rw [o]
    rfl

theorem hyps_of {F : FTy → Type} [FloatOps F] (m : (ℓ : Loc nD τ sig) → Buf (Elt F) ℓ)
    (hp : Cert.Pre_first_in_range.fn (F := F) (m (((0 : Dev nD).tc : Thread nD τ).loc main_arg0)) (m (((0 : Dev nD).tc : Thread nD τ).loc main_arg1)) (m (((0 : Dev nD).tc : Thread nD τ).loc main_arg2)) = fun _ => 1#1) :
    Hyps m := by
  intro t
  obtain ⟨h, n, hc⟩ : ∃ (h : Fin 8) (n : Fin 32), grid0.coords t = crd h n := ⟨_, _, coords_eq _⟩
  obtain ⟨j, hj, e⟩ := Cert.Proof.Attn.entry _ _ _ hp h n
  have w : wordAt m t = BitVec.ofNat 32 j.val := (read_at m t h n hc).trans e
  rw [w, hc, chk_head, one_head]
  exact ⟨points n j hj, points0 n j hj⟩

end Cert.Kernel13.Attn

namespace Cert.Kernel13Ideal.Attn

open Cert.Kernel13Ideal.Gen
open Idealize.ShloMosaic Idealize.ShloMosaic.TcCoe Idealize.SL.Sem

theorem coords_eq (i : grid0.Coords) : i = crd (i 0) (i 1) := by
  funext a
  match a with
  | ⟨0, _⟩ => rfl
  | ⟨1, _⟩ => rfl

theorem off_val : ∀ (h : Fin 8) (n : Fin 32), k0_off1 (crd h n) 0 = h.val * 32 + n.val := by decide +kernel

theorem read_at {F : FTy → Type} [FloatOps F] (m : (ℓ : Loc nD τ sig) → Buf (Elt F) ℓ) (t : Fin grid0.N) (h : Fin 8) (n : Fin 32)
    (ht : grid0.coords t = crd h n) :
    wordAt m t = (show IVec S256 32 from m (((0 : Dev nD).tc : Thread nD τ).loc main_arg2)) (Cert.Proof.Attn.at_ h n) := by
  have e : tbl m 0 = m (((0 : Dev nD).tc : Thread nD τ).loc main_arg2) := V_main_arg2 m 0
  unfold wordAt
  rw [e]
  refine congrArg (show IVec S256 32 from m (((0 : Dev nD).tc : Thread nD τ).loc main_arg2)) (funext fun a => Fin.ext ?_)
  match a with
  | ⟨0, _⟩ =>
    have o := off_val h n
    rw [← ht] at o
    show k0_off1 (grid0.coords t) 0 + _ = h.val * 32 + n.val
    rw [o]
    rfl

theorem hyps_of {F : FTy → Type} [FloatOps F] (m : (ℓ : Loc nD τ sig) → Buf (Elt F) ℓ)
    (hp : Cert.Pre_first_in_range.fn (F := F) (m (((0 : Dev nD).tc : Thread nD τ).loc main_arg0)) (m (((0 : Dev nD).tc : Thread nD τ).loc main_arg1)) (m (((0 : Dev nD).tc : Thread nD τ).loc main_arg2)) = fun _ => 1#1) :
    Hyps m := by
  intro t
  obtain ⟨h, n, hc⟩ : ∃ (h : Fin 8) (n : Fin 32), grid0.coords t = crd h n := ⟨_, _, coords_eq _⟩
  obtain ⟨j, hj, e⟩ := Cert.Proof.Attn.entry _ _ _ hp h n
  have w : wordAt m t = BitVec.ofNat 32 j.val := (read_at m t h n hc).trans e
  rw [w, hc, chk_head, one_head]
  exact ⟨points n j hj, points0 n j hj⟩

end Cert.Kernel13Ideal.Attn

namespace Cert.Proof.Attn

theorem frame_k : Cert.quiescent_Kernel13 := fun m ρ h =>
  Cert.Kernel13.Attn.frame m ρ trivial (Cert.Kernel13.Attn.hyps_of m (h 0))
theorem frame_ki : Cert.quiescent_Kernel13Ideal := fun m ρ h =>
  Cert.Kernel13Ideal.Attn.frame m ρ trivial (Cert.Kernel13Ideal.Attn.hyps_of m (h 0))

theorem preserves : Cert.preserves_Kernel13_Kernel13Ideal := trivial

end Cert.Proof.Attn

end
-- ==== Proof.lean ====
/- The proof of the claim: the first program's in Proof/Split.lean, the others' each in a module of its own. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Reference
public import proofs.«01_k».proof.Proof.Gen.Kernel.Value
public import proofs.«01_k».proof.Proof.Gen.Reference.Run
public import proofs.«01_k».proof.Proof.Gen.KernelIdeal.Value
public import proofs.«01_k».proof.Proof.Gen.ReferenceIdeal.Run
public import proofs.«01_k».proof.Proof.Split
public import proofs.«01_k».proof.Proof.Part2
public import proofs.«01_k».proof.Proof.Part3
public import proofs.«01_k».proof.Proof.Part4
public import proofs.«01_k».proof.Proof.Part5
public import proofs.«01_k».proof.Proof.Part6
public import proofs.«01_k».proof.Proof.Part7
public import proofs.«01_k».proof.Proof.Part8
public import proofs.«01_k».proof.Proof.Part13
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Reference.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel13.Gen.facts, Cert.Kernel13Ideal.Gen.facts, Cert.Pre_first_in_range.Gen.facts,
  Split.frame_k,
  Split.frame_ki,
  Split.frame_ri,
  Split.frame_r,
  FfnAct.frame_k,
  FfnAct.frame_ki,
  FfnAct.frame_ri,
  Resid3.frame_k,
  Resid3.frame_ki,
  Resid3.frame_ri,
  Resid4.frame_k,
  Resid4.frame_ki,
  Resid4.frame_ri,
  InProj.frame_k,
  InProj.frame_ki,
  InProj.frame_ri,
  Merge.frame_k,
  Merge.frame_ki,
  Merge.frame_ri,
  Ple.frame_k,
  Ple.frame_ki,
  Ple.frame_ri,
  FinalNorm.frame_k,
  FinalNorm.frame_ki,
  FinalNorm.frame_ri,
  Attn.frame_k,
  Attn.frame_ki,
  Split.preserves,
  Split.algebraic,
  Split.bitexact,
  FfnAct.preserves,
  FfnAct.algebraic,
  Resid3.preserves,
  Resid3.algebraic,
  Resid4.preserves,
  Resid4.algebraic,
  InProj.preserves,
  InProj.algebraic,
  Merge.preserves,
  Merge.algebraic,
  Ple.preserves,
  Ple.algebraic,
  FinalNorm.preserves,
  FinalNorm.algebraic,
  Attn.preserves⟩

end Cert.Proof

end
